-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid [hPre_valid : Cert.Pre_valid.Facts] (m : (ℓ : Loc Cert.KernelIdeal.nD Cert.KernelIdeal.τ Cert.KernelIdeal.sig) → Buf (Elt Ideal) ℓ) : Prop :=
  ∀ c : Dev Cert.KernelIdeal.nD,
    (Cert.Pre_valid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid [hPre_valid : Cert.Pre_valid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_valid [hKernelIdeal : Cert.KernelIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_valid [hReferenceIdeal : Cert.ReferenceIdeal.Facts] [hPre_valid : Cert.Pre_valid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "softcap_log2e" .f32 0x422D1F97#32 ((30 * (Real.log 2)⁻¹ : ℝ) : EReal)
  ∧ IdealRules.named_const.Statement Cert.KernelIdeal.κ "ln2" .f32 0x3F317218#32 ((Real.log 2 : ℝ) : EReal)
  ∧ IdealRules.named_const.Statement Cert.KernelIdeal.κ "ln2_sq" .f32 0x3EF5FDF0#32 (((Real.log 2) * (Real.log 2) : ℝ) : EReal)

def algebraic_KernelIdeal_ReferenceIdeal_pre_valid [hKernelIdeal : Cert.KernelIdeal.Facts] [hReferenceIdeal : Cert.ReferenceIdeal.Facts] [hPre_valid : Cert.Pre_valid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_valid : Cert.Pre_valid.Facts),
    quiescent_Kernel (hKernel := hKernel)
    ∧ quiescent_KernelIdeal (hKernelIdeal := hKernelIdeal)
    ∧ quiescent_KernelIdeal_pre_valid (hKernelIdeal := hKernelIdeal) (hPre_valid := hPre_valid)
    ∧ quiescent_ReferenceIdeal (hReferenceIdeal := hReferenceIdeal)
    ∧ quiescent_ReferenceIdeal_pre_valid (hReferenceIdeal := hReferenceIdeal) (hPre_valid := hPre_valid)
    ∧ preserves_Kernel_KernelIdeal
    ∧ algebraic_KernelIdeal_ReferenceIdeal_pre_valid (hKernelIdeal := hKernelIdeal) (hReferenceIdeal := hReferenceIdeal) (hPre_valid := hPre_valid)
-- ==== Pre_valid.lean ====
abbrev S8x512x4096 : Shape := ⟨3, ![8, 512, 4096]⟩
abbrev S8x512 : Shape := ⟨2, ![8, 512]⟩
abbrev S32000x4096 : Shape := ⟨2, ![32000, 4096]⟩
abbrev S32000 : Shape := ⟨1, ![32000]⟩
abbrev S8x512x7 : Shape := ⟨3, ![8, 512, 7]⟩
abbrev S_ : Shape := ⟨0, ![]⟩
abbrev S8x512x1 : Shape := ⟨3, ![8, 512, 1]⟩

class Facts : Prop where
  bcast_S_S8x512x7 : S_.BroadcastsInDim S8x512x7 (![] : Fin 0 → Fin S8x512x7.rank)
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x7_0_1_2 : S8x512x1.BroadcastsInDim S8x512x7 (![0, 1, 2] : Fin 3 → Fin S8x512x7.rank)

variable [Facts]

def fn {F : FTy → Type} [FloatOps F] (main_arg0 : FVec F S8x512x4096 .fp8e4m3) (main_arg1 : FVec F S8x512 .f32) (main_arg2 : FVec F S32000x4096 .fp8e4m3) (main_arg3 : FVec F S32000 .f32) (main_arg4 : IVec S8x512x7 32) (main_arg5 : FVec F S8x512 .f32) : IVec S8x512x7 1 :=
  let main_c : IVec S_ 32 := constantI S_ 32 0#32
  let main_v0 : IVec S8x512x7 32 := broadcastInDim S8x512x7 ![] bcast_S_S8x512x7 main_c
  let main_v1 : IVec S8x512x7 1 := cmpi .sge main_arg4 main_v0
  let main_c_0 : IVec S_ 32 := constantI S_ 32 32000#32
  let main_v2 : IVec S8x512x7 32 := broadcastInDim S8x512x7 ![] bcast_S_S8x512x7 main_c_0
  let main_v3 : IVec S8x512x7 1 := cmpi .slt main_arg4 main_v2
  let main_v4 : IVec S8x512x7 1 := andi main_v1 main_v3
  let main_cst : FVec F S_ .f32 := constant S_ .f32 0x00000000#32
  let main_v5 : FVec F S8x512 .f32 := broadcastInDim S8x512 ![] bcast_S_S8x512 main_cst
  let main_v6 : IVec S8x512 1 := cmpf .une main_arg5 main_v5
  let main_v7 : IVec S8x512x1 1 := broadcastInDim S8x512x1 ![0, 1] bcast_S8x512_S8x512x1_0_1 main_v6
  let main_v8 : IVec S8x512x7 1 := broadcastInDim S8x512x7 ![0, 1, 2] bcast_S8x512x1_S8x512x7_0_1_2 main_v7
  let main_v9 : IVec S8x512x7 1 := andi main_v4 main_v8
  main_v9
-- ==== Kernel.lean ====
abbrev S8x512x4096 : Shape := ⟨3, ![8, 512, 4096]⟩
abbrev S8x512 : Shape := ⟨2, ![8, 512]⟩
abbrev S32000x4096 : Shape := ⟨2, ![32000, 4096]⟩
abbrev S32000 : Shape := ⟨1, ![32000]⟩
abbrev S8x512x7 : Shape := ⟨3, ![8, 512, 7]⟩
abbrev S8x7x512 : Shape := ⟨3, ![8, 7, 512]⟩
abbrev S_ : Shape := ⟨0, ![]⟩
abbrev S8x8x512 : Shape := ⟨3, ![8, 8, 512]⟩
abbrev S1280x4096 : Shape := ⟨2, ![1280, 4096]⟩
abbrev S1280x512 : Shape := ⟨2, ![1280, 512]⟩
abbrev S2x1280x128 : Shape := ⟨3, ![2, 1280, 128]⟩
abbrev S9x8x512 : Shape := ⟨3, ![9, 8, 512]⟩
abbrev S1x512 : Shape := ⟨2, ![1, 512]⟩
abbrev S1x8x512 : Shape := ⟨3, ![1, 8, 512]⟩
abbrev S128 : Shape := ⟨1, ![128]⟩
abbrev S1x128 : Shape := ⟨2, ![1, 128]⟩
abbrev S128x128 : Shape := ⟨2, ![128, 128]⟩
abbrev S1x128x128 : Shape := ⟨3, ![1, 128, 128]⟩
abbrev S1x512x4096 : Shape := ⟨3, ![1, 512, 4096]⟩
abbrev S512x4096 : Shape := ⟨2, ![512, 4096]⟩
abbrev S1x8x128 : Shape := ⟨3, ![1, 8, 128]⟩
abbrev S8x128 : Shape := ⟨2, ![8, 128]⟩
abbrev S16x8x128 : Shape := ⟨3, ![16, 8, 128]⟩
abbrev S8x128x1 : Shape := ⟨3, ![8, 128, 1]⟩
abbrev S512 : Shape := ⟨1, ![512]⟩
abbrev S8x512x8 : Shape := ⟨3, ![8, 512, 8]⟩

abbrev nBuf : Space → Nat
  | .hbm => 15
  | .vmem => 20
  | .smem => 0
  | _ => 0

abbrev bufTy : (tb : Table) → Fin (tcTables nBuf tb) → BufTy
  | .hbm, ⟨0, _⟩ => ⟨S8x512x4096, .fp8e4m3⟩
  | .hbm, ⟨1, _⟩ => ⟨S8x512, .f32⟩
  | .hbm, ⟨2, _⟩ => ⟨S32000x4096, .fp8e4m3⟩
  | .hbm, ⟨3, _⟩ => ⟨S32000, .f32⟩
  | .hbm, ⟨4, _⟩ => ⟨S8x512x7, .i32⟩
  | .hbm, ⟨5, _⟩ => ⟨S8x512, .f32⟩
  | .hbm, ⟨6, _⟩ => ⟨S8x7x512, .i32⟩
  | .hbm, ⟨7, _⟩ => ⟨S_, .i32⟩
  | .hbm, ⟨8, _⟩ => ⟨S_, .i32⟩
  | .hbm, ⟨9, _⟩ => ⟨S8x8x512, .i32⟩
  | .hbm, ⟨10, _⟩ => ⟨S8x512, .f32⟩
  | .hbm, ⟨11, _⟩ => ⟨S8x512, .f32⟩
  | .hbm, ⟨12, _⟩ => ⟨S8x8x512, .f32⟩
  | .hbm, ⟨13, _⟩ => ⟨S8x512x8, .f32⟩
  | .hbm, ⟨14, _⟩ => ⟨S8x512x7, .f32⟩
  | .local _ .vmem, ⟨0, _⟩ => ⟨S8x512x4096, .fp8e4m3⟩
  | .local _ .vmem, ⟨1, _⟩ => ⟨S8x512, .f32⟩
  | .local _ .vmem, ⟨2, _⟩ => ⟨S1280x4096, .fp8e4m3⟩
  | .local _ .vmem, ⟨3, _⟩ => ⟨S1280x4096, .fp8e4m3⟩
  | .local _ .vmem, ⟨4, _⟩ => ⟨S32000, .f32⟩
  | .local _ .vmem, ⟨5, _⟩ => ⟨S8x8x512, .i32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x8x512, .f32⟩
  | .local _ .vmem, ⟨10, _⟩ => ⟨S1280x512, .f32⟩
  | .local _ .vmem, ⟨11, _⟩ => ⟨S1280x512, .f32⟩
  | .local _ .vmem, ⟨12, _⟩ => ⟨S2x1280x128, .f32⟩
  | .local _ .vmem, ⟨13, _⟩ => ⟨S8x8x512, .f32⟩
  | .local _ .vmem, ⟨14, _⟩ => ⟨S8x8x512, .f32⟩
  | .local _ .vmem, ⟨15, _⟩ => ⟨S9x8x512, .f32⟩
  | .local _ .vmem, ⟨16, _⟩ => ⟨S9x8x512, .f32⟩
  | .local _ .vmem, ⟨17, _⟩ => ⟨S9x8x512, .f32⟩
  | .local _ .vmem, ⟨18, _⟩ => ⟨S9x8x512, .f32⟩
  | .local _ .vmem, ⟨19, _⟩ => ⟨S9x8x512, .f32⟩
  | _, _ => ⟨S8x512x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![25], ![false]⟩

def k0_mult1 (i : grid0.Coords) : BitVec 32 :=
  let arg0 : BitVec 32 := BitVec.ofNat 32 (i 0).val
  let c1280_i32 : BitVec 32 := 1280#32
  let v4 : BitVec 32 := Scalar.muli arg0 c1280_i32
  let c0_i32_1 : BitVec 32 := 0#32
  let v5 : BitVec 32 := Scalar.addi v4 c0_i32_1
  v5
def k0_off1 (i : grid0.Coords) (c0_i32_1 : BitVec 32) : Fin 1 → Nat :=
  let arg0 : BitVec 32 := BitVec.ofNat 32 (i 0).val
  let c1280_i32 : BitVec 32 := 1280#32
  let v4 : BitVec 32 := Scalar.muli arg0 c1280_i32
  let v5 : BitVec 32 := Scalar.addi v4 c0_i32_1
  let v6 : BitVec 32 := v5
  let v7 : Index := Scalar.indexCast v6
  ![v7.toNat]
def k0_off2 (i : grid0.Coords) : Fin 3 → Nat :=
  let arg0 : BitVec 32 := BitVec.ofNat 32 (i 0).val
  let c2_i32 : BitVec 32 := 2#32
  let v3 : BitVec 32 := Scalar.remsi arg0 c2_i32
  let v13 : Index := Scalar.indexCast v3
  let c0 : Index := 0#32
  let c0_2 : Index := 0#32
  ![v13.toNat, 0, 0]
def k0_mult2 (i : grid0.Coords) : BitVec 32 :=
  let arg0 : BitVec 32 := BitVec.ofNat 32 (i 0).val
  let c1280_i32_3 : BitVec 32 := 1280#32
  let v17 : BitVec 32 := Scalar.muli arg0 c1280_i32_3
  let c128_i32 : BitVec 32 := 128#32
  let v18 : BitVec 32 := Scalar.addi v17 c128_i32
  v18
def k0_off3 (i : grid0.Coords) : Fin 3 → Nat :=
  let arg0 : BitVec 32 := BitVec.ofNat 32 (i 0).val
  let c2_i32 : BitVec 32 := 2#32
  let v3 : BitVec 32 := Scalar.remsi arg0 c2_i32
  let v26 : Index := Scalar.indexCast v3
  let c128 : Index := 128#32
  let c0_4 : Index := 0#32
  ![v26.toNat, 128, 0]
def k0_mult3 (i : grid0.Coords) : BitVec 32 :=
  let arg0 : BitVec 32 := BitVec.ofNat 32 (i 0).val
  let c1280_i32_5 : BitVec 32 := 1280#32
  let v30 : BitVec 32 := Scalar.muli arg0 c1280_i32_5
  let c256_i32 : BitVec 32 := 256#32
  let v31 : BitVec 32 := Scalar.addi v30 c256_i32
  v31
def k0_off4 (i : grid0.Coords) : Fin 3 → Nat :=
  let arg0 : BitVec 32 := BitVec.ofNat 32 (i 0).val
  let c2_i32 : BitVec 32 := 2#32
  let v3 : BitVec 32 := Scalar.remsi arg0 c2_i32
  let v39 : Index := Scalar.indexCast v3
  let c256 : Index := 256#32
  let c0_6 : Index := 0#32
  ![v39.toNat, 256, 0]
def k0_mult4 (i : grid0.Coords) : BitVec 32 :=
  let arg0 : BitVec 32 := BitVec.ofNat 32 (i 0).val
  let c1280_i32_7 : BitVec 32 := 1280#32
  let v43 : BitVec 32 := Scalar.muli arg0 c1280_i32_7
  let c384_i32 : BitVec 32 := 384#32
  let v44 : BitVec 32 := Scalar.addi v43 c384_i32
  v44
def k0_off5 (i : grid0.Coords) : Fin 3 → Nat :=
  let arg0 : BitVec 32 := BitVec.ofNat 32 (i 0).val
  let c2_i32 : BitVec 32 := 2#32
  let v3 : BitVec 32 := Scalar.remsi arg0 c2_i32
  let v52 : Index := Scalar.indexCast v3
  let c384 : Index := 384#32
  let c0_8 : Index := 0#32
  ![v52.toNat, 384, 0]
def k0_mult5 (i : grid0.Coords) : BitVec 32 :=
  let arg0 : BitVec 32 := BitVec.ofNat 32 (i 0).val
  let c1280_i32_9 : BitVec 32 := 1280#32
  let v56 : BitVec 32 := Scalar.muli arg0 c1280_i32_9
  let c512_i32 : BitVec 32 := 512#32
  let v57 : BitVec 32 := Scalar.addi v56 c512_i32
  v57
def k0_off6 (i : grid0.Coords) : Fin 3 → Nat :=
  let arg0 : BitVec 32 := BitVec.ofNat 32 (i 0).val
  let c2_i32 : BitVec 32 := 2#32
  let v3 : BitVec 32 := Scalar.remsi arg0 c2_i32
  let v65 : Index := Scalar.indexCast v3
  let c512 : Index := 512#32
  let c0_10 : Index := 0#32
  ![v65.toNat, 512, 0]
def k0_mult6 (i : grid0.Coords) : BitVec 32 :=
  let arg0 : BitVec 32 := BitVec.ofNat 32 (i 0).val
  let c1280_i32_11 : BitVec 32 := 1280#32
  let v69 : BitVec 32 := Scalar.muli arg0 c1280_i32_11
  let c640_i32 : BitVec 32 := 640#32
  let v70 : BitVec 32 := Scalar.addi v69 c640_i32
  v70
def k0_off7 (i : grid0.Coords) : Fin 3 → Nat :=
  let arg0 : BitVec 32 := BitVec.ofNat 32 (i 0).val
  let c2_i32 : BitVec 32 := 2#32
  let v3 : BitVec 32 := Scalar.remsi arg0 c2_i32
  let v78 : Index := Scalar.indexCast v3
  let c640 : Index := 640#32
  let c0_12 : Index := 0#32
  ![v78.toNat, 640, 0]
def k0_mult7 (i : grid0.Coords) : BitVec 32 :=
  let arg0 : BitVec 32 := BitVec.ofNat 32 (i 0).val
  let c1280_i32_13 : BitVec 32 := 1280#32
  let v82 : BitVec 32 := Scalar.muli arg0 c1280_i32_13
  let c768_i32 : BitVec 32 := 768#32
  let v83 : BitVec 32 := Scalar.addi v82 c768_i32
  v83
def k0_off8 (i : grid0.Coords) : Fin 3 → Nat :=
  let arg0 : BitVec 32 := BitVec.ofNat 32 (i 0).val
  let c2_i32 : BitVec 32 := 2#32
  let v3 : BitVec 32 := Scalar.remsi arg0 c2_i32
  let v91 : Index := Scalar.indexCast v3
  let c768 : Index := 768#32
  let c0_14 : Index := 0#32
  ![v91.toNat, 768, 0]
def k0_mult8 (i : grid0.Coords) : BitVec 32 :=
  let arg0 : BitVec 32 := BitVec.ofNat 32 (i 0).val
  let c1280_i32_15 : BitVec 32 := 1280#32
  let v95 : BitVec 32 := Scalar.muli arg0 c1280_i32_15
  let c896_i32 : BitVec 32 := 896#32
  let v96 : BitVec 32 := Scalar.addi v95 c896_i32
  v96
def k0_off9 (i : grid0.Coords) : Fin 3 → Nat :=
  let arg0 : BitVec 32 := BitVec.ofNat 32 (i 0).val
  let c2_i32 : BitVec 32 := 2#32
  let v3 : BitVec 32 := Scalar.remsi arg0 c2_i32
  let v104 : Index := Scalar.indexCast v3
  let c896 : Index := 896#32
  let c0_16 : Index := 0#32
  ![v104.toNat, 896, 0]
def k0_mult9 (i : grid0.Coords) : BitVec 32 :=
  let arg0 : BitVec 32 := BitVec.ofNat 32 (i 0).val
  let c1280_i32_17 : BitVec 32 := 1280#32
  let v108 : BitVec 32 := Scalar.muli arg0 c1280_i32_17
  let c1024_i32 : BitVec 32 := 1024#32
  let v109 : BitVec 32 := Scalar.addi v108 c1024_i32
  v109
def k0_off10 (i : grid0.Coords) : Fin 3 → Nat :=
  let arg0 : BitVec 32 := BitVec.ofNat 32 (i 0).val
  let c2_i32 : BitVec 32 := 2#32
  let v3 : BitVec 32 := Scalar.remsi arg0 c2_i32
  let v117 : Index := Scalar.indexCast v3
  let c1024 : Index := 1024#32
  let c0_18 : Index := 0#32
  ![v117.toNat, 1024, 0]
def k0_mult10 (i : grid0.Coords) : BitVec 32 :=
  let arg0 : BitVec 32 := BitVec.ofNat 32 (i 0).val
  let c1280_i32_19 : BitVec 32 := 1280#32
  let v121 : BitVec 32 := Scalar.muli arg0 c1280_i32_19
  let c1152_i32 : BitVec 32 := 1152#32
  let v122 : BitVec 32 := Scalar.addi v121 c1152_i32
  v122
def k0_off11 (i : grid0.Coords) : Fin 3 → Nat :=
  let arg0 : BitVec 32 := BitVec.ofNat 32 (i 0).val
  let c2_i32 : BitVec 32 := 2#32
  let v3 : BitVec 32 := Scalar.remsi arg0 c2_i32
  let v130 : Index := Scalar.indexCast v3
  let c1152 : Index := 1152#32
  let c0_20 : Index := 0#32
  ![v130.toNat, 1152, 0]
@[reducible] def k0_t1_loop : Scf.Loop 32 :=
  let c0_i32_21 : BitVec 32 := 0#32
  let c4_i32 : BitVec 32 := 4#32
  let v134 : BitVec 32 := Scalar.addi c0_i32_21 c4_i32
  let c1_i32 : BitVec 32 := 1#32
  ⟨c0_i32_21, v134, c1_i32⟩
def k0_off12 (k0_t1 : Fin k0_t1_loop.trips) : Fin 3 → Nat :=
  let c2_i32_24 : BitVec 32 := 2#32
  let c0_i32_21 : BitVec 32 := 0#32
  let c1_i32 : BitVec 32 := 1#32
  let arg20 : BitVec 32 := Scf.iv c0_i32_21 c1_i32 k0_t1
  let v138 : BitVec 32 := Scalar.muli c2_i32_24 arg20
  let v148 : Index := Scalar.indexCast v138
  let c0_31 : Index := 0#32
  let c0_32 : Index := 0#32
  ![v148.toNat, 0, 0]
def k0_off13 (k0_t1 : Fin k0_t1_loop.trips) : Fin 3 → Nat :=
  let c0_i32_21 : BitVec 32 := 0#32
  let c1_i32 : BitVec 32 := 1#32
  let arg20 : BitVec 32 := Scf.iv c0_i32_21 c1_i32 k0_t1
  let c0_i32_25 : BitVec 32 := 0#32
  let v139 : BitVec 1 := Scalar.cmpi .eq arg20 c0_i32_25
  let c7_i32 : BitVec 32 := 7#32
  let c2_i32_24 : BitVec 32 := 2#32
  let v138 : BitVec 32 := Scalar.muli c2_i32_24 arg20
  let c1_i32_27 : BitVec 32 := 1#32
  let v142 : BitVec 32 := Scalar.subi v138 c1_i32_27
  let v143 : BitVec 32 := Scalar.select v139 c7_i32 v142
  let v157 : Index := Scalar.indexCast v143
  let c0_37 : Index := 0#32
  let c0_38 : Index := 0#32
  ![v157.toNat, 0, 0]
def k0_off14 (i : grid0.Coords) (k0_t1 : Fin k0_t1_loop.trips) : Fin 3 → Nat :=
  let c0_i32_21 : BitVec 32 := 0#32
  let c1_i32 : BitVec 32 := 1#32
  let arg20 : BitVec 32 := Scf.iv c0_i32_21 c1_i32 k0_t1
  let c0_i32_25 : BitVec 32 := 0#32
  let v139 : BitVec 1 := Scalar.cmpi .eq arg20 c0_i32_25
  let arg0 : BitVec 32 := BitVec.ofNat 32 (i 0).val
  let c0_i32_28 : BitVec 32 := 0#32
  let v144 : BitVec 1 := Scalar.cmpi .eq arg0 c0_i32_28
  let v145 : BitVec 1 := Scalar.andi v139 v144
  let c8_i32 : BitVec 32 := 8#32
  let c7_i32 : BitVec 32 := 7#32
  let c2_i32_24 : BitVec 32 := 2#32
  let v138 : BitVec 32 := Scalar.muli c2_i32_24 arg20
  let c1_i32_27 : BitVec 32 := 1#32
  let v142 : BitVec 32 := Scalar.subi v138 c1_i32_27
  let v143 : BitVec 32 := Scalar.select v139 c7_i32 v142
  let v146 : BitVec 32 := Scalar.select v145 c8_i32 v143
  let v173 : Index := Scalar.indexCast v146
  let c0_45 : Index := 0#32
  let c0_46 : Index := 0#32
  ![v173.toNat, 0, 0]
def k0_off15 (i : grid0.Coords) (k0_t1 : Fin k0_t1_loop.trips) : Fin 3 → Nat :=
  let c0_i32_21 : BitVec 32 := 0#32
  let c1_i32 : BitVec 32 := 1#32
  let arg20 : BitVec 32 := Scf.iv c0_i32_21 c1_i32 k0_t1
  let c0_i32_25 : BitVec 32 := 0#32
  let v139 : BitVec 1 := Scalar.cmpi .eq arg20 c0_i32_25
  let arg0 : BitVec 32 := BitVec.ofNat 32 (i 0).val
  let c1_i32_26 : BitVec 32 := 1#32
  let v140 : BitVec 32 := Scalar.subi arg0 c1_i32_26
  let v141 : BitVec 32 := Scalar.select v139 v140 arg0
  let c2_i32_35 : BitVec 32 := 2#32
  let v155 : BitVec 32 := Scalar.addi v141 c2_i32_35
  let c2_i32_36 : BitVec 32 := 2#32
  let v156 : BitVec 32 := Scalar.remsi v155 c2_i32_36
  let v190 : Index := Scalar.indexCast v156
  let c0_57 : Index := 0#32
  let c0_58 : Index := 0#32
  ![v190.toNat, 0, 0]
def k0_off16 (i : grid0.Coords) (k0_t1 : Fin k0_t1_loop.trips) : Fin 3 → Nat :=
  let c0_i32_21 : BitVec 32 := 0#32
  let c1_i32 : BitVec 32 := 1#32
  let arg20 : BitVec 32 := Scf.iv c0_i32_21 c1_i32 k0_t1
  let c0_i32_25 : BitVec 32 := 0#32
  let v139 : BitVec 1 := Scalar.cmpi .eq arg20 c0_i32_25
  let arg0 : BitVec 32 := BitVec.ofNat 32 (i 0).val
  let c1_i32_26 : BitVec 32 := 1#32
  let v140 : BitVec 32 := Scalar.subi arg0 c1_i32_26
  let v141 : BitVec 32 := Scalar.select v139 v140 arg0
  let c2_i32_35 : BitVec 32 := 2#32
  let v155 : BitVec 32 := Scalar.addi v141 c2_i32_35
  let c2_i32_36 : BitVec 32 := 2#32
  let v156 : BitVec 32 := Scalar.remsi v155 c2_i32_36
  let v439 : Index := Scalar.indexCast v156
  let c128_105 : Index := 128#32
  let c0_106 : Index := 0#32
  ![v439.toNat, 128, 0]
def k0_off17 (i : grid0.Coords) (k0_t1 : Fin k0_t1_loop.trips) : Fin 3 → Nat :=
  let c0_i32_21 : BitVec 32 := 0#32
  let c1_i32 : BitVec 32 := 1#32
  let arg20 : BitVec 32 := Scf.iv c0_i32_21 c1_i32 k0_t1
  let c0_i32_25 : BitVec 32 := 0#32
  let v139 : BitVec 1 := Scalar.cmpi .eq arg20 c0_i32_25
  let arg0 : BitVec 32 := BitVec.ofNat 32 (i 0).val
  let c1_i32_26 : BitVec 32 := 1#32
  let v140 : BitVec 32 := Scalar.subi arg0 c1_i32_26
  let v141 : BitVec 32 := Scalar.select v139 v140 arg0
  let c2_i32_35 : BitVec 32 := 2#32
  let v155 : BitVec 32 := Scalar.addi v141 c2_i32_35
  let c2_i32_36 : BitVec 32 := 2#32
  let v156 : BitVec 32 := Scalar.remsi v155 c2_i32_36
  let v688 : Index := Scalar.indexCast v156
  let c256_147 : Index := 256#32
  let c0_148 : Index := 0#32
  ![v688.toNat, 256, 0]
def k0_off18 (i : grid0.Coords) (k0_t1 : Fin k0_t1_loop.trips) : Fin 3 → Nat :=
  let c0_i32_21 : BitVec 32 := 0#32
  let c1_i32 : BitVec 32 := 1#32
  let arg20 : BitVec 32 := Scf.iv c0_i32_21 c1_i32 k0_t1
  let c0_i32_25 : BitVec 32 := 0#32
  let v139 : BitVec 1 := Scalar.cmpi .eq arg20 c0_i32_25
  let arg0 : BitVec 32 := BitVec.ofNat 32 (i 0).val
  let c1_i32_26 : BitVec 32 := 1#32
  let v140 : BitVec 32 := Scalar.subi arg0 c1_i32_26
  let v141 : BitVec 32 := Scalar.select v139 v140 arg0
  let c2_i32_35 : BitVec 32 := 2#32
  let v155 : BitVec 32 := Scalar.addi v141 c2_i32_35
  let c2_i32_36 : BitVec 32 := 2#32
  let v156 : BitVec 32 := Scalar.remsi v155 c2_i32_36
  let v937 : Index := Scalar.indexCast v156
  let c384_188 : Index := 384#32
  let c0_189 : Index := 0#32
  ![v937.toNat, 384, 0]
def k0_off19 (i : grid0.Coords) (k0_t1 : Fin k0_t1_loop.trips) : Fin 3 → Nat :=
  let c0_i32_21 : BitVec 32 := 0#32
  let c1_i32 : BitVec 32 := 1#32
  let arg20 : BitVec 32 := Scf.iv c0_i32_21 c1_i32 k0_t1
  let c0_i32_25 : BitVec 32 := 0#32
  let v139 : BitVec 1 := Scalar.cmpi .eq arg20 c0_i32_25
  let arg0 : BitVec 32 := BitVec.ofNat 32 (i 0).val
  let c1_i32_26 : BitVec 32 := 1#32
  let v140 : BitVec 32 := Scalar.subi arg0 c1_i32_26
  let v141 : BitVec 32 := Scalar.select v139 v140 arg0
  let c2_i32_35 : BitVec 32 := 2#32
  let v155 : BitVec 32 := Scalar.addi v141 c2_i32_35
  let c2_i32_36 : BitVec 32 := 2#32
  let v156 : BitVec 32 := Scalar.remsi v155 c2_i32_36
  let v1186 : Index := Scalar.indexCast v156
  let c512_229 : Index := 512#32
  let c0_230 : Index := 0#32
  ![v1186.toNat, 512, 0]
def k0_off20 (i : grid0.Coords) (k0_t1 : Fin k0_t1_loop.trips) : Fin 3 → Nat :=
  let c0_i32_21 : BitVec 32 := 0#32
  let c1_i32 : BitVec 32 := 1#32
  let arg20 : BitVec 32 := Scf.iv c0_i32_21 c1_i32 k0_t1
  let c0_i32_25 : BitVec 32 := 0#32
  let v139 : BitVec 1 := Scalar.cmpi .eq arg20 c0_i32_25
  let arg0 : BitVec 32 := BitVec.ofNat 32 (i 0).val
  let c1_i32_26 : BitVec 32 := 1#32
  let v140 : BitVec 32 := Scalar.subi arg0 c1_i32_26
  let v141 : BitVec 32 := Scalar.select v139 v140 arg0
  let c2_i32_35 : BitVec 32 := 2#32
  let v155 : BitVec 32 := Scalar.addi v141 c2_i32_35
  let c2_i32_36 : BitVec 32 := 2#32
  let v156 : BitVec 32 := Scalar.remsi v155 c2_i32_36
  let v1435 : Index := Scalar.indexCast v156
  let c640_270 : Index := 640#32
  let c0_271 : Index := 0#32
  ![v1435.toNat, 640, 0]
def k0_off21 (i : grid0.Coords) (k0_t1 : Fin k0_t1_loop.trips) : Fin 3 → Nat :=
  let c0_i32_21 : BitVec 32 := 0#32
  let c1_i32 : BitVec 32 := 1#32
  let arg20 : BitVec 32 := Scf.iv c0_i32_21 c1_i32 k0_t1
  let c0_i32_25 : BitVec 32 := 0#32
  let v139 : BitVec 1 := Scalar.cmpi .eq arg20 c0_i32_25
  let arg0 : BitVec 32 := BitVec.ofNat 32 (i 0).val
  let c1_i32_26 : BitVec 32 := 1#32
  let v140 : BitVec 32 := Scalar.subi arg0 c1_i32_26
  let v141 : BitVec 32 := Scalar.select v139 v140 arg0
  let c2_i32_35 : BitVec 32 := 2#32
  let v155 : BitVec 32 := Scalar.addi v141 c2_i32_35
  let c2_i32_36 : BitVec 32 := 2#32
  let v156 : BitVec 32 := Scalar.remsi v155 c2_i32_36
  let v1684 : Index := Scalar.indexCast v156
  let c768_311 : Index := 768#32
  let c0_312 : Index := 0#32
  ![v1684.toNat, 768, 0]
def k0_off22 (i : grid0.Coords) (k0_t1 : Fin k0_t1_loop.trips) : Fin 3 → Nat :=
  let c0_i32_21 : BitVec 32 := 0#32
  let c1_i32 : BitVec 32 := 1#32
  let arg20 : BitVec 32 := Scf.iv c0_i32_21 c1_i32 k0_t1
  let c0_i32_25 : BitVec 32 := 0#32
  let v139 : BitVec 1 := Scalar.cmpi .eq arg20 c0_i32_25
  let arg0 : BitVec 32 := BitVec.ofNat 32 (i 0).val
  let c1_i32_26 : BitVec 32 := 1#32
  let v140 : BitVec 32 := Scalar.subi arg0 c1_i32_26
  let v141 : BitVec 32 := Scalar.select v139 v140 arg0
  let c2_i32_35 : BitVec 32 := 2#32
  let v155 : BitVec 32 := Scalar.addi v141 c2_i32_35
  let c2_i32_36 : BitVec 32 := 2#32
  let v156 : BitVec 32 := Scalar.remsi v155 c2_i32_36
  let v1933 : Index := Scalar.indexCast v156
  let c896_352 : Index := 896#32
  let c0_353 : Index := 0#32
  ![v1933.toNat, 896, 0]
def k0_off23 (i : grid0.Coords) (k0_t1 : Fin k0_t1_loop.trips) : Fin 3 → Nat :=
  let c0_i32_21 : BitVec 32 := 0#32
  let c1_i32 : BitVec 32 := 1#32
  let arg20 : BitVec 32 := Scf.iv c0_i32_21 c1_i32 k0_t1
  let c0_i32_25 : BitVec 32 := 0#32
  let v139 : BitVec 1 := Scalar.cmpi .eq arg20 c0_i32_25
  let arg0 : BitVec 32 := BitVec.ofNat 32 (i 0).val
  let c1_i32_26 : BitVec 32 := 1#32
  let v140 : BitVec 32 := Scalar.subi arg0 c1_i32_26
  let v141 : BitVec 32 := Scalar.select v139 v140 arg0
  let c2_i32_35 : BitVec 32 := 2#32
  let v155 : BitVec 32 := Scalar.addi v141 c2_i32_35
  let c2_i32_36 : BitVec 32 := 2#32
  let v156 : BitVec 32 := Scalar.remsi v155 c2_i32_36
  let v2182 : Index := Scalar.indexCast v156
  let c1024_393 : Index := 1024#32
  let c0_394 : Index := 0#32
  ![v2182.toNat, 1024, 0]
def k0_off24 (i : grid0.Coords) (k0_t1 : Fin k0_t1_loop.trips) : Fin 3 → Nat :=
  let c0_i32_21 : BitVec 32 := 0#32
  let c1_i32 : BitVec 32 := 1#32
  let arg20 : BitVec 32 := Scf.iv c0_i32_21 c1_i32 k0_t1
  let c0_i32_25 : BitVec 32 := 0#32
  let v139 : BitVec 1 := Scalar.cmpi .eq arg20 c0_i32_25
  let arg0 : BitVec 32 := BitVec.ofNat 32 (i 0).val
  let c1_i32_26 : BitVec 32 := 1#32
  let v140 : BitVec 32 := Scalar.subi arg0 c1_i32_26
  let v141 : BitVec 32 := Scalar.select v139 v140 arg0
  let c2_i32_35 : BitVec 32 := 2#32
  let v155 : BitVec 32 := Scalar.addi v141 c2_i32_35
  let c2_i32_36 : BitVec 32 := 2#32
  let v156 : BitVec 32 := Scalar.remsi v155 c2_i32_36
  let v2431 : Index := Scalar.indexCast v156
  let c1152_435 : Index := 1152#32
  let c0_436 : Index := 0#32
  ![v2431.toNat, 1152, 0]
def k0_off25 (k0_t1 : Fin k0_t1_loop.trips) : Fin 3 → Nat :=
  let c0_i32_21 : BitVec 32 := 0#32
  let c1_i32 : BitVec 32 := 1#32
  let arg20 : BitVec 32 := Scf.iv c0_i32_21 c1_i32 k0_t1
  let c0_i32_25 : BitVec 32 := 0#32
  let v139 : BitVec 1 := Scalar.cmpi .eq arg20 c0_i32_25
  let c7_i32 : BitVec 32 := 7#32
  let c2_i32_24 : BitVec 32 := 2#32
  let v138 : BitVec 32 := Scalar.muli c2_i32_24 arg20
  let c1_i32_27 : BitVec 32 := 1#32
  let v142 : BitVec 32 := Scalar.subi v138 c1_i32_27
  let v143 : BitVec 32 := Scalar.select v139 c7_i32 v142
  let v2698 : Index := Scalar.indexCast v143
  let c0_484 : Index := 0#32
  let c128_485 : Index := 128#32
  ![v2698.toNat, 0, 128]
def k0_off26 (i : grid0.Coords) (k0_t1 : Fin k0_t1_loop.trips) : Fin 3 → Nat :=
  let c0_i32_21 : BitVec 32 := 0#32
  let c1_i32 : BitVec 32 := 1#32
  let arg20 : BitVec 32 := Scf.iv c0_i32_21 c1_i32 k0_t1
  let c0_i32_25 : BitVec 32 := 0#32
  let v139 : BitVec 1 := Scalar.cmpi .eq arg20 c0_i32_25
  let arg0 : BitVec 32 := BitVec.ofNat 32 (i 0).val
  let c0_i32_28 : BitVec 32 := 0#32
  let v144 : BitVec 1 := Scalar.cmpi .eq arg0 c0_i32_28
  let v145 : BitVec 1 := Scalar.andi v139 v144
  let c8_i32 : BitVec 32 := 8#32
  let c7_i32 : BitVec 32 := 7#32
  let c2_i32_24 : BitVec 32 := 2#32
  let v138 : BitVec 32 := Scalar.muli c2_i32_24 arg20
  let c1_i32_27 : BitVec 32 := 1#32
  let v142 : BitVec 32 := Scalar.subi v138 c1_i32_27
  let v143 : BitVec 32 := Scalar.select v139 c7_i32 v142
  let v146 : BitVec 32 := Scalar.select v145 c8_i32 v143
  let v2714 : Index := Scalar.indexCast v146
  let c0_493 : Index := 0#32
  let c128_494 : Index := 128#32
  ![v2714.toNat, 0, 128]
def k0_off27 (k0_t1 : Fin k0_t1_loop.trips) : Fin 3 → Nat :=
  let c0_i32_21 : BitVec 32 := 0#32
  let c1_i32 : BitVec 32 := 1#32
  let arg20 : BitVec 32 := Scf.iv c0_i32_21 c1_i32 k0_t1
  let c0_i32_25 : BitVec 32 := 0#32
  let v139 : BitVec 1 := Scalar.cmpi .eq arg20 c0_i32_25
  let c7_i32 : BitVec 32 := 7#32
  let c2_i32_24 : BitVec 32 := 2#32
  let v138 : BitVec 32 := Scalar.muli c2_i32_24 arg20
  let c1_i32_27 : BitVec 32 := 1#32
  let v142 : BitVec 32 := Scalar.subi v138 c1_i32_27
  let v143 : BitVec 32 := Scalar.select v139 c7_i32 v142
  let v5239 : Index := Scalar.indexCast v143
  let c0_1083 : Index := 0#32
  let c256_1084 : Index := 256#32
  ![v5239.toNat, 0, 256]
def k0_off28 (i : grid0.Coords) (k0_t1 : Fin k0_t1_loop.trips) : Fin 3 → Nat :=
  let c0_i32_21 : BitVec 32 := 0#32
  let c1_i32 : BitVec 32 := 1#32
  let arg20 : BitVec 32 := Scf.iv c0_i32_21 c1_i32 k0_t1
  let c0_i32_25 : BitVec 32 := 0#32
  let v139 : BitVec 1 := Scalar.cmpi .eq arg20 c0_i32_25
  let arg0 : BitVec 32 := BitVec.ofNat 32 (i 0).val
  let c0_i32_28 : BitVec 32 := 0#32
  let v144 : BitVec 1 := Scalar.cmpi .eq arg0 c0_i32_28
  let v145 : BitVec 1 := Scalar.andi v139 v144
  let c8_i32 : BitVec 32 := 8#32
  let c7_i32 : BitVec 32 := 7#32
  let c2_i32_24 : BitVec 32 := 2#32
  let v138 : BitVec 32 := Scalar.muli c2_i32_24 arg20
  let c1_i32_27 : BitVec 32 := 1#32
  let v142 : BitVec 32 := Scalar.subi v138 c1_i32_27
  let v143 : BitVec 32 := Scalar.select v139 c7_i32 v142
  let v146 : BitVec 32 := Scalar.select v145 c8_i32 v143
  let v5255 : Index := Scalar.indexCast v146
  let c0_1092 : Index := 0#32
  let c256_1093 : Index := 256#32
  ![v5255.toNat, 0, 256]
def k0_off29 (k0_t1 : Fin k0_t1_loop.trips) : Fin 3 → Nat :=
  let c0_i32_21 : BitVec 32 := 0#32
  let c1_i32 : BitVec 32 := 1#32
  let arg20 : BitVec 32 := Scf.iv c0_i32_21 c1_i32 k0_t1
  let c0_i32_25 : BitVec 32 := 0#32
  let v139 : BitVec 1 := Scalar.cmpi .eq arg20 c0_i32_25
  let c7_i32 : BitVec 32 := 7#32
  let c2_i32_24 : BitVec 32 := 2#32
  let v138 : BitVec 32 := Scalar.muli c2_i32_24 arg20
  let c1_i32_27 : BitVec 32 := 1#32
  let v142 : BitVec 32 := Scalar.subi v138 c1_i32_27
  let v143 : BitVec 32 := Scalar.select v139 c7_i32 v142
  let v7780 : Index := Scalar.indexCast v143
  let c0_1682 : Index := 0#32
  let c384_1683 : Index := 384#32
  ![v7780.toNat, 0, 384]
def k0_off30 (i : grid0.Coords) (k0_t1 : Fin k0_t1_loop.trips) : Fin 3 → Nat :=
  let c0_i32_21 : BitVec 32 := 0#32
  let c1_i32 : BitVec 32 := 1#32
  let arg20 : BitVec 32 := Scf.iv c0_i32_21 c1_i32 k0_t1
  let c0_i32_25 : BitVec 32 := 0#32
  let v139 : BitVec 1 := Scalar.cmpi .eq arg20 c0_i32_25
  let arg0 : BitVec 32 := BitVec.ofNat 32 (i 0).val
  let c0_i32_28 : BitVec 32 := 0#32
  let v144 : BitVec 1 := Scalar.cmpi .eq arg0 c0_i32_28
  let v145 : BitVec 1 := Scalar.andi v139 v144
  let c8_i32 : BitVec 32 := 8#32
  let c7_i32 : BitVec 32 := 7#32
  let c2_i32_24 : BitVec 32 := 2#32
  let v138 : BitVec 32 := Scalar.muli c2_i32_24 arg20
  let c1_i32_27 : BitVec 32 := 1#32
  let v142 : BitVec 32 := Scalar.subi v138 c1_i32_27
  let v143 : BitVec 32 := Scalar.select v139 c7_i32 v142
  let v146 : BitVec 32 := Scalar.select v145 c8_i32 v143
  let v7796 : Index := Scalar.indexCast v146
  let c0_1691 : Index := 0#32
  let c384_1692 : Index := 384#32
  ![v7796.toNat, 0, 384]
def k0_off31 (k0_t1 : Fin k0_t1_loop.trips) : Fin 3 → Nat :=
  let c2_i32_24 : BitVec 32 := 2#32
  let c0_i32_21 : BitVec 32 := 0#32
  let c1_i32 : BitVec 32 := 1#32
  let arg20 : BitVec 32 := Scf.iv c0_i32_21 c1_i32 k0_t1
  let v138 : BitVec 32 := Scalar.muli c2_i32_24 arg20
  let c1_i32_2281 : BitVec 32 := 1#32
  let v10321 : BitVec 32 := Scalar.addi v138 c1_i32_2281
  let v10323 : Index := Scalar.indexCast v10321
  let c0_2284 : Index := 0#32
  let c0_2285 : Index := 0#32
  ![v10323.toNat, 0, 0]
def k0_off32 (k0_t1 : Fin k0_t1_loop.trips) : Fin 3 → Nat :=
  let c2_i32_24 : BitVec 32 := 2#32
  let c0_i32_21 : BitVec 32 := 0#32
  let c1_i32 : BitVec 32 := 1#32
  let arg20 : BitVec 32 := Scf.iv c0_i32_21 c1_i32 k0_t1
  let v138 : BitVec 32 := Scalar.muli c2_i32_24 arg20
  let v10332 : Index := Scalar.indexCast v138
  let c0_2291 : Index := 0#32
  let c0_2292 : Index := 0#32
  ![v10332.toNat, 0, 0]
def k0_off33 (k0_t1 : Fin k0_t1_loop.trips) : Fin 3 → Nat :=
  let c2_i32_24 : BitVec 32 := 2#32
  let c0_i32_21 : BitVec 32 := 0#32
  let c1_i32 : BitVec 32 := 1#32
  let arg20 : BitVec 32 := Scf.iv c0_i32_21 c1_i32 k0_t1
  let v138 : BitVec 32 := Scalar.muli c2_i32_24 arg20
  let v10348 : Index := Scalar.indexCast v138
  let c0_2300 : Index := 0#32
  let c0_2301 : Index := 0#32
  ![v10348.toNat, 0, 0]
def k0_off34 (i : grid0.Coords) : Fin 3 → Nat :=
  let arg0 : BitVec 32 := BitVec.ofNat 32 (i 0).val
  let c2_i32_2289 : BitVec 32 := 2#32
  let v10330 : BitVec 32 := Scalar.addi arg0 c2_i32_2289
  let c2_i32_2290 : BitVec 32 := 2#32
  let v10331 : BitVec 32 := Scalar.remsi v10330 c2_i32_2290
  let v10365 : Index := Scalar.indexCast v10331
  let c0_2312 : Index := 0#32
  let c0_2313 : Index := 0#32
  ![v10365.toNat, 0, 0]
def k0_off35 (i : grid0.Coords) : Fin 3 → Nat :=
  let arg0 : BitVec 32 := BitVec.ofNat 32 (i 0).val
  let c2_i32_2289 : BitVec 32 := 2#32
  let v10330 : BitVec 32 := Scalar.addi arg0 c2_i32_2289
  let c2_i32_2290 : BitVec 32 := 2#32
  let v10331 : BitVec 32 := Scalar.remsi v10330 c2_i32_2290
  let v10614 : Index := Scalar.indexCast v10331
  let c128_2369 : Index := 128#32
  let c0_2370 : Index := 0#32
  ![v10614.toNat, 128, 0]
def k0_off36 (i : grid0.Coords) : Fin 3 → Nat :=
  let arg0 : BitVec 32 := BitVec.ofNat 32 (i 0).val
  let c2_i32_2289 : BitVec 32 := 2#32
  let v10330 : BitVec 32 := Scalar.addi arg0 c2_i32_2289
  let c2_i32_2290 : BitVec 32 := 2#32
  let v10331 : BitVec 32 := Scalar.remsi v10330 c2_i32_2290
  let v10863 : Index := Scalar.indexCast v10331
  let c256_2426 : Index := 256#32
  let c0_2427 : Index := 0#32
  ![v10863.toNat, 256, 0]
def k0_off37 (i : grid0.Coords) : Fin 3 → Nat :=
  let arg0 : BitVec 32 := BitVec.ofNat 32 (i 0).val
  let c2_i32_2289 : BitVec 32 := 2#32
  let v10330 : BitVec 32 := Scalar.addi arg0 c2_i32_2289
  let c2_i32_2290 : BitVec 32 := 2#32
  let v10331 : BitVec 32 := Scalar.remsi v10330 c2_i32_2290
  let v11112 : Index := Scalar.indexCast v10331
  let c384_2483 : Index := 384#32
  let c0_2484 : Index := 0#32
  ![v11112.toNat, 384, 0]
def k0_off38 (i : grid0.Coords) : Fin 3 → Nat :=
  let arg0 : BitVec 32 := BitVec.ofNat 32 (i 0).val
  let c2_i32_2289 : BitVec 32 := 2#32
  let v10330 : BitVec 32 := Scalar.addi arg0 c2_i32_2289
  let c2_i32_2290 : BitVec 32 := 2#32
  let v10331 : BitVec 32 := Scalar.remsi v10330 c2_i32_2290
  let v11361 : Index := Scalar.indexCast v10331
  let c512_2540 : Index := 512#32
  let c0_2541 : Index := 0#32
  ![v11361.toNat, 512, 0]
def k0_off39 (i : grid0.Coords) : Fin 3 → Nat :=
  let arg0 : BitVec 32 := BitVec.ofNat 32 (i 0).val
  let c2_i32_2289 : BitVec 32 := 2#32
  let v10330 : BitVec 32 := Scalar.addi arg0 c2_i32_2289
  let c2_i32_2290 : BitVec 32 := 2#32
  let v10331 : BitVec 32 := Scalar.remsi v10330 c2_i32_2290
  let v11610 : Index := Scalar.indexCast v10331
  let c640_2597 : Index := 640#32
  let c0_2598 : Index := 0#32
  ![v11610.toNat, 640, 0]
def k0_off40 (i : grid0.Coords) : Fin 3 → Nat :=
  let arg0 : BitVec 32 := BitVec.ofNat 32 (i 0).val
  let c2_i32_2289 : BitVec 32 := 2#32
  let v10330 : BitVec 32 := Scalar.addi arg0 c2_i32_2289
  let c2_i32_2290 : BitVec 32 := 2#32
  let v10331 : BitVec 32 := Scalar.remsi v10330 c2_i32_2290
  let v11859 : Index := Scalar.indexCast v10331
  let c768_2654 : Index := 768#32
  let c0_2655 : Index := 0#32
  ![v11859.toNat, 768, 0]
def k0_off41 (i : grid0.Coords) : Fin 3 → Nat :=
  let arg0 : BitVec 32 := BitVec.ofNat 32 (i 0).val
  let c2_i32_2289 : BitVec 32 := 2#32
  let v10330 : BitVec 32 := Scalar.addi arg0 c2_i32_2289
  let c2_i32_2290 : BitVec 32 := 2#32
  let v10331 : BitVec 32 := Scalar.remsi v10330 c2_i32_2290
  let v12108 : Index := Scalar.indexCast v10331
  let c896_2711 : Index := 896#32
  let c0_2712 : Index := 0#32
  ![v12108.toNat, 896, 0]
def k0_off42 (i : grid0.Coords) : Fin 3 → Nat :=
  let arg0 : BitVec 32 := BitVec.ofNat 32 (i 0).val
  let c2_i32_2289 : BitVec 32 := 2#32
  let v10330 : BitVec 32 := Scalar.addi arg0 c2_i32_2289
  let c2_i32_2290 : BitVec 32 := 2#32
  let v10331 : BitVec 32 := Scalar.remsi v10330 c2_i32_2290
  let v12357 : Index := Scalar.indexCast v10331
  let c1024_2768 : Index := 1024#32
  let c0_2769 : Index := 0#32
  ![v12357.toNat, 1024, 0]
def k0_off43 (i : grid0.Coords) : Fin 3 → Nat :=
  let arg0 : BitVec 32 := BitVec.ofNat 32 (i 0).val
  let c2_i32_2289 : BitVec 32 := 2#32
  let v10330 : BitVec 32 := Scalar.addi arg0 c2_i32_2289
  let c2_i32_2290 : BitVec 32 := 2#32
  let v10331 : BitVec 32 := Scalar.remsi v10330 c2_i32_2290
  let v12606 : Index := Scalar.indexCast v10331
  let c1152_2825 : Index := 1152#32
  let c0_2826 : Index := 0#32
  ![v12606.toNat, 1152, 0]
def k0_off44 (k0_t1 : Fin k0_t1_loop.trips) : Fin 3 → Nat :=
  let c2_i32_24 : BitVec 32 := 2#32
  let c0_i32_21 : BitVec 32 := 0#32
  let c1_i32 : BitVec 32 := 1#32
  let arg20 : BitVec 32 := Scf.iv c0_i32_21 c1_i32 k0_t1
  let v138 : BitVec 32 := Scalar.muli c2_i32_24 arg20
  let v12873 : Index := Scalar.indexCast v138
  let c0_2890 : Index := 0#32
  let c128_2891 : Index := 128#32
  ![v12873.toNat, 0, 128]
def k0_off45 (k0_t1 : Fin k0_t1_loop.trips) : Fin 3 → Nat :=
  let c2_i32_24 : BitVec 32 := 2#32
  let c0_i32_21 : BitVec 32 := 0#32
  let c1_i32 : BitVec 32 := 1#32
  let arg20 : BitVec 32 := Scf.iv c0_i32_21 c1_i32 k0_t1
  let v138 : BitVec 32 := Scalar.muli c2_i32_24 arg20
  let v12889 : Index := Scalar.indexCast v138
  let c0_2899 : Index := 0#32
  let c128_2900 : Index := 128#32
  ![v12889.toNat, 0, 128]
def k0_off46 (k0_t1 : Fin k0_t1_loop.trips) : Fin 3 → Nat :=
  let c2_i32_24 : BitVec 32 := 2#32
  let c0_i32_21 : BitVec 32 := 0#32
  let c1_i32 : BitVec 32 := 1#32
  let arg20 : BitVec 32 := Scf.iv c0_i32_21 c1_i32 k0_t1
  let v138 : BitVec 32 := Scalar.muli c2_i32_24 arg20
  let v15414 : Index := Scalar.indexCast v138
  let c0_3489 : Index := 0#32
  let c256_3490 : Index := 256#32
  ![v15414.toNat, 0, 256]
def k0_off47 (k0_t1 : Fin k0_t1_loop.trips) : Fin 3 → Nat :=
  let c2_i32_24 : BitVec 32 := 2#32
  let c0_i32_21 : BitVec 32 := 0#32
  let c1_i32 : BitVec 32 := 1#32
  let arg20 : BitVec 32 := Scf.iv c0_i32_21 c1_i32 k0_t1
  let v138 : BitVec 32 := Scalar.muli c2_i32_24 arg20
  let v15430 : Index := Scalar.indexCast v138
  let c0_3498 : Index := 0#32
  let c256_3499 : Index := 256#32
  ![v15430.toNat, 0, 256]
def k0_off48 (k0_t1 : Fin k0_t1_loop.trips) : Fin 3 → Nat :=
  let c2_i32_24 : BitVec 32 := 2#32
  let c0_i32_21 : BitVec 32 := 0#32
  let c1_i32 : BitVec 32 := 1#32
  let arg20 : BitVec 32 := Scf.iv c0_i32_21 c1_i32 k0_t1
  let v138 : BitVec 32 := Scalar.muli c2_i32_24 arg20
  let v17955 : Index := Scalar.indexCast v138
  let c0_4088 : Index := 0#32
  let c384_4089 : Index := 384#32
  ![v17955.toNat, 0, 384]
def k0_off49 (k0_t1 : Fin k0_t1_loop.trips) : Fin 3 → Nat :=
  let c2_i32_24 : BitVec 32 := 2#32
  let c0_i32_21 : BitVec 32 := 0#32
  let c1_i32 : BitVec 32 := 1#32
  let arg20 : BitVec 32 := Scf.iv c0_i32_21 c1_i32 k0_t1
  let v138 : BitVec 32 := Scalar.muli c2_i32_24 arg20
  let v17971 : Index := Scalar.indexCast v138
  let c0_4097 : Index := 0#32
  let c384_4098 : Index := 384#32
  ![v17971.toNat, 0, 384]
def k0_cond2 (i : grid0.Coords) : BitVec 1 :=
  let arg0 : BitVec 32 := BitVec.ofNat 32 (i 0).val
  let c24_i32 : BitVec 32 := 24#32
  let v135 : BitVec 1 := Scalar.cmpi .eq arg0 c24_i32
  let v136 : BitVec 32 := Scalar.extui v135
  let c0_i32_23 : BitVec 32 := 0#32
  let v137 : BitVec 1 := Scalar.cmpi .ne v136 c0_i32_23
  v137

def k0_off50 (i : grid0.Coords) : Fin 3 → Nat :=
  let arg0 : BitVec 32 := BitVec.ofNat 32 (i 0).val
  let c2_i32_24 : BitVec 32 := 2#32
  let v138 : BitVec 32 := Scalar.addi arg0 c2_i32_24
  let c2_i32_25 : BitVec 32 := 2#32
  let v139 : BitVec 32 := Scalar.remsi v138 c2_i32_25
  let v165 : Index := Scalar.indexCast v139
  let c0_52 : Index := 0#32
  let c0_53 : Index := 0#32
  ![v165.toNat, 0, 0]
def k0_off51 (i : grid0.Coords) : Fin 3 → Nat :=
  let arg0 : BitVec 32 := BitVec.ofNat 32 (i 0).val
  let c2_i32_24 : BitVec 32 := 2#32
  let v138 : BitVec 32 := Scalar.addi arg0 c2_i32_24
  let c2_i32_25 : BitVec 32 := 2#32
  let v139 : BitVec 32 := Scalar.remsi v138 c2_i32_25
  let v414 : Index := Scalar.indexCast v139
  let c128_98 : Index := 128#32
  let c0_99 : Index := 0#32
  ![v414.toNat, 128, 0]
def k0_off52 (i : grid0.Coords) : Fin 3 → Nat :=
  let arg0 : BitVec 32 := BitVec.ofNat 32 (i 0).val
  let c2_i32_24 : BitVec 32 := 2#32
  let v138 : BitVec 32 := Scalar.addi arg0 c2_i32_24
  let c2_i32_25 : BitVec 32 := 2#32
  let v139 : BitVec 32 := Scalar.remsi v138 c2_i32_25
  let v663 : Index := Scalar.indexCast v139
  let c256_140 : Index := 256#32
  let c0_141 : Index := 0#32
  ![v663.toNat, 256, 0]
def k0_off53 (i : grid0.Coords) : Fin 3 → Nat :=
  let arg0 : BitVec 32 := BitVec.ofNat 32 (i 0).val
  let c2_i32_24 : BitVec 32 := 2#32
  let v138 : BitVec 32 := Scalar.addi arg0 c2_i32_24
  let c2_i32_25 : BitVec 32 := 2#32
  let v139 : BitVec 32 := Scalar.remsi v138 c2_i32_25
  let v912 : Index := Scalar.indexCast v139
  let c384_181 : Index := 384#32
  let c0_182 : Index := 0#32
  ![v912.toNat, 384, 0]
def k0_off54 (i : grid0.Coords) : Fin 3 → Nat :=
  let arg0 : BitVec 32 := BitVec.ofNat 32 (i 0).val
  let c2_i32_24 : BitVec 32 := 2#32
  let v138 : BitVec 32 := Scalar.addi arg0 c2_i32_24
  let c2_i32_25 : BitVec 32 := 2#32
  let v139 : BitVec 32 := Scalar.remsi v138 c2_i32_25
  let v1161 : Index := Scalar.indexCast v139
  let c512_222 : Index := 512#32
  let c0_223 : Index := 0#32
  ![v1161.toNat, 512, 0]
def k0_off55 (i : grid0.Coords) : Fin 3 → Nat :=
  let arg0 : BitVec 32 := BitVec.ofNat 32 (i 0).val
  let c2_i32_24 : BitVec 32 := 2#32
  let v138 : BitVec 32 := Scalar.addi arg0 c2_i32_24
  let c2_i32_25 : BitVec 32 := 2#32
  let v139 : BitVec 32 := Scalar.remsi v138 c2_i32_25
  let v1410 : Index := Scalar.indexCast v139
  let c640_263 : Index := 640#32
  let c0_264 : Index := 0#32
  ![v1410.toNat, 640, 0]
def k0_off56 (i : grid0.Coords) : Fin 3 → Nat :=
  let arg0 : BitVec 32 := BitVec.ofNat 32 (i 0).val
  let c2_i32_24 : BitVec 32 := 2#32
  let v138 : BitVec 32 := Scalar.addi arg0 c2_i32_24
  let c2_i32_25 : BitVec 32 := 2#32
  let v139 : BitVec 32 := Scalar.remsi v138 c2_i32_25
  let v1659 : Index := Scalar.indexCast v139
  let c768_304 : Index := 768#32
  let c0_305 : Index := 0#32
  ![v1659.toNat, 768, 0]
def k0_off57 (i : grid0.Coords) : Fin 3 → Nat :=
  let arg0 : BitVec 32 := BitVec.ofNat 32 (i 0).val
  let c2_i32_24 : BitVec 32 := 2#32
  let v138 : BitVec 32 := Scalar.addi arg0 c2_i32_24
  let c2_i32_25 : BitVec 32 := 2#32
  let v139 : BitVec 32 := Scalar.remsi v138 c2_i32_25
  let v1908 : Index := Scalar.indexCast v139
  let c896_345 : Index := 896#32
  let c0_346 : Index := 0#32
  ![v1908.toNat, 896, 0]
def k0_off58 (i : grid0.Coords) : Fin 3 → Nat :=
  let arg0 : BitVec 32 := BitVec.ofNat 32 (i 0).val
  let c2_i32_24 : BitVec 32 := 2#32
  let v138 : BitVec 32 := Scalar.addi arg0 c2_i32_24
  let c2_i32_25 : BitVec 32 := 2#32
  let v139 : BitVec 32 := Scalar.remsi v138 c2_i32_25
  let v2157 : Index := Scalar.indexCast v139
  let c1024_386 : Index := 1024#32
  let c0_387 : Index := 0#32
  ![v2157.toNat, 1024, 0]
def k0_off59 (i : grid0.Coords) : Fin 3 → Nat :=
  let arg0 : BitVec 32 := BitVec.ofNat 32 (i 0).val
  let c2_i32_24 : BitVec 32 := 2#32
  let v138 : BitVec 32 := Scalar.addi arg0 c2_i32_24
  let c2_i32_25 : BitVec 32 := 2#32
  let v139 : BitVec 32 := Scalar.remsi v138 c2_i32_25
  let v2406 : Index := Scalar.indexCast v139
  let c1152_428 : Index := 1152#32
  let c0_429 : Index := 0#32
  ![v2406.toNat, 1152, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x512x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x8x512 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "ln2" => some ((Real.log 2 : ℝ) : EReal)
  | "ln2_sq" => some (((Real.log 2) * (Real.log 2) : ℝ) : EReal)
  | "softcap_log2e" => some ((30 * (Real.log 2)⁻¹ : ℝ) : EReal)
  | _ => none
-- ==== ReferenceIdeal.lean ====
abbrev S8x512x4096 : Shape := ⟨3, ![8, 512, 4096]⟩
abbrev S8x512 : Shape := ⟨2, ![8, 512]⟩
abbrev S32000x4096 : Shape := ⟨2, ![32000, 4096]⟩
abbrev S32000 : Shape := ⟨1, ![32000]⟩
abbrev S8x512x7 : Shape := ⟨3, ![8, 512, 7]⟩
abbrev S8x512x32000 : Shape := ⟨3, ![8, 512, 32000]⟩
abbrev S8x512x1 : Shape := ⟨3, ![8, 512, 1]⟩
abbrev S1x1x32000 : Shape := ⟨3, ![1, 1, 32000]⟩
abbrev S_ : Shape := ⟨0, ![]⟩
abbrev S8x512x7x1 : Shape := ⟨4, ![8, 512, 7, 1]⟩
abbrev S1 : Shape := ⟨1, ![1]⟩
abbrev S1x1x1x1 : Shape := ⟨4, ![1, 1, 1, 1]⟩

abbrev nBuf : Space → Nat
  | .hbm => 72
  | .vmem => 3
  | .smem => 0
  | _ => 0

abbrev bufTy : (tb : Table) → Fin (tcTables nBuf tb) → BufTy
  | .hbm, ⟨0, _⟩ => ⟨S8x512x4096, .fp8e4m3⟩
  | .hbm, ⟨1, _⟩ => ⟨S8x512, .f32⟩
  | .hbm, ⟨2, _⟩ => ⟨S32000x4096, .fp8e4m3⟩
  | .hbm, ⟨3, _⟩ => ⟨S32000, .f32⟩
  | .hbm, ⟨4, _⟩ => ⟨S8x512x7, .i32⟩
  | .hbm, ⟨5, _⟩ => ⟨S8x512, .f32⟩
  | .hbm, ⟨6, _⟩ => ⟨S8x512x32000, .f32⟩
  | .hbm, ⟨7, _⟩ => ⟨S8x512x1, .f32⟩
  | .hbm, ⟨8, _⟩ => ⟨S8x512x32000, .f32⟩
  | .hbm, ⟨9, _⟩ => ⟨S8x512x32000, .f32⟩
  | .hbm, ⟨10, _⟩ => ⟨S1x1x32000, .f32⟩
  | .hbm, ⟨11, _⟩ => ⟨S8x512x32000, .f32⟩
  | .hbm, ⟨12, _⟩ => ⟨S8x512x32000, .f32⟩
  | .hbm, ⟨13, _⟩ => ⟨S_, .f32⟩
  | .hbm, ⟨14, _⟩ => ⟨S8x512x32000, .f32⟩
  | .hbm, ⟨15, _⟩ => ⟨S8x512x32000, .f32⟩
  | .hbm, ⟨16, _⟩ => ⟨S8x512x32000, .f32⟩
  | .hbm, ⟨17, _⟩ => ⟨S_, .f32⟩
  | .hbm, ⟨18, _⟩ => ⟨S8x512x32000, .f32⟩
  | .hbm, ⟨19, _⟩ => ⟨S8x512x32000, .f32⟩
  | .hbm, ⟨20, _⟩ => ⟨S8x512x1, .f32⟩
  | .hbm, ⟨21, _⟩ => ⟨S8x512x32000, .f32⟩
  | .hbm, ⟨22, _⟩ => ⟨S8x512x32000, .f32⟩
  | .hbm, ⟨23, _⟩ => ⟨S_, .f32⟩
  | .hbm, ⟨24, _⟩ => ⟨S8x512, .f32⟩
  | .hbm, ⟨25, _⟩ => ⟨S_, .f32⟩
  | .hbm, ⟨26, _⟩ => ⟨S8x512, .f32⟩
  | .hbm, ⟨27, _⟩ => ⟨S8x512, .f32⟩
  | .hbm, ⟨28, _⟩ => ⟨S8x512x1, .f32⟩
  | .hbm, ⟨29, _⟩ => ⟨S8x512x32000, .f32⟩
  | .hbm, ⟨30, _⟩ => ⟨S8x512x32000, .f32⟩
  | .hbm, ⟨31, _⟩ => ⟨S8x512x32000, .f32⟩
  | .hbm, ⟨32, _⟩ => ⟨S_, .f32⟩
  | .hbm, ⟨33, _⟩ => ⟨S8x512, .f32⟩
  | .hbm, ⟨34, _⟩ => ⟨S8x512x1, .f32⟩
  | .hbm, ⟨35, _⟩ => ⟨S8x512x1, .f32⟩
  | .hbm, ⟨36, _⟩ => ⟨S8x512x32000, .f32⟩
  | .hbm, ⟨37, _⟩ => ⟨S8x512x32000, .f32⟩
  | .hbm, ⟨38, _⟩ => ⟨S8x512x32000, .f32⟩
  | .hbm, ⟨39, _⟩ => ⟨S8x512x32000, .f32⟩
  | .hbm, ⟨40, _⟩ => ⟨S_, .f32⟩
  | .hbm, ⟨41, _⟩ => ⟨S8x512, .f32⟩
  | .hbm, ⟨42, _⟩ => ⟨S8x512, .f32⟩
  | .hbm, ⟨43, _⟩ => ⟨S8x512x1, .f32⟩
  | .hbm, ⟨44, _⟩ => ⟨S8x512x32000, .f32⟩
  | .hbm, ⟨45, _⟩ => ⟨S8x512x32000, .f32⟩
  | .hbm, ⟨46, _⟩ => ⟨S8x512x32000, .f32⟩
  | .hbm, ⟨47, _⟩ => ⟨S8x512x32000, .f32⟩
  | .hbm, ⟨48, _⟩ => ⟨S_, .f32⟩
  | .hbm, ⟨49, _⟩ => ⟨S8x512, .f32⟩
  | .hbm, ⟨50, _⟩ => ⟨S_, .i32⟩
  | .hbm, ⟨51, _⟩ => ⟨S8x512x7, .i32⟩
  | .hbm, ⟨52, _⟩ => ⟨S8x512x7, .i1⟩
  | .hbm, ⟨53, _⟩ => ⟨S_, .i32⟩
  | .hbm, ⟨54, _⟩ => ⟨S8x512x7, .i32⟩
  | .hbm, ⟨55, _⟩ => ⟨S8x512x7, .i32⟩
  | .hbm, ⟨56, _⟩ => ⟨S8x512x7, .i32⟩
  | .hbm, ⟨57, _⟩ => ⟨S8x512x7x1, .i32⟩
  | .hbm, ⟨58, _⟩ => ⟨S1, .i32⟩
  | .hbm, ⟨59, _⟩ => ⟨S_, .i32⟩
  | .hbm, ⟨60, _⟩ => ⟨S8x512x7x1, .i32⟩
  | .hbm, ⟨61, _⟩ => ⟨S8x512x7x1, .i1⟩
  | .hbm, ⟨62, _⟩ => ⟨S1x1x1x1, .i32⟩
  | .hbm, ⟨63, _⟩ => ⟨S8x512x7x1, .i32⟩
  | .hbm, ⟨64, _⟩ => ⟨S8x512x7x1, .i1⟩
  | .hbm, ⟨65, _⟩ => ⟨S8x512x7x1, .i1⟩
  | .hbm, ⟨66, _⟩ => ⟨S_, .i1⟩
  | .hbm, ⟨67, _⟩ => ⟨S8x512x7, .i1⟩
  | .hbm, ⟨68, _⟩ => ⟨S8x512x7, .f32⟩
  | .hbm, ⟨69, _⟩ => ⟨S_, .f32⟩
  | .hbm, ⟨70, _⟩ => ⟨S8x512x7, .f32⟩
  | .hbm, ⟨71, _⟩ => ⟨S8x512x7, .f32⟩
  | .local _ .vmem, ⟨0, _⟩ => ⟨S8x512x4096, .fp8e4m3⟩
  | .local _ .vmem, ⟨1, _⟩ => ⟨S32000x4096, .fp8e4m3⟩
  | .local _ .vmem, ⟨2, _⟩ => ⟨S8x512x32000, .f32⟩
  | _, _ => ⟨S8x512x4096, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_call0_cst_0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_cst_1 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_cst : Ref sig .tc := ⟨.hbm, 69, rfl⟩
abbrev main_call1_v14 : Ref sig .tc := ⟨.hbm, 70, rfl⟩
abbrev main_v26 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x512x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32000x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512x32000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Body.lean ====
module

public import proofs.«01_k».proof.Proof.Gen.KernelIdeal

@[expose] public section

set_option maxRecDepth 16384

/-!
# The kernel body, written once

The printed kernel body is unrolled: three copies of the epilogue, each over four column chunks, each over ten row
chunks, each over sixteen groups of eight rows. Here the same body is written with each of those repetitions as a
recursion (`upTo` for values, `runAll` for programs); `Printed` states that the printed text is this one.
-/

noncomputable section

namespace Cert.KernelIdeal.Body

open Idealize.ShloMosaic Idealize.SL.Sem
open Cert.KernelIdeal Cert.KernelIdeal.Facts₀ Cert.KernelIdeal.Facts

variable {F : FTy → Type} [FloatOps F] [Named F]

/-- A kernel body's program. -/
abbrev P (F : FTy → Type) (α : Type) := Prog (TpuEff nD τ sig (Elt F) Λ₀ .tc) α

/-- `f 0`, …, `f (n-1)` applied in turn to `a`. -/
def upTo {α : Type} {N : Nat} (f : Fin N → α → α) : (n : Nat) → n ≤ N → α → α
  | 0, _, a => a
  | n + 1, h, a => f ⟨n, h⟩ (upTo f n (Nat.le_of_succ_le h) a)

/-- The programs `f i`, …, `f (i+k-1)` run in turn. -/
def runFrom {α : Type} {N : Nat} (f : Fin N → α → P F α) : (k i : Nat) → i + k ≤ N → α → P F α
  | 0, _, _, a => pure a
  | k + 1, i, h, a => f ⟨i, by omega⟩ a >>= fun b => runFrom f k (i + 1) (by omega) b

/-- The programs `f 0`, …, `f (N-1)` run in turn. -/
def runAll {α : Type} (N : Nat) (f : Fin N → α → P F α) (a : α) : P F α := runFrom f N 0 (by omega) a

/-- The buffers the body is called with. -/
structure Bufs where
  x : Memref sig .tc .vmem S8x512x4096 .fp8e4m3
  xs : Memref sig .tc .vmem S8x512 .f32
  w : Memref sig .tc .vmem S1280x4096 .fp8e4m3
  ws : Memref sig .tc .vmem S32000 .f32
  tgt : Memref sig .tc .vmem S8x8x512 .i32
  temp : Memref sig .tc .vmem S8x512 .f32
  ent : Memref sig .tc .vmem S8x512 .f32
  var : Memref sig .tc .vmem S8x512 .f32
  lp : Memref sig .tc .vmem S8x8x512 .f32
  accA : Memref sig .tc .vmem S1280x512 .f32
  accB : Memref sig .tc .vmem S1280x512 .f32
  wsb : Memref sig .tc .vmem S2x1280x128 .f32
  xss : Memref sig .tc .vmem S8x8x512 .f32
  tcs : Memref sig .tc .vmem S8x8x512 .f32
  m : Memref sig .tc .vmem S9x8x512 .f32
  s0 : Memref sig .tc .vmem S9x8x512 .f32
  s1 : Memref sig .tc .vmem S9x8x512 .f32
  s2 : Memref sig .tc .vmem S9x8x512 .f32
  tg : Memref sig .tc .vmem S9x8x512 .f32

theorem slices_q (q : Fin 16) : S16x8x128.Slices ![q.val, 0, 0] S1x8x128 := by
  revert q; decide

/-! ## Values -/

/-- The running statistics of an `8 × 128` strip: the maximum, the three moments and the picked scores. -/
structure Stats (F : FTy → Type) where
  m : FVec F S8x128 .f32
  s0 : FVec F S8x128 .f32
  s1 : FVec F S8x128 .f32
  s2 : FVec F S8x128 .f32
  tg : FVec F S8x128 .f32

/-- A sublane number as the gather takes it: negative ones counted from the end. -/
def wrap (lo : IVec S8x128 32) : IVec S8x128 32 :=
  shapeCast S8x128 (shapeCast S8x128x1
    (select (cmpi .slt lo (broadcast S8x128 (0#32))) (addi lo (broadcast S8x128 (8#32))) lo)
    shapeCasts_S8x128_S8x128x1) shapeCasts_S8x128x1_S8x128

/-- Group `q` of a chunk's scores picked into `tg` where the target's group is `g`. -/
def pick (t : FVec F S16x8x128 .f32) (lo hi : IVec S8x128 32) (r : Nat) (q : Fin 16) (tg : FVec F S8x128 .f32) :
    FVec F S8x128 .f32 :=
  select (cmpi .eq hi (broadcast S8x128 (BitVec.ofNat 32 (16 * r + q.val))))
    (dynamicGather 0 (shapeCast S8x128 (extractStridedSlice S1x8x128 ![q.val, 0, 0] t (slices_q q)) shapeCasts_S1x8x128_S8x128)
      (wrap lo)) tg

/-- The capped scores of a chunk. -/
def score (z : Vec F S128x128 .f32) (ws : Vec F S1x128x128 .f32) (xs : FVec F S8x128 .f32) : FVec F S16x8x128 .f32 :=
  tanh (mulf (mulf (shapeCast S16x8x128 z shapeCasts_S128x128_S16x8x128)
      (shapeCast S16x8x128 (shapeCast S128x128 ws shapeCasts_S1x128x128_S128x128) shapeCasts_S128x128_S16x8x128))
    (broadcastTo S16x8x128 (shapeCast S1x8x128 xs shapeCasts_S8x128_S1x8x128) broadcasts_S1x8x128_S16x8x128))

/-- One chunk folded into the statistics. -/
def fold (t : FVec F S16x8x128 .f32) (tc : FVec F S8x128 .f32) (lo hi : IVec S8x128 32) (r : Nat) (s : Stats F) : Stats F :=
  let u : FVec F S16x8x128 .f32 :=
    mulf t (broadcastTo S16x8x128 (shapeCast S1x8x128 tc shapeCasts_S8x128_S1x8x128) broadcasts_S1x8x128_S16x8x128)
  let m' : FVec F S8x128 .f32 :=
    maximumf s.m (multiReduction .maximumf [0] S8x128 u 0xFF800000#32 reduces_S16x8x128_S8x128 (.inl rfl) rfl)
  let d : FVec F S8x128 .f32 := subf s.m m'
  let a : FVec F S8x128 .f32 := exp2 d
  let w : FVec F S16x8x128 .f32 :=
    subf u (broadcastTo S16x8x128 (shapeCast S1x8x128 m' shapeCasts_S8x128_S1x8x128) broadcasts_S1x8x128_S16x8x128)
  let e : FVec F S16x8x128 .f32 := exp2 w
  let ew : FVec F S16x8x128 .f32 := mulf e w
  ⟨m',
   addf (mulf a s.s0) (multiReduction .add [0] S8x128 e 0x00000000#32 reduces_S16x8x128_S8x128 (.inl rfl) rfl),
   addf (mulf a (addf s.s1 (mulf d s.s0)))
     (multiReduction .add [0] S8x128 ew 0x00000000#32 reduces_S16x8x128_S8x128 (.inl rfl) rfl),
   addf (mulf a (addf s.s2 (mulf d (addf (mulf (broadcast S8x128 (Scalar.ofBits .f32 0x40000000#32)) s.s1) (mulf d s.s0)))))
     (multiReduction .add [0] S8x128 (mulf ew w) 0x00000000#32 reduces_S16x8x128_S8x128 (.inl rfl) rfl),
   upTo (pick t lo hi r) 16 (Nat.le_refl 16) s.tg⟩

/-! ## The epilogue -/

theorem inb_col9 {st : Nat} (h : st < 9) (c : Fin 4) :
    ∀ a, (![st, 0, 128 * c.val] : Fin 3 → Nat) a + S1x8x128.size a ≤ S9x8x512.size a := by
  intro a; fin_cases a <;> simp [S1x8x128, S9x8x512] <;> omega

theorem inb_col8 {ii : Nat} (h : ii < 8) (c : Fin 4) :
    ∀ a, (![ii, 0, 128 * c.val] : Fin 3 → Nat) a + S1x8x128.size a ≤ S8x8x512.size a := by
  intro a; fin_cases a <;> simp [S1x8x128, S8x8x512] <;> omega

theorem inb_acc (r : Fin 10) (c : Fin 4) :
    ∀ a, (![128 * r.val, 128 * c.val] : Fin 2 → Nat) a + S128x128.size a ≤ S1280x512.size a := by
  intro a; fin_cases a <;> simp [S128x128, S1280x512] <;> omega

theorem inb_wsb {k : Nat} (h : k < 2) (r : Fin 10) :
    ∀ a, (![k, 128 * r.val, 0] : Fin 3 → Nat) a + S1x128x128.size a ≤ S2x1280x128.size a := by
  intro a; fin_cases a <;> simp [S1x128x128, S2x1280x128] <;> omega

/-- The `8 × 128` strip of slot `st` at column chunk `c`, loaded. -/
def ldCol9 (b : Memref sig .tc .vmem S9x8x512 .f32) {st : Nat} (h : st < 9) (c : Fin 4) : P F (Vec F S1x8x128 .f32) :=
  Prog.lift (.load b (Rect.unit (s := S9x8x512) ![st, 0, 128 * c.val] S1x8x128.size (inb_col9 h c)).toLoadRect
    (View.loadsAt_vmem h_S1x8x128))

/-- And stored, after a load of the same strip that nothing reads. -/
def stCol9 (b : Memref sig .tc .vmem S9x8x512 .f32) {st : Nat} (h : st < 9) (c : Fin 4) (v : FVec F S8x128 .f32) : P F PUnit :=
  ldCol9 b h c >>= fun _ =>
  Prog.lift (.store b (Rect.unit (s := S9x8x512) ![st, 0, 128 * c.val] S1x8x128.size (inb_col9 h c))
    (shapeCast S1x8x128 v shapeCasts_S8x128_S1x8x128) Finset.univ (View.stores_vmem_bits_univ h_S1x8x128 rfl) (.inl rfl))

/-- A strip of block `ii` of an `8 × 8 × 512` buffer, loaded. -/
def ldCol8 {e : EltTy} (b : Memref sig .tc .vmem S8x8x512 e) {ii : Nat} (h : ii < 8) (c : Fin 4) : P F (Vec F S1x8x128 e) :=
  Prog.lift (.load b (Rect.unit (s := S8x8x512) ![ii, 0, 128 * c.val] S1x8x128.size (inb_col8 h c)).toLoadRect
    (View.loadsAt_vmem h_S1x8x128))

/-- One row chunk of the epilogue. -/
def epiRow (B : Bufs) (acc : Memref sig .tc .vmem S1280x512 .f32) {k : Nat} (hk : k < 2) (c : Fin 4)
    (xs tc : FVec F S8x128 .f32) (lo hi : IVec S8x128 32) (r : Fin 10) (s : Stats F) : P F (Stats F) :=
  (Prog.lift (.load acc (Rect.unit (s := S1280x512) ![128 * r.val, 128 * c.val] S128x128.size (inb_acc r c)).toLoadRect
    (View.loadsAt_vmem h_S128x128)) : P F (Vec F S128x128 .f32)) >>= fun z =>
  (Prog.lift (.load B.wsb (Rect.unit (s := S2x1280x128) ![k, 128 * r.val, 0] S1x128x128.size (inb_wsb hk r)).toLoadRect
    (View.loadsAt_vmem h_S1x128x128)) : P F (Vec F S1x128x128 .f32)) >>= fun ws =>
  pure (fold (score z ws xs) tc lo hi r.val s)

/-- One column chunk of the epilogue: block `ii` of vocabulary tile `jj`, its scores in `acc`, folded into slot `st`. -/
def epiCol (B : Bufs) (acc : Memref sig .tc .vmem S1280x512 .f32) (jj : BitVec 32) {ii st k : Nat}
    (hi8 : ii < 8) (hst : st < 9) (hk : k < 2) (c : Fin 4) (_ : PUnit) : P F PUnit :=
  ldCol8 B.xss hi8 c >>= fun vxs =>
  ldCol8 B.tcs hi8 c >>= fun vtc =>
  ldCol8 B.tgt hi8 c >>= fun vtg =>
  ldCol9 B.m hst c >>= fun vm =>
  ldCol9 B.s0 hst c >>= fun v0 =>
  ldCol9 B.s1 hst c >>= fun v1 =>
  ldCol9 B.s2 hst c >>= fun v2 =>
  ldCol9 B.tg hst c >>= fun vg =>
  let xs : FVec F S8x128 .f32 := shapeCast S8x128 vxs shapeCasts_S1x8x128_S8x128
  let tc : FVec F S8x128 .f32 := shapeCast S8x128 vtc shapeCasts_S1x8x128_S8x128
  let idx : IVec S8x128 32 := subi (shapeCast S8x128 vtg shapeCasts_S1x8x128_S8x128) (broadcast S8x128 (Scalar.muli jj 1280#32))
  let lo : IVec S8x128 32 := andi idx (broadcast S8x128 (7#32))
  let hi : IVec S8x128 32 := shrsi idx (broadcast S8x128 (3#32))
  runAll 10 (epiRow B acc hk c xs tc lo hi)
    ⟨shapeCast S8x128 vm shapeCasts_S1x8x128_S8x128, shapeCast S8x128 v0 shapeCasts_S1x8x128_S8x128,
      shapeCast S8x128 v1 shapeCasts_S1x8x128_S8x128, shapeCast S8x128 v2 shapeCasts_S1x8x128_S8x128,
      shapeCast S8x128 vg shapeCasts_S1x8x128_S8x128⟩ >>= fun s =>
  stCol9 B.m hst c s.m >>= fun _ =>
  stCol9 B.s0 hst c s.s0 >>= fun _ =>
  stCol9 B.s1 hst c s.s1 >>= fun _ =>
  stCol9 B.s2 hst c s.s2 >>= fun _ =>
  stCol9 B.tg hst c s.tg

/-- The epilogue: the four column chunks in turn. -/
def epilogue (B : Bufs) (acc : Memref sig .tc .vmem S1280x512 .f32) (jj : BitVec 32) {ii st k : Nat}
    (hi8 : ii < 8) (hst : st < 9) (hk : k < 2) : P F PUnit :=
  runAll 4 (epiCol B acc jj hi8 hst hk) ⟨⟩

/-! ## One pair of blocks -/

theorem inb_x {i : Nat} (h : i < 8) : ∀ a, (![i, 0, 0] : Fin 3 → Nat) a + S1x512x4096.size a ≤ S8x512x4096.size a := by
  intro a; fin_cases a <;> simp [S1x512x4096, S8x512x4096] <;> omega

/-- Block `i`'s scores against the vocabulary tile, into `acc`. -/
def gemm (B : Bufs) (acc : Memref sig .tc .vmem S1280x512 .f32) {i : Nat} (h : i < 8) : P F PUnit :=
  (Prog.lift (.load B.w (Rect.unit (s := S1280x4096) ![0, 0] S1280x4096.size inb_S1280x4096_S1280x4096_0_0).toLoadRect
    (View.loadsAt_vmem h_S1280x4096)) : P F (Vec F S1280x4096 .fp8e4m3)) >>= fun w =>
  (Prog.lift (.load B.x (Rect.unit (s := S8x512x4096) ![i, 0, 0] S1x512x4096.size (inb_x h)).toLoadRect
    (View.loadsAt_vmem h_S1x512x4096)) : P F (Vec F S1x512x4096 .fp8e4m3)) >>= fun x =>
  (Prog.lift (.load acc (Rect.unit (s := S1280x512) ![0, 0] S1280x512.size inb_S1280x512_S1280x512_0_0).toLoadRect
    (View.loadsAt_vmem h_S1280x512)) : P F (Vec F S1280x512 .f32)) >>= fun _ =>
  Prog.lift (.store acc (Rect.unit (s := S1280x512) ![0, 0] S1280x512.size inb_S1280x512_S1280x512_0_0)
    (shapeCast S1280x512 (matmul dot_S1280x4096_S512x4096_S1280x512_1_1_0_0_n_n none w
      (shapeCast S512x4096 x shapeCasts_S1x512x4096_S512x4096) (constant S1280x512 .f32 0x00000000#32)) shapeCasts_S1280x512_S1280x512)
    Finset.univ (View.stores_vmem_bits_univ h_S1280x512 rfl) (.inl rfl))

/-! ## The grid point's pieces -/

/-- The slot of the row scales the pair's first epilogue reads is in range, and so are the other indices. -/
theorem xLt (t : Fin k0_t1_loop.trips) : k0_off12 t 0 < 8 := by revert t; decide +kernel
theorem iiLt (t : Fin k0_t1_loop.trips) : k0_off13 t 0 < 8 := by revert t; decide +kernel
theorem stLt (i : grid0.Coords) (t : Fin k0_t1_loop.trips) : k0_off14 i t 0 < 9 := by revert i t; decide +kernel
theorem wLt (i : grid0.Coords) (t : Fin k0_t1_loop.trips) : k0_off15 i t 0 < 2 := by revert i t; decide +kernel
theorem xLt' (t : Fin k0_t1_loop.trips) : k0_off31 t 0 < 8 := by revert t; decide +kernel
theorem iiLt' (t : Fin k0_t1_loop.trips) : k0_off32 t 0 < 8 := by revert t; decide +kernel
theorem stLt' (t : Fin k0_t1_loop.trips) : k0_off33 t 0 < 9 := by revert t; decide +kernel
theorem wLt' (i : grid0.Coords) : k0_off34 i 0 < 2 := by revert i; decide +kernel
theorem slotLt (i : grid0.Coords) : k0_off2 i 0 < 2 := by revert i; decide +kernel

/-- The vocabulary tile the pair's first epilogue folds: the previous one at the first pair. -/
def tileOf (arg0 : BitVec 32) (t : Fin k0_t1_loop.trips) : BitVec 32 :=
  Scalar.select (Scalar.cmpi .eq (Scf.iv 0#32 1#32 t) 0#32) (Scalar.subi arg0 1#32) arg0

/-- One pair of blocks: each block's scores formed while the block before it is folded. -/
def pairBody (i : grid0.Coords) (B : Bufs) (t : Fin k0_t1_loop.trips) : P F PUnit :=
  gemm B B.accA (xLt t) >>= fun _ =>
  epilogue B B.accB (tileOf (BitVec.ofNat 32 (i 0).val) t) (iiLt t) (stLt i t) (wLt i t) >>= fun _ =>
  gemm B B.accB (xLt' t) >>= fun _ =>
  epilogue B B.accA (BitVec.ofNat 32 (i 0).val) (iiLt' t) (stLt' t) (wLt' i)

theorem inb_ws (i : grid0.Coords) (r : Fin 10) :
    ∀ a, (![k0_off1 i (BitVec.ofNat 32 (128 * r.val)) 0] : Fin 1 → Nat) a + S128.size a ≤ S32000.size a := by
  revert i r; decide +kernel

/-- One chunk of the tile's vocabulary scales, spread along the lanes. -/
def wsStep (i : grid0.Coords) (B : Bufs) (r : Fin 10) (_ : PUnit) : P F PUnit :=
  (Prog.lift (.load B.ws (Rect.unit (s := S32000) ![k0_off1 i (BitVec.ofNat 32 (128 * r.val)) 0] S128.size (inb_ws i r)).toLoadRect
    (View.loadsAt_vmem h_S128)) : P F (Vec F S128 .f32)) >>= fun v =>
  (Prog.lift (.load B.wsb (Rect.unit (s := S2x1280x128) ![k0_off2 i 0, 128 * r.val, 0] S1x128x128.size (inb_wsb (slotLt i) r)).toLoadRect
    (View.loadsAt_vmem h_S1x128x128)) : P F (Vec F S1x128x128 .f32)) >>= fun _ =>
  Prog.lift (.store B.wsb (Rect.unit (s := S2x1280x128) ![k0_off2 i 0, 128 * r.val, 0] S1x128x128.size (inb_wsb (slotLt i) r))
    (shapeCast S1x128x128 (transpose S128x128 [1, 0] (broadcastTo S128x128 (shapeCast S1x128 (shapeCast S1x128 v shapeCasts_S128_S1x128)
      shapeCasts_S1x128_S1x128) broadcasts_S1x128_S128x128) transposes_S128x128_p1_0_S128x128) shapeCasts_S128x128_S1x128x128)
    Finset.univ (View.stores_vmem_bits_univ h_S1x128x128 rfl) (.inl rfl))

/-- A whole nine-slot buffer set to one value. -/
def fill9 (b : Memref sig .tc .vmem S9x8x512 .f32) (v : BitVec 32) : P F PUnit :=
  (Prog.lift (.load b (Rect.unit (s := S9x8x512) ![0, 0, 0] S9x8x512.size inb_S9x8x512_S9x8x512_0_0_0).toLoadRect
    (View.loadsAt_vmem h_S9x8x512)) : P F (Vec F S9x8x512 .f32)) >>= fun _ =>
  Prog.lift (.store b (Rect.unit (s := S9x8x512) ![0, 0, 0] S9x8x512.size inb_S9x8x512_S9x8x512_0_0_0)
    (shapeCast S9x8x512 (broadcast S9x8x512 (Scalar.ofBits .f32 v : F .f32)) shapeCasts_S9x8x512_S9x8x512)
    Finset.univ (View.stores_vmem_bits_univ h_S9x8x512 rfl) (.inl rfl))

theorem inb_row8 (i : Fin 8) : ∀ a, (![i.val, 0] : Fin 2 → Nat) a + S1x512.size a ≤ S8x512.size a := by
  intro a; fin_cases a <;> simp [S1x512, S8x512] <;> omega
theorem inb_blk8 (i : Fin 8) : ∀ a, (![i.val, 0, 0] : Fin 3 → Nat) a + S1x8x512.size a ≤ S8x8x512.size a := by
  intro a; fin_cases a <;> simp [S1x8x512, S8x8x512] <;> omega
theorem inb_blk9 (i : Fin 8) : ∀ a, (![i.val, 0, 0] : Fin 3 → Nat) a + S1x8x512.size a ≤ S9x8x512.size a := by
  intro a; fin_cases a <;> simp [S1x8x512, S9x8x512] <;> omega

/-- Row `i` of an `8 × 512` buffer, loaded. -/
def ldRow (b : Memref sig .tc .vmem S8x512 .f32) (i : Fin 8) : P F (Vec F S1x512 .f32) :=
  Prog.lift (.load b (Rect.unit (s := S8x512) ![i.val, 0] S1x512.size (inb_row8 i)).toLoadRect (View.loadsAt_vmem h_S1x512))
/-- And stored. -/
def stRow (b : Memref sig .tc .vmem S8x512 .f32) (i : Fin 8) (v : FVec F S1x512 .f32) : P F PUnit :=
  ldRow b i >>= fun _ =>
  Prog.lift (.store b (Rect.unit (s := S8x512) ![i.val, 0] S1x512.size (inb_row8 i)) v
    Finset.univ (View.stores_vmem_bits_univ h_S1x512 rfl) (.inl rfl))
/-- Block `i` of an `8 × 8 × 512` buffer, stored. -/
def stBlk (b : Memref sig .tc .vmem S8x8x512 .f32) (i : Fin 8) (v : FVec F S8x512 .f32) : P F PUnit :=
  (Prog.lift (.load b (Rect.unit (s := S8x8x512) ![i.val, 0, 0] S1x8x512.size (inb_blk8 i)).toLoadRect
    (View.loadsAt_vmem h_S1x8x512)) : P F (Vec F S1x8x512 .f32)) >>= fun _ =>
  Prog.lift (.store b (Rect.unit (s := S8x8x512) ![i.val, 0, 0] S1x8x512.size (inb_blk8 i))
    (shapeCast S1x8x512 v shapeCasts_S8x512_S1x8x512)
    Finset.univ (View.stores_vmem_bits_univ h_S1x8x512 rfl) (.inl rfl))
/-- Slot `i` of a nine-slot buffer, loaded. -/
def ldSlot (b : Memref sig .tc .vmem S9x8x512 .f32) (i : Fin 8) : P F (Vec F S1x8x512 .f32) :=
  Prog.lift (.load b (Rect.unit (s := S9x8x512) ![i.val, 0, 0] S1x8x512.size (inb_blk9 i)).toLoadRect (View.loadsAt_vmem h_S1x8x512))

/-- The row scale over the cap, and the cap over the temperature in base two, spread along the sublanes. -/
def scaleStep (B : Bufs) (i : Fin 8) (_ : PUnit) : P F PUnit :=
  ldRow B.xs i >>= fun vx =>
  ldRow B.temp i >>= fun vt =>
  stBlk B.xss i (broadcastTo S8x512 (shapeCast S1x512 (mulf vx (broadcast S1x512 (Scalar.ofBits .f32 0x3D088889#32 : F .f32)))
    shapeCasts_S1x512_S1x512) broadcasts_S1x512_S8x512) >>= fun _ =>
  stBlk B.tcs i (broadcastTo S8x512 (shapeCast S1x512 (divf (broadcast S1x512 (Named.named κ "softcap_log2e" 0x422D1F97#32 : F .f32)) vt)
    shapeCasts_S1x512_S1x512) broadcasts_S1x512_S8x512)

/-- The first grid point's preparation. -/
def initBody (B : Bufs) : P F PUnit :=
  fill9 B.m 0xDD5E0B6B#32 >>= fun _ =>
  fill9 B.s0 0x00000000#32 >>= fun _ =>
  fill9 B.s1 0x00000000#32 >>= fun _ =>
  fill9 B.s2 0x00000000#32 >>= fun _ =>
  fill9 B.tg 0x00000000#32 >>= fun _ =>
  (Prog.lift (.load B.wsb (Rect.unit (s := S2x1280x128) ![0, 0, 0] S2x1280x128.size inb_S2x1280x128_S2x1280x128_0_0_0).toLoadRect
    (View.loadsAt_vmem h_S2x1280x128)) : P F (Vec F S2x1280x128 .f32)) >>= fun _ =>
  (Prog.lift (.store B.wsb (Rect.unit (s := S2x1280x128) ![0, 0, 0] S2x1280x128.size inb_S2x1280x128_S2x1280x128_0_0_0)
    (shapeCast S2x1280x128 (broadcast S2x1280x128 (Scalar.ofBits .f32 0x00000000#32 : F .f32)) shapeCasts_S2x1280x128_S2x1280x128)
    Finset.univ (View.stores_vmem_bits_univ h_S2x1280x128 rfl) (.inl rfl)) : P F PUnit) >>= fun _ =>
  (Prog.lift (.load B.accB (Rect.unit (s := S1280x512) ![0, 0] S1280x512.size inb_S1280x512_S1280x512_0_0).toLoadRect
    (View.loadsAt_vmem h_S1280x512)) : P F (Vec F S1280x512 .f32)) >>= fun _ =>
  (Prog.lift (.store B.accB (Rect.unit (s := S1280x512) ![0, 0] S1280x512.size inb_S1280x512_S1280x512_0_0)
    (shapeCast S1280x512 (broadcast S1280x512 (Scalar.ofBits .f32 0x00000000#32 : F .f32)) shapeCasts_S1280x512_S1280x512)
    Finset.univ (View.stores_vmem_bits_univ h_S1280x512 rfl) (.inl rfl)) : P F PUnit) >>= fun _ =>
  runAll 8 (scaleStep B) ⟨⟩

/-- Block `i`'s eight sublanes' statistics combined, and its three results stored. -/
def finStep (B : Bufs) (i : Fin 8) (_ : PUnit) : P F PUnit :=
  ldSlot B.m i >>= fun vm =>
  ldSlot B.s0 i >>= fun v0 =>
  ldSlot B.s1 i >>= fun v1 =>
  ldSlot B.s2 i >>= fun v2 =>
  let m : FVec F S8x512 .f32 := shapeCast S8x512 vm shapeCasts_S1x8x512_S8x512
  let s0 : FVec F S8x512 .f32 := shapeCast S8x512 v0 shapeCasts_S1x8x512_S8x512
  let s1 : FVec F S8x512 .f32 := shapeCast S8x512 v1 shapeCasts_S1x8x512_S8x512
  let s2 : FVec F S8x512 .f32 := shapeCast S8x512 v2 shapeCasts_S1x8x512_S8x512
  let mx : FVec F S1x512 .f32 := shapeCast S1x512
    (multiReduction .maximumf [0] S512 m 0xFF800000#32 reduces_S8x512_S512 (.inl rfl) rfl) shapeCasts_S512_S1x512
  let d : FVec F S8x512 .f32 := subf m (broadcastTo S8x512 mx broadcasts_S1x512_S8x512)
  let a : FVec F S8x512 .f32 := exp2 d
  let t2 : FVec F S8x512 .f32 :=
    mulf a (addf s2 (mulf d (addf (mulf (broadcast S8x512 (Scalar.ofBits .f32 0x40000000#32 : F .f32)) s1) (mulf d s0))))
  let t1 : FVec F S8x512 .f32 := mulf a (addf s1 (mulf d s0))
  let t0 : FVec F S8x512 .f32 := mulf a s0
  let r0 : FVec F S1x512 .f32 := shapeCast S1x512
    (multiReduction .add [0] S512 t0 0x00000000#32 reduces_S8x512_S512 (.inl rfl) rfl) shapeCasts_S512_S1x512
  let r1 : FVec F S1x512 .f32 := shapeCast S1x512
    (multiReduction .add [0] S512 t1 0x00000000#32 reduces_S8x512_S512 (.inl rfl) rfl) shapeCasts_S512_S1x512
  let r2 : FVec F S1x512 .f32 := shapeCast S1x512
    (multiReduction .add [0] S512 t2 0x00000000#32 reduces_S8x512_S512 (.inl rfl) rfl) shapeCasts_S512_S1x512
  let ls : FVec F S1x512 .f32 := log r0
  let mean : FVec F S1x512 .f32 := divf r1 r0
  stRow B.ent i (subf ls (mulf (broadcast S1x512 (Named.named κ "ln2" 0x3F317218#32 : F .f32)) mean)) >>= fun _ =>
  stRow B.var i (mulf (broadcast S1x512 (Named.named κ "ln2_sq" 0x3EF5FDF0#32 : F .f32)) (subf (divf r2 r0) (mulf mean mean))) >>= fun _ =>
  ldSlot B.tg i >>= fun vg =>
  ldRow B.temp i >>= fun vt =>
  stBlk B.lp i (subf (subf (mulf (shapeCast S8x512 vg shapeCasts_S1x8x512_S8x512)
      (broadcastTo S8x512 (divf (broadcast S1x512 (Scalar.ofBits .f32 0x41F00000#32 : F .f32)) vt) broadcasts_S1x512_S8x512))
      (broadcastTo S8x512 (mulf (broadcast S1x512 (Named.named κ "ln2" 0x3F317218#32 : F .f32)) mx) broadcasts_S1x512_S8x512))
    (broadcastTo S8x512 ls broadcasts_S1x512_S8x512))

/-- The last grid point's end: the last block of the last tile folded, then the results. -/
def finBody (i : grid0.Coords) (B : Bufs) : P F PUnit :=
  epilogue B B.accB (BitVec.ofNat 32 (i 0).val) (ii := 7) (st := 7) (by decide) (by decide) (wLt' i) >>= fun _ =>
  runAll 8 (finStep B) ⟨⟩

/-- The kernel body at grid point `i`. -/
def body (i : grid0.Coords) (B : Bufs) : P F PUnit := do
  if _h : Scalar.cmpi .ne (Scalar.extui (Scalar.cmpi .eq (BitVec.ofNat 32 (i 0).val) 0#32) : BitVec 32) 0#32 = 1#1 then do
    initBody B
  else do
    pure ⟨⟩
  runAll 10 (wsStep i B) ⟨⟩
  Scf.Loop.for k0_t1_loop k0_t1_ok ⟨⟩ fun t _ => pairBody i B t
  if _h : k0_cond2 i = 1#1 then do
    finBody i B
  else do
    pure ⟨⟩
  pure ⟨⟩

end Cert.KernelIdeal.Body

end
-- ==== Proof.State.lean ====
module

public import proofs.«01_k».proof.Proof.Body
public import proofs.«01_k».proof.Proof.Gen.KernelIdeal.Frame

@[expose] public section

/-!
# Running the body on the contents of its buffers

The body's nineteen buffers are named, `St` gives each its contents, and `W` says that a program, started with the
buffers at `σ`, ends with a result and contents that meet a predicate. The rules below take a program apart; nothing
after this file speaks of ownership until the launch.
-/

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ (UR sig nD τ) ℕ

/-- The buffers' names. -/
inductive Nm where
  | x | xs | w | ws | tgt | temp | ent | var | lp | accA | accB | wsb | xss | tcs | m | s0 | s1 | s2 | tg
  deriving DecidableEq

instance : Fintype Nm :=
  ⟨{.x, .xs, .w, .ws, .tgt, .temp, .ent, .var, .lp, .accA, .accB, .wsb, .xss, .tcs, .m, .s0, .s1, .s2, .tg},
    by intro n; cases n <;> decide⟩

/-- Each buffer's shape. -/
abbrev Nm.sh : Nm → Shape
  | .x => S8x512x4096 | .xs => S8x512 | .w => S1280x4096 | .ws => S32000 | .tgt => S8x8x512 | .temp => S8x512
  | .ent => S8x512 | .var => S8x512 | .lp => S8x8x512 | .accA => S1280x512 | .accB => S1280x512 | .wsb => S2x1280x128
  | .xss => S8x8x512 | .tcs => S8x8x512 | .m => S9x8x512 | .s0 => S9x8x512 | .s1 => S9x8x512 | .s2 => S9x8x512
  | .tg => S9x8x512

/-- Each buffer's element type. -/
abbrev Nm.el : Nm → EltTy
  | .x => .fp8e4m3 | .w => .fp8e4m3 | .tgt => .i32 | _ => .f32

/-- The buffer of a name. -/
abbrev Bufs.at (B : Bufs) : (n : Nm) → Memref sig .tc .vmem n.sh n.el
  | .x => B.x | .xs => B.xs | .w => B.w | .ws => B.ws | .tgt => B.tgt | .temp => B.temp
  | .ent => B.ent | .var => B.var | .lp => B.lp | .accA => B.accA | .accB => B.accB | .wsb => B.wsb
  | .xss => B.xss | .tcs => B.tcs | .m => B.m | .s0 => B.s0 | .s1 => B.s1 | .s2 => B.s2 | .tg => B.tg

/-- The contents of the buffers. -/
abbrev St (F : FTy → Type) := (n : Nm) → n.sh.Idx → Elt F n.el

/-- Contents with one buffer's replaced. -/
def St.set (σ : St F) (n : Nm) (X : n.sh.Idx → Elt F n.el) : St F := Function.update σ n X

omit [FloatOps F] [Named F] in
theorem St.set_same (σ : St F) (n : Nm) (X : n.sh.Idx → Elt F n.el) : σ.set n X n = X := Function.update_self ..
omit [FloatOps F] [Named F] in
theorem St.set_ne (σ : St F) {n n' : Nm} (h : n' ≠ n) (X : n.sh.Idx → Elt F n.el) : σ.set n X n' = σ n' :=
  Function.update_of_ne h ..

/-- Core `c` owns the buffers, at the contents `σ`. -/
def Own (c : Dev nD) (B : Bufs) (σ : St F) : sProp 𝕄 :=
  bigSep Finset.univ fun n : Nm => owns (c : Thread nD τ) (B.at n) fullShare (σ n)

/-- Started with the buffers at `σ`, the program ends with a result and contents that meet `Q`. -/
def W (c : Dev nD) (B : Bufs) {α : Type} (p : P F α) (σ : St F) (Q : α → St F → Prop) : Prop :=
  Own c B σ ⊢ wp frame (wpE defs₀ Variants.none (c : Thread nD τ) none) Set.univ p
    (fun a => iprop(∃ σ', ⌜Q a σ'⌝ ∗ Own c B σ'))

variable {c : Dev nD} {B : Bufs}

omit [FloatOps F] [Named F] in
/-- One buffer taken out of the rest. -/
theorem Own_split (n : Nm) (σ : St F) :
    Own c B σ = iprop((∃ f, ⌜(B.at n).view.read (Elt F) f = σ n⌝ ∗ ((B.at n).view.loc (c : Thread nD τ) ↦[(B.at n).view.set]{fullShare} f))
      ∗ bigSep (Finset.univ.erase n) fun n' : Nm => owns (c : Thread nD τ) (B.at n') fullShare (σ n')) :=
  bigSep_univ_split n

theorem W.pure {α : Type} {a : α} {σ : St F} {Q : α → St F → Prop} (h : Q a σ) : W c B (Pure.pure a) σ Q := by
  unfold W; rw [wp_pure]
  iintro H; imodintro; iexists σ; isplitr
  · ipureintro; exact h
  · iexact H

theorem W.mono {α : Type} {p : P F α} {σ : St F} {Q Q' : α → St F → Prop} (h : W c B p σ Q)
    (hQ : ∀ a σ', Q a σ' → Q' a σ') : W c B p σ Q' :=
  BIBase.Entails.trans h (wp_mono _ _ _ fun a => by
    iintro ⟨%σ', %hq, H⟩; iexists σ'; isplitr
    · ipureintro; exact hQ _ _ hq
    · iexact H)

theorem W.bind {α β : Type} {p : P F α} {k : α → P F β} {σ : St F} {Q : β → St F → Prop}
    (h : W c B p σ fun a σ' => W c B (k a) σ' Q) : W c B (p >>= k) σ Q := by
  unfold W; rw [wp_bind]
  refine BIBase.Entails.trans h (wp_mono _ _ _ fun a => ?_)
  iintro ⟨%σ', %hq, H⟩
  ihave H := (show Own c B σ' ⊢ _ from hq) $$ H
  iexact H

/-- A load through a rectangle of the buffer `n` hands on what the contents hold there. -/
theorem W.load (n : Nm) {r : Rect n.sh} {hl : (B.at n).view.LoadsAt r} {σ : St F}
    {Q : (r.shape.Idx → Elt F n.el) → St F → Prop} (h : Q (fun j => σ n (r.emb j)) σ) :
    W c B (Prog.lift (.load (B.at n) r.toLoadRect hl)) σ Q := by
  unfold W
  rw [Own_split n]
  iintro ⟨⟨%f, %hf, Hn⟩, Hr⟩
  iapply (wp_load_rect (defs := defs₀) Variants.none (c : Thread nD τ) none Set.univ (m := B.at n) (r := r) (hl := hl) (q := fullShare) (f := f)
    (k := Prog.ret) (S := (B.at n).view.set) ((B.at n).view.set_slice_subset r)) $$ Hn
  iintro Hn
  rw [wp_ret]
  imodintro
  iexists σ
  isplitr
  · ipureintro
    have : ((B.at n).access r).read (Elt F) f = fun j => σ n (r.emb j) := by
      rw [← hf]; rfl
    rw [this]; exact h
  · rw [Own_split n]
    isplitl [Hn]
    · iexists f; isplitr
      · ipureintro; exact hf
      · iexact Hn
    · iexact Hr

/-- A store through a rectangle of the buffer `n` replaces its contents there. -/
theorem W.store (n : Nm) {r : Rect n.sh} {w : r.shape.Idx → Elt F n.el} {hx : ((B.at n).access r).Stores Finset.univ}
    {hm : (Finset.univ : Finset r.shape.Idx) = Finset.univ ∨ ∀ a, r.stride a = 1} {σ : St F}
    {Q : PUnit → St F → Prop} (h : Q ⟨⟩ (σ.set n (r.overlay (σ n) w))) :
    W c B (Prog.lift (.store (B.at n) r w Finset.univ hx hm)) σ Q := by
  unfold W
  rw [Own_split n]
  iintro ⟨⟨%f, %hf, Hn⟩, Hr⟩
  iapply (wp_store (defs := defs₀) Variants.none (c : Thread nD τ) none Set.univ (m := B.at n) (r := r) (w := w) (hx := hx) (hm := hm) (f := f)
    (k := Prog.ret) (S := (B.at n).view.set) ((B.at n).setOn_access_subset r _)) $$ Hn
  iintro Hn
  rw [wp_ret]
  imodintro
  iexists σ.set n (r.overlay (σ n) w)
  isplitr
  · ipureintro; exact h
  · rw [Own_split n]
    isplitl [Hn]
    · iexists _; isplitr; swap
      · iexact Hn
      · ipureintro
        rw [St.set_same]
        rw [← hf]
        funext j
        by_cases hj : j ∈ r.set
        · obtain ⟨i, rfl⟩ := r.exists_idx_of_mem hj
          change _ = r.overlay _ w (r.emb i)
          rw [Rect.overlay_emb]
          exact View.read_writes_cons_emb (B.at n).view f r w [] i
        · rw [Rect.overlay_of_not_mem _ _ _ hj]
          exact View.read_writes_cons_miss (B.at n).view f ⟨r, w⟩ [] j hj
    · rw [bigSep_congr (s := Finset.univ.erase n) (Φ := fun n' => owns (c : Thread nD τ) (B.at n') fullShare (σ.set n (r.overlay (σ n) w) n'))
        (Ψ := fun n' => owns (c : Thread nD τ) (B.at n') fullShare (σ n'))
        (fun n' hn' => by rw [St.set_ne _ (Finset.ne_of_mem_erase hn')])]
      iexact Hr

/-- Programs run in turn: an invariant that each carries to the next. -/
theorem W.runAll {α : Type} {N : Nat} {f : Fin N → α → P F α} (I : Nat → α → St F → Prop) {a : α} {σ : St F}
    {Q : α → St F → Prop} (h0 : I 0 a σ)
    (hstep : ∀ (i : Fin N) (b : α) (σ' : St F), I i.val b σ' → W c B (f i b) σ' (I (i.val + 1)))
    (hQ : ∀ b σ', I N b σ' → Q b σ') : W c B (runAll N f a) σ Q := by
  unfold Body.runAll
  suffices H : ∀ (k i : Nat) (h : i + k ≤ N) (b : α) (σ' : St F), i + k = N → I i b σ' → W c B (runFrom f k i h b) σ' Q from
    H N 0 _ a σ (by omega) h0
  intro k
  induction k with
  | zero => intro i h b σ' hk hI; obtain rfl : i = N := by omega
            exact W.pure (hQ _ _ hI)
  | succ k ih => intro i h b σ' hk hI
                 exact W.bind ((hstep ⟨i, by omega⟩ b σ' hI).mono fun b' σ'' h' => ih (i + 1) (by omega) b' σ'' (by omega) h')

/-- A counted loop: an invariant that each trip carries to the next. -/
theorem W.for {w : Nat} {α : Type} {l : Scf.Loop w} {hok : l.OK} {f : Fin l.trips → α → P F α} (I : Nat → α → St F → Prop)
    {a : α} {σ : St F} {Q : α → St F → Prop} (h0 : I 0 a σ)
    (hstep : ∀ (i : Fin l.trips) (b : α) (σ' : St F), I i.val b σ' → W c B (f i b) σ' (I (i.val + 1)))
    (hQ : ∀ b σ', I l.trips b σ' → Q b σ') : W c B (Scf.Loop.for l hok a f) σ Q := by
  unfold W
  iintro H
  iapply (Scf.wp_for _ _ _ l.lb l.ub l.st hok a f (fun k b => iprop(∃ σ', ⌜I k b σ'⌝ ∗ Own c B σ')) (fun k b => by
    iintro ⟨%σ', %hI, H⟩
    ihave H := (show Own c B σ' ⊢ _ from hstep k b σ' hI) $$ H
    iexact H))
  isplitl [H]
  · iexists σ; isplitr
    · ipureintro; exact h0
    · iexact H
  · iintro %b
    iintro ⟨%σ', %hI, H⟩
    iexists σ'; isplitr
    · ipureintro; exact hQ _ _ hI
    · iexact H

/-! ## Programs that leave the inputs alone -/

/-- The buffers the body only reads. -/
def Nm.isIn : Nm → Bool
  | .x => true | .xs => true | .w => true | .ws => true | .tgt => true | .temp => true | _ => false

/-- The program runs from any contents and leaves the inputs as they were. -/
def Fr (c : Dev nD) (B : Bufs) {α : Type} (p : P F α) : Prop :=
  ∀ σ : St F, W c B p σ fun _ σ' => ∀ n : Nm, n.isIn = true → σ' n = σ n

theorem Fr.pure {α : Type} (a : α) : Fr (F := F) c B (Pure.pure a) := fun _ => W.pure fun _ _ => rfl

theorem Fr.bind {α β : Type} {p : P F α} {k : α → P F β} (hp : Fr c B p) (hk : ∀ a, Fr c B (k a)) : Fr c B (p >>= k) :=
  fun σ => W.bind ((hp σ).mono fun a σ' h => (hk a σ').mono fun _ _ h' n hn => (h' n hn).trans (h n hn))

theorem Fr.load (n : Nm) {r : Rect n.sh} {hl : (B.at n).view.LoadsAt r} :
    Fr (F := F) c B (Prog.lift (.load (B.at n) r.toLoadRect hl)) := fun _ => W.load n fun _ _ => rfl

theorem Fr.store (n : Nm) (hn : n.isIn = false) {r : Rect n.sh} {w : r.shape.Idx → Elt F n.el}
    {hx : ((B.at n).access r).Stores Finset.univ} {hm : (Finset.univ : Finset r.shape.Idx) = Finset.univ ∨ ∀ a, r.stride a = 1} :
    Fr c B (Prog.lift (.store (B.at n) r w Finset.univ hx hm)) := fun _ => W.store n fun n' hn' =>
  St.set_ne _ (by rintro rfl; rw [hn] at hn'; exact Bool.noConfusion hn') _

theorem Fr.runAll {α : Type} {N : Nat} {f : Fin N → α → P F α} (h : ∀ i b, Fr c B (f i b)) (a : α) : Fr c B (runAll N f a) :=
  fun σ => W.runAll (fun _ _ σ' => ∀ n : Nm, n.isIn = true → σ' n = σ n) (fun _ _ => rfl)
    (fun i b σ' hI => (h i b σ').mono fun _ _ h' n hn => (h' n hn).trans (hI n hn)) fun _ _ h => h

theorem Fr.for {w : Nat} {α : Type} {l : Scf.Loop w} {hok : l.OK} {f : Fin l.trips → α → P F α} (h : ∀ i b, Fr c B (f i b)) (a : α) :
    Fr c B (Scf.Loop.for l hok a f) :=
  fun σ => W.for (fun _ _ σ' => ∀ n : Nm, n.isIn = true → σ' n = σ n) (fun _ _ => rfl)
    (fun i b σ' hI => (h i b σ').mono fun _ _ h' n hn => (h' n hn).trans (hI n hn)) fun _ _ h => h

end Cert.KernelIdeal.Body

end
-- ==== Proof.Inputs.lean ====
module

public import proofs.«01_k».proof.Proof.State

@[expose] public section

/-!
# The body leaves its inputs alone
-/

noncomputable section

namespace Cert.KernelIdeal.Body

open Idealize.ShloMosaic Idealize.SL.Sem
open Cert.KernelIdeal Cert.KernelIdeal.Facts₀ Cert.KernelIdeal.Facts Cert.KernelIdeal.Gen

variable {F : FTy → Type} [FloatOps F] [Named F]
variable {c : Dev nD} {B : Bufs}

theorem fr_epilogue_m {st : Nat} (h : st < 9) (k : Fin 4) (v : FVec F S8x128 .f32) : Fr c B (stCol9 B.m h k v) :=
  Fr.bind (Fr.load .m) fun _ => Fr.store .m rfl
theorem fr_epilogue_s0 {st : Nat} (h : st < 9) (k : Fin 4) (v : FVec F S8x128 .f32) : Fr c B (stCol9 B.s0 h k v) :=
  Fr.bind (Fr.load .s0) fun _ => Fr.store .s0 rfl
theorem fr_epilogue_s1 {st : Nat} (h : st < 9) (k : Fin 4) (v : FVec F S8x128 .f32) : Fr c B (stCol9 B.s1 h k v) :=
  Fr.bind (Fr.load .s1) fun _ => Fr.store .s1 rfl
theorem fr_epilogue_s2 {st : Nat} (h : st < 9) (k : Fin 4) (v : FVec F S8x128 .f32) : Fr c B (stCol9 B.s2 h k v) :=
  Fr.bind (Fr.load .s2) fun _ => Fr.store .s2 rfl
theorem fr_epilogue_tg {st : Nat} (h : st < 9) (k : Fin 4) (v : FVec F S8x128 .f32) : Fr c B (stCol9 B.tg h k v) :=
  Fr.bind (Fr.load .tg) fun _ => Fr.store .tg rfl

/-- The two accumulators. -/
abbrev Bufs.acc (B : Bufs) (a : Bool) : Memref sig .tc .vmem S1280x512 .f32 := if a then B.accA else B.accB

theorem fr_epiRow (a : Bool) {k : Nat} (hk : k < 2) (q : Fin 4) (xs tc : FVec F S8x128 .f32) (lo hi : IVec S8x128 32) (r : Fin 10)
    (s : Stats F) : Fr c B (epiRow B (B.acc a) hk q xs tc lo hi r s) := by
  cases a
  · exact Fr.bind (Fr.load .accB) fun _ => Fr.bind (Fr.load .wsb) fun _ => Fr.pure _
  · exact Fr.bind (Fr.load .accA) fun _ => Fr.bind (Fr.load .wsb) fun _ => Fr.pure _

theorem fr_epilogue (a : Bool) (jj : BitVec 32) {ii st k : Nat} (hi8 : ii < 8) (hst : st < 9) (hk : k < 2) :
    Fr (F := F) c B (epilogue B (B.acc a) jj hi8 hst hk) :=
  Fr.runAll (fun q _ =>
    Fr.bind (Fr.load .xss) fun _ => Fr.bind (Fr.load .tcs) fun _ => Fr.bind (Fr.load .tgt) fun _ =>
    Fr.bind (Fr.load .m) fun _ => Fr.bind (Fr.load .s0) fun _ => Fr.bind (Fr.load .s1) fun _ => Fr.bind (Fr.load .s2) fun _ =>
    Fr.bind (Fr.load .tg) fun _ =>
    Fr.bind (Fr.runAll (fun r s => fr_epiRow a hk q _ _ _ _ r s) _) fun s =>
    Fr.bind (fr_epilogue_m hst q s.m) fun _ => Fr.bind (fr_epilogue_s0 hst q s.s0) fun _ =>
    Fr.bind (fr_epilogue_s1 hst q s.s1) fun _ => Fr.bind (fr_epilogue_s2 hst q s.s2) fun _ => fr_epilogue_tg hst q s.tg) _

theorem fr_gemm (a : Bool) {i : Nat} (h : i < 8) : Fr (F := F) c B (gemm B (B.acc a) h) := by
  cases a
  · exact Fr.bind (Fr.load .w) fun _ => Fr.bind (Fr.load .x) fun _ => Fr.bind (Fr.load .accB) fun _ => Fr.store .accB rfl
  · exact Fr.bind (Fr.load .w) fun _ => Fr.bind (Fr.load .x) fun _ => Fr.bind (Fr.load .accA) fun _ => Fr.store .accA rfl

theorem fr_pairBody (i : grid0.Coords) (t : Fin k0_t1_loop.trips) : Fr (F := F) c B (pairBody i B t) :=
  Fr.bind (fr_gemm true (xLt t)) fun _ => Fr.bind (fr_epilogue false _ (iiLt t) (stLt i t) (wLt i t)) fun _ =>
  Fr.bind (fr_gemm false (xLt' t)) fun _ => fr_epilogue true _ (iiLt' t) (stLt' t) (wLt' i)

theorem fr_wsStep (i : grid0.Coords) (r : Fin 10) (u : PUnit) : Fr (F := F) c B (wsStep i B r u) :=
  Fr.bind (Fr.load .ws) fun _ => Fr.bind (Fr.load .wsb) fun _ => Fr.store .wsb rfl

theorem fr_scaleStep (i : Fin 8) (u : PUnit) : Fr (F := F) c B (scaleStep B i u) :=
  Fr.bind (Fr.load .xs) fun _ => Fr.bind (Fr.load .temp) fun _ =>
  Fr.bind (Fr.bind (Fr.load .xss) fun _ => Fr.store .xss rfl) fun _ => Fr.bind (Fr.load .tcs) fun _ => Fr.store .tcs rfl

theorem fr_initBody : Fr (F := F) c B (initBody (F := F) B) :=
  Fr.bind (Fr.bind (Fr.load .m) fun _ => Fr.store .m rfl) fun _ =>
  Fr.bind (Fr.bind (Fr.load .s0) fun _ => Fr.store .s0 rfl) fun _ =>
  Fr.bind (Fr.bind (Fr.load .s1) fun _ => Fr.store .s1 rfl) fun _ =>
  Fr.bind (Fr.bind (Fr.load .s2) fun _ => Fr.store .s2 rfl) fun _ =>
  Fr.bind (Fr.bind (Fr.load .tg) fun _ => Fr.store .tg rfl) fun _ =>
  Fr.bind (Fr.load .wsb) fun _ => Fr.bind (Fr.store .wsb rfl) fun _ =>
  Fr.bind (Fr.load .accB) fun _ => Fr.bind (Fr.store .accB rfl) fun _ =>
  Fr.runAll (fun i u => fr_scaleStep i u) _

theorem fr_finStep (i : Fin 8) (u : PUnit) : Fr (F := F) c B (finStep B i u) :=
  Fr.bind (Fr.load .m) fun _ => Fr.bind (Fr.load .s0) fun _ => Fr.bind (Fr.load .s1) fun _ => Fr.bind (Fr.load .s2) fun _ =>
  Fr.bind (Fr.bind (Fr.load .ent) fun _ => Fr.store .ent rfl) fun _ =>
  Fr.bind (Fr.bind (Fr.load .var) fun _ => Fr.store .var rfl) fun _ =>
  Fr.bind (Fr.load .tg) fun _ => Fr.bind (Fr.load .temp) fun _ =>
  Fr.bind (Fr.load .lp) fun _ => Fr.store .lp rfl

theorem fr_finBody (i : grid0.Coords) : Fr (F := F) c B (finBody i B) :=
  Fr.bind (fr_epilogue false _ _ _ (wLt' i)) fun _ => Fr.runAll (fun i u => fr_finStep i u) _

/-- What the body does after its first point's preparation. -/
theorem fr_rest (i : grid0.Coords) :
    Fr (F := F) c B (runAll 10 (wsStep i B) PUnit.unit >>= fun _ =>
      Scf.Loop.for k0_t1_loop Gen.k0_t1_ok PUnit.unit (fun t _ => pairBody i B t) >>= fun _ =>
      if _h : k0_cond2 i = 1#1 then finBody i B >>= fun _ => Pure.pure PUnit.unit else Pure.pure PUnit.unit) :=
  Fr.bind (Fr.runAll (fun r u => fr_wsStep i r u) _) fun _ => Fr.bind (Fr.for (fun t _ => fr_pairBody i t) _) fun _ => by
    split
    · exact Fr.bind (fr_finBody i) fun _ => Fr.pure _
    · exact Fr.pure _

/-- The body, from any contents, leaves its inputs as they were. -/
theorem fr_body (i : grid0.Coords) : Fr (F := F) c B (body i B) := by
  unfold body
  extract_lets jp
  split
  · exact Fr.bind fr_initBody fun _ => fr_rest i
  · exact fr_rest i

end Cert.KernelIdeal.Body

end
-- ==== Proof.Printed.lean ====
module

public import proofs.«01_k».proof.Proof.Body

/-! # The printed body, as the short program

The printed kernel writes every statement of the unrolled loops out.  Both programs are the same tree of
loads and stores.  `run` and `run'` are two names for walking such a tree from its root; comparing the walk of one
program with the walk of the other goes step by step, which is how the equations below are checked. -/

@[expose] public section

open Idealize.ShloMosaic Idealize.SL.Sem

namespace Cert.KernelIdeal.Body

open Cert.KernelIdeal Cert.KernelIdeal.Facts₀ Cert.KernelIdeal.Facts

variable {F : FTy → Type} [FloatOps F] [Named F]

set_option maxRecDepth 65536
set_option maxHeartbeats 0

/-- A program rebuilt from its root. -/
def run {α : Type} : P F α → P F α
  | .ret a => .ret a
  | .op e k => .op e (fun x => run (k x))
/-- The same, under another name. -/
def run' {α : Type} : P F α → P F α
  | .ret a => .ret a
  | .op e k => .op e (fun x => run' (k x))
theorem run_eq {α : Type} (p : P F α) : run p = p := by
  induction p with
  | ret a => rfl
  | op e k ih => exact congrArg (Prog.op e) (funext ih)
theorem run'_eq {α : Type} (p : P F α) : run' p = p := by
  induction p with
  | ret a => rfl
  | op e k ih => exact congrArg (Prog.op e) (funext ih)
/-- Two programs whose walks agree are equal. -/
theorem eq_of_run {α : Type} {p q : P F α} (h : run p = run' q) : p = q :=
  (run_eq p).symm.trans (h.trans (run'_eq q))

/-- The loop's printed region, over the values it takes from the statements before it. -/
noncomputable def loopText (i : grid0.Coords) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) (arg0 v3 c0_i32_21 c1_i32 : BitVec 32) (k0_t1 : Fin k0_t1_loop.trips) : P F PUnit := do
    let ⟨v138, v141, v143, v146, v156, v2700, v2703, v2711, v2713, v2952, v2972, v2974, v2977, v2988, v3014, v3024, v3026⟩ : Σ' (v138 : BitVec 32) (v141 : BitVec 32) (v143 : BitVec 32) (v146 : BitVec 32) (v156 : BitVec 32) (v2700 : FVec F S8x128 .f32) (v2703 : FVec F S8x128 .f32) (v2711 : IVec S8x128 32) (v2713 : IVec S8x128 32) (v2952 : FVec F S8x128 .f32) (v2972 : FVec F S8x128 .f32) (v2974 : FVec F S8x128 .f32) (v2977 : FVec F S8x128 .f32) (v2988 : FVec F S16x8x128 .f32) (v3014 : FVec F S8x128 .f32) (v3024 : FVec F S8x128 .f32), IVec S8x128 1 ← k0_part426 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 c0_i32_21 c1_i32 k0_t1
    let ⟨v5241, v5244, v5252, v5254, v5742, v5762, v5764, v5767, v5778, v5934, v5936, v5937⟩ : Σ' (v5241 : FVec F S8x128 .f32) (v5244 : FVec F S8x128 .f32) (v5252 : IVec S8x128 32) (v5254 : IVec S8x128 32) (v5742 : FVec F S8x128 .f32) (v5762 : FVec F S8x128 .f32) (v5764 : FVec F S8x128 .f32) (v5767 : FVec F S8x128 .f32) (v5778 : FVec F S16x8x128 .f32) (v5934 : FVec F S8x128 .f32) (v5936 : FVec F S8x128 .f32), IVec S8x128 32 ← k0_part427 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v141 v143 v146 v156 v2700 v2703 v2711 v2713 v2952 v2972 v2974 v2977 v2988 v3014 v3024 v3026
    let ⟨v7782, v7785, v7793, v7795, v8781, v8801, v8803, v8806, v8817, v8843, v8845, v8847, v8848⟩ : Σ' (v7782 : FVec F S8x128 .f32) (v7785 : FVec F S8x128 .f32) (v7793 : IVec S8x128 32) (v7795 : IVec S8x128 32) (v8781 : FVec F S8x128 .f32) (v8801 : FVec F S8x128 .f32) (v8803 : FVec F S8x128 .f32) (v8806 : FVec F S8x128 .f32) (v8817 : FVec F S16x8x128 .f32) (v8843 : FVec F S8x128 .f32) (v8845 : FVec F S8x128 .f32) (v8847 : IVec S8x128 1), IVec S8x128 32 ← k0_part428 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v141 v143 v146 v156 v5241 v5244 v5252 v5254 v5742 v5762 v5764 v5767 v5778 v5934 v5936 v5937
    let ⟨v10331, v10334, v10337, v10345, v10347, v11582, v11602, v11604, v11607, v11618, v11748, v11750, v11752, c8_i32_2630⟩ : Σ' (v10331 : BitVec 32) (v10334 : FVec F S8x128 .f32) (v10337 : FVec F S8x128 .f32) (v10345 : IVec S8x128 32) (v10347 : IVec S8x128 32) (v11582 : FVec F S8x128 .f32) (v11602 : FVec F S8x128 .f32) (v11604 : FVec F S8x128 .f32) (v11607 : FVec F S8x128 .f32) (v11618 : FVec F S16x8x128 .f32) (v11748 : FVec F S8x128 .f32) (v11750 : FVec F S8x128 .f32) (v11752 : IVec S8x128 1), BitVec 32 ← k0_part429 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_t1 v138 v146 v156 v7782 v7785 v7793 v7795 v8781 v8801 v8803 v8806 v8817 v8843 v8845 v8847 v8848
    let ⟨v12875, v12878, v12886, v12888, v14616, v14621, v14641, v14643, v14646, v14657, v14659, v14664⟩ : Σ' (v12875 : FVec F S8x128 .f32) (v12878 : FVec F S8x128 .f32) (v12886 : IVec S8x128 32) (v12888 : IVec S8x128 32) (v14616 : FVec F S8x128 .f32) (v14621 : FVec F S8x128 .f32) (v14641 : FVec F S8x128 .f32) (v14643 : FVec F S8x128 .f32) (v14646 : FVec F S8x128 .f32) (v14657 : FVec F S16x8x128 .f32) (v14659 : FVec F S8x128 .f32), IVec S8x128 32 ← k0_part430 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_t1 v138 v10331 v10334 v10337 v10345 v10347 v11582 v11602 v11604 v11607 v11618 v11748 v11750 v11752 c8_i32_2630
    let ⟨v15416, v15419, v15427, v15429, v17411, v17431, v17433, v17436, v17447, v17564, v17574, v17575⟩ : Σ' (v15416 : FVec F S8x128 .f32) (v15419 : FVec F S8x128 .f32) (v15427 : IVec S8x128 32) (v15429 : IVec S8x128 32) (v17411 : FVec F S8x128 .f32) (v17431 : FVec F S8x128 .f32) (v17433 : FVec F S8x128 .f32) (v17436 : FVec F S8x128 .f32) (v17447 : FVec F S16x8x128 .f32) (v17564 : FVec F S8x128 .f32) (v17574 : FVec F S8x128 .f32), IVec S8x128 32 ← k0_part431 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_t1 v138 v10331 v12875 v12878 v12886 v12888 v14616 v14621 v14641 v14643 v14646 v14657 v14659 v14664
    let ⟨v20445, v20472, v20475⟩ : Σ' (v20445 : FVec F S8x128 .f32) (v20472 : FVec F S8x128 .f32), FVec F S8x128 .f32 ← k0_part432 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_t1 v138 v10331 v15416 v15419 v15427 v15429 v17411 v17431 v17433 v17436 v17447 v17564 v17574 v17575
    let c384_4682 : Index := 384#32
    let v20485 : Vec F S1x8x128 .f32 ← Prog.lift (.load arg17 (Rect.unit (s := S9x8x512) (k0_off49 k0_t1) S1x8x128.size (k0_off49_inb k0_t1)).toLoadRect (View.loadsAt_vmem h_S1x8x128))
    have v20486 : FVec F S8x128 .f32 := shapeCast S8x128 v20485 shapeCasts_S1x8x128_S8x128
    have v20487 : FVec F S1x8x128 .f32 := shapeCast S1x8x128 v20472 shapeCasts_S8x128_S1x8x128
    Prog.lift (.store arg17 (Rect.unit (s := S9x8x512) (k0_off49 k0_t1) S1x8x128.size (k0_off49_inb k0_t1)) v20487 Finset.univ (View.stores_vmem_bits_univ h_S1x8x128 rfl) (.inl rfl))
    let v20488 : Index := Scalar.indexCast v138
    let c0_4683 : Index := 0#32
    let c384_4684 : Index := 384#32
    let v20489 : Vec F S1x8x128 .f32 ← Prog.lift (.load arg18 (Rect.unit (s := S9x8x512) (k0_off49 k0_t1) S1x8x128.size (k0_off49_inb k0_t1)).toLoadRect (View.loadsAt_vmem h_S1x8x128))
    have v20490 : FVec F S8x128 .f32 := shapeCast S8x128 v20489 shapeCasts_S1x8x128_S8x128
    have v20491 : FVec F S1x8x128 .f32 := shapeCast S1x8x128 v20475 shapeCasts_S8x128_S1x8x128
    Prog.lift (.store arg18 (Rect.unit (s := S9x8x512) (k0_off49 k0_t1) S1x8x128.size (k0_off49_inb k0_t1)) v20491 Finset.univ (View.stores_vmem_bits_univ h_S1x8x128 rfl) (.inl rfl))
    let v20492 : Index := Scalar.indexCast v138
    let c0_4685 : Index := 0#32
    let c384_4686 : Index := 384#32
    let v20493 : Vec F S1x8x128 .f32 ← Prog.lift (.load arg19 (Rect.unit (s := S9x8x512) (k0_off49 k0_t1) S1x8x128.size (k0_off49_inb k0_t1)).toLoadRect (View.loadsAt_vmem h_S1x8x128))
    have v20494 : FVec F S8x128 .f32 := shapeCast S8x128 v20493 shapeCasts_S1x8x128_S8x128
    have v20495 : FVec F S1x8x128 .f32 := shapeCast S1x8x128 v20445 shapeCasts_S8x128_S1x8x128
    Prog.lift (.store arg19 (Rect.unit (s := S9x8x512) (k0_off49 k0_t1) S1x8x128.size (k0_off49_inb k0_t1)) v20495 Finset.univ (View.stores_vmem_bits_univ h_S1x8x128 rfl) (.inl rfl))
    pure ⟨⟩

/-- The loop's region is the pair of blocks. -/
theorem loopText_eq (i : grid0.Coords) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) (k0_t1 : Fin k0_t1_loop.trips) :
    loopText (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) (Scalar.remsi (BitVec.ofNat 32 (i 0).val) 2#32) 0#32 1#32 k0_t1 = pairBody i ⟨arg1, arg2, arg3, arg4, arg5, arg6, arg7, arg8, arg9, arg10, arg11, arg12, arg13, arg14, arg15, arg16, arg17, arg18, arg19⟩ k0_t1 :=
  eq_of_run (rfl)

/-- The printed statements of the last grid point's branch. -/
noncomputable def finText (i : grid0.Coords) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) (arg0 v3 : BitVec 32) (k0_h2 : k0_cond2 i = 1#1) : P F PUnit := do
    let v10715 : FVec F S1x8x512 .f32 ← k0_part658 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_h2
    Prog.lift (.store arg9 (Rect.unit (s := S8x8x512) ![7, 0, 0] S1x8x512.size inb_S8x8x512_S1x8x512_7_0_0) v10715 Finset.univ (View.stores_vmem_bits_univ h_S1x8x512 rfl) (.inl rfl))
    pure ⟨⟩

/-- They are the last block's fold and the results. -/
theorem finText_eq (i : grid0.Coords) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) (h : k0_cond2 i = 1#1) :
    finText (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) (Scalar.remsi (BitVec.ofNat 32 (i 0).val) 2#32) h = finBody i ⟨arg1, arg2, arg3, arg4, arg5, arg6, arg7, arg8, arg9, arg10, arg11, arg12, arg13, arg14, arg15, arg16, arg17, arg18, arg19⟩ :=
  eq_of_run (rfl)

/-- The printed statements before the loop. -/
noncomputable def headText (i : grid0.Coords) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) : P F (Σ' (_ : BitVec 32) (_ : BitVec 32) (_ : BitVec 32), BitVec 32) := do
  let ⟨arg0, v3, v38, v40⟩ : Σ' (arg0 : BitVec 32) (v3 : BitVec 32) (v38 : FVec F S128x128 .f32), Vec F S1x128x128 .f32 ← k0_part659 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v82, c768_i32⟩ : Σ' (v82 : BitVec 32), BitVec 32 ← k0_part660 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v3 v38 v40
  let v127 : FVec F S1x128 .f32 ← k0_part661 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v3 v82 c768_i32
  have v128 : FVec F S128x128 .f32 := broadcastTo S128x128 v127 broadcasts_S1x128_S128x128
  have v129 : FVec F S128x128 .f32 := transpose S128x128 [1, 0] v128 transposes_S128x128_p1_0_S128x128
  let v130 : Index := Scalar.indexCast v3
  let c1152 : Index := 1152#32
  let c0_20 : Index := 0#32
  let v131 : Vec F S1x128x128 .f32 ← Prog.lift (.load arg12 (Rect.unit (s := S2x1280x128) (k0_off11 i) S1x128x128.size (k0_off11_inb i)).toLoadRect (View.loadsAt_vmem h_S1x128x128))
  have v132 : FVec F S128x128 .f32 := shapeCast S128x128 v131 shapeCasts_S1x128x128_S128x128
  have v133 : FVec F S1x128x128 .f32 := shapeCast S1x128x128 v129 shapeCasts_S128x128_S1x128x128
  Prog.lift (.store arg12 (Rect.unit (s := S2x1280x128) (k0_off11 i) S1x128x128.size (k0_off11_inb i)) v133 Finset.univ (View.stores_vmem_bits_univ h_S1x128x128 rfl) (.inl rfl))
  let c0_i32_21 : BitVec 32 := 0#32
  let c4_i32 : BitVec 32 := 4#32
  let v134 : BitVec 32 := Scalar.addi c0_i32_21 c4_i32
  let c1_i32 : BitVec 32 := 1#32
  pure ⟨arg0, v3, c0_i32_21, c1_i32⟩

/-- The condition under which the first grid point's preparation runs. -/
abbrev isFirst (i : grid0.Coords) : Prop :=
  Scalar.cmpi .ne (Scalar.extui (Scalar.cmpi .eq (BitVec.ofNat 32 (i 0).val) 0#32) : BitVec 32) 0#32 = 1#1

/-- At the first point: the preparation, then the tile's scales. -/
theorem headText_pos (i : grid0.Coords) (h : isFirst i) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) :
    headText (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 =
      (initBody ⟨arg1, arg2, arg3, arg4, arg5, arg6, arg7, arg8, arg9, arg10, arg11, arg12, arg13, arg14, arg15, arg16, arg17, arg18, arg19⟩ >>= fun _ => runAll 10 (wsStep i ⟨arg1, arg2, arg3, arg4, arg5, arg6, arg7, arg8, arg9, arg10, arg11, arg12, arg13, arg14, arg15, arg16, arg17, arg18, arg19⟩) ⟨⟩ >>= fun _ =>
        pure ⟨BitVec.ofNat 32 (i 0).val, Scalar.remsi (BitVec.ofNat 32 (i 0).val) 2#32, 0#32, 1#32⟩) := by
  unfold headText
  rw [show k0_part659 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = _ from dif_pos h]
  exact eq_of_run (rfl)

/-- At a later point: the tile's scales alone. -/
theorem headText_neg (i : grid0.Coords) (h : ¬ isFirst i) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) :
    headText (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 =
      (runAll 10 (wsStep i ⟨arg1, arg2, arg3, arg4, arg5, arg6, arg7, arg8, arg9, arg10, arg11, arg12, arg13, arg14, arg15, arg16, arg17, arg18, arg19⟩) ⟨⟩ >>= fun _ =>
        pure ⟨BitVec.ofNat 32 (i 0).val, Scalar.remsi (BitVec.ofNat 32 (i 0).val) 2#32, 0#32, 1#32⟩) := by
  unfold headText
  rw [show k0_part659 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = _ from dif_neg h]
  exact eq_of_run (rfl)

/-- The printed statements from the loop on. -/
noncomputable def restText (i : grid0.Coords) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) (arg0 v3 c0_i32_21 c1_i32 : BitVec 32) : P F PUnit := do
  Scf.Loop.for k0_t1_loop k0_t1_ok ⟨⟩ fun k0_t1 _ => loopText i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v3 c0_i32_21 c1_i32 k0_t1
  if k0_h2 : k0_cond2 i = 1#1 then do
    finText i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v3 k0_h2
  else do
    pure ⟨⟩
  pure ⟨⟩

/-- The printed body is its statements before the loop and those from the loop on. -/
theorem cc0_eq (i : grid0.Coords) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) :
    cc0_lm_head_stats (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 =
      headText i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= fun v => restText i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v.1 v.2.1 v.2.2.1 v.2.2.2 := by
  unfold cc0_lm_head_stats headText
  refine Eq.trans ?_ (Prog.bind_assoc _ _ _).symm; refine bind_congr fun ⟨arg0, v3, v38, v40⟩ => ?_
  refine Eq.trans ?_ (Prog.bind_assoc _ _ _).symm; refine bind_congr fun ⟨v82, c768⟩ => ?_
  refine Eq.trans ?_ (Prog.bind_assoc _ _ _).symm; refine bind_congr fun v127 => ?_
  refine Eq.trans ?_ (Prog.bind_assoc _ _ _).symm; refine bind_congr fun v131 => ?_
  refine Eq.trans ?_ (Prog.bind_assoc _ _ _).symm; refine bind_congr fun _ => ?_
  unfold restText
  refine bind_congr fun _ => ?_
  by_cases h : k0_cond2 i = 1#1
  · refine (dif_pos h).trans (Eq.trans ?_ (dif_pos h).symm)
    unfold finText
    refine Eq.trans ?_ (Prog.bind_assoc _ _ _).symm; refine bind_congr fun v => ?_
    refine Eq.trans ?_ (Prog.bind_assoc _ _ _).symm; refine bind_congr fun _ => ?_
    rfl
  · refine (dif_neg h).trans (Eq.trans ?_ (dif_neg h).symm)
    rfl

/-- From the loop on: the four pairs, then at the last point the last fold and the results. -/
theorem restText_eq (i : grid0.Coords) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) :
    restText (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) (Scalar.remsi (BitVec.ofNat 32 (i 0).val) 2#32) 0#32 1#32 = (do
      Scf.Loop.for k0_t1_loop k0_t1_ok ⟨⟩ fun t _ => pairBody i ⟨arg1, arg2, arg3, arg4, arg5, arg6, arg7, arg8, arg9, arg10, arg11, arg12, arg13, arg14, arg15, arg16, arg17, arg18, arg19⟩ t
      if _h : k0_cond2 i = 1#1 then do
        finBody i ⟨arg1, arg2, arg3, arg4, arg5, arg6, arg7, arg8, arg9, arg10, arg11, arg12, arg13, arg14, arg15, arg16, arg17, arg18, arg19⟩
      else do
        pure ⟨⟩
      pure ⟨⟩) := by
  unfold restText
  simp only [loopText_eq, finText_eq]

/-- The printed body at grid point `i` is the short program over the same buffers. -/
theorem printed (i : grid0.Coords) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) :
    cc0_lm_head_stats (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = body i ⟨arg1, arg2, arg3, arg4, arg5, arg6, arg7, arg8, arg9, arg10, arg11, arg12, arg13, arg14, arg15, arg16, arg17, arg18, arg19⟩ := by
  rw [cc0_eq]
  unfold body
  by_cases h : isFirst i
  · rw [headText_pos i h, dif_pos h, bind_assoc, bind_assoc]
    refine congrArg (Bind.bind _) (funext fun _ => ?_)
    refine congrArg (Bind.bind _) (funext fun _ => ?_)
    exact restText_eq ..
  · rw [headText_neg i h, dif_neg h, bind_assoc]
    refine congrArg (Bind.bind _) (funext fun _ => ?_)
    exact restText_eq ..

end Cert.KernelIdeal.Body

end
-- ==== Proof.Frame.lean ====
/-
  The kernel's frame, at any values: @main terminates with nothing faulting, its arguments unchanged, every counter at zero.

  The pipeline's proof data keeps each input's block and names nothing of the three results; the body obligation is
  `fr_body` (Inputs.lean), the 19 buffers gathered from the windows' staging buffers and the scratch (`Own_eq`).
-/
module

public import proofs.«01_k».proof.Proof.Inputs
public import proofs.«01_k».proof.Proof.Printed

@[expose] public section

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal.Gen

variable {F : FTy → Type} [FloatOps F] [Named F]

local notation "𝕄" => MT nD τ sig Unit (Elt F) ℕ (UR sig nD τ) ℕ

/-! ## The buffers the pipeline calls the body on -/

/-- The windows' staging buffers at point `t`, and the scratch. -/
abbrev Bt (t : Fin cfg0.N) : Bufs :=
  ⟨st0_0 t, st0_1 t, st0_2 t, st0_3 t, st0_4 t, st0_5 t, st0_6 t, st0_7 t, st0_8 t,
    Memref.whole cc0_scratch0, Memref.whole cc0_scratch1, Memref.whole cc0_scratch2, Memref.whole cc0_scratch3,
    Memref.whole cc0_scratch4, Memref.whole cc0_scratch5, Memref.whole cc0_scratch6, Memref.whole cc0_scratch7,
    Memref.whole cc0_scratch8, Memref.whole cc0_scratch9⟩

/-- The scratch buffers owned at the contents `σ`. -/
def Scr (c : Dev nD) (σ : St F) : sProp 𝕄 :=
  iprop(owns (c : Thread nD τ) (Memref.whole cc0_scratch0) fullShare (σ .accA)
    ∗ owns (c : Thread nD τ) (Memref.whole cc0_scratch1) fullShare (σ .accB)
    ∗ owns (c : Thread nD τ) (Memref.whole cc0_scratch2) fullShare (σ .wsb)
    ∗ owns (c : Thread nD τ) (Memref.whole cc0_scratch3) fullShare (σ .xss)
    ∗ owns (c : Thread nD τ) (Memref.whole cc0_scratch4) fullShare (σ .tcs)
    ∗ owns (c : Thread nD τ) (Memref.whole cc0_scratch5) fullShare (σ .m)
    ∗ owns (c : Thread nD τ) (Memref.whole cc0_scratch6) fullShare (σ .s0)
    ∗ owns (c : Thread nD τ) (Memref.whole cc0_scratch7) fullShare (σ .s1)
    ∗ owns (c : Thread nD τ) (Memref.whole cc0_scratch8) fullShare (σ .s2)
    ∗ owns (c : Thread nD τ) (Memref.whole cc0_scratch9) fullShare (σ .tg))

/-- The windows' staging buffers at point `t` owned at the contents `σ`. -/
def Win (c : Dev nD) (t : Fin cfg0.N) (σ : St F) : sProp 𝕄 :=
  iprop(owns (c : Thread nD τ) (st0_0 t) fullShare (σ .x)
    ∗ owns (c : Thread nD τ) (st0_1 t) fullShare (σ .xs)
    ∗ owns (c : Thread nD τ) (st0_2 t) fullShare (σ .w)
    ∗ owns (c : Thread nD τ) (st0_3 t) fullShare (σ .ws)
    ∗ owns (c : Thread nD τ) (st0_4 t) fullShare (σ .tgt)
    ∗ owns (c : Thread nD τ) (st0_5 t) fullShare (σ .temp)
    ∗ owns (c : Thread nD τ) (st0_6 t) fullShare (σ .ent)
    ∗ owns (c : Thread nD τ) (st0_7 t) fullShare (σ .var)
    ∗ owns (c : Thread nD τ) (st0_8 t) fullShare (σ .lp))

/-- All 19 buffers, one after the other. -/
theorem Own_chain (c : Dev nD) (B : Bufs) (σ : St F) : Own c B σ = iprop(
    owns (c : Thread nD τ) (B.at .x) fullShare (σ .x) ∗ owns (c : Thread nD τ) (B.at .xs) fullShare (σ .xs)
    ∗ owns (c : Thread nD τ) (B.at .w) fullShare (σ .w) ∗ owns (c : Thread nD τ) (B.at .ws) fullShare (σ .ws)
    ∗ owns (c : Thread nD τ) (B.at .tgt) fullShare (σ .tgt) ∗ owns (c : Thread nD τ) (B.at .temp) fullShare (σ .temp)
    ∗ owns (c : Thread nD τ) (B.at .ent) fullShare (σ .ent) ∗ owns (c : Thread nD τ) (B.at .var) fullShare (σ .var)
    ∗ owns (c : Thread nD τ) (B.at .lp) fullShare (σ .lp) ∗ owns (c : Thread nD τ) (B.at .accA) fullShare (σ .accA)
    ∗ owns (c : Thread nD τ) (B.at .accB) fullShare (σ .accB) ∗ owns (c : Thread nD τ) (B.at .wsb) fullShare (σ .wsb)
    ∗ owns (c : Thread nD τ) (B.at .xss) fullShare (σ .xss) ∗ owns (c : Thread nD τ) (B.at .tcs) fullShare (σ .tcs)
    ∗ owns (c : Thread nD τ) (B.at .m) fullShare (σ .m) ∗ owns (c : Thread nD τ) (B.at .s0) fullShare (σ .s0)
    ∗ owns (c : Thread nD τ) (B.at .s1) fullShare (σ .s1) ∗ owns (c : Thread nD τ) (B.at .s2) fullShare (σ .s2)
    ∗ owns (c : Thread nD τ) (B.at .tg) fullShare (σ .tg)) :=
  bigSep_univ_eq_bigSepL [Nm.x, .xs, .w, .ws, .tgt, .temp, .ent, .var, .lp, .accA, .accB, .wsb, .xss, .tcs, .m, .s0, .s1, .s2, .tg]
    (by decide) (by decide) _

/-- The windows and the scratch, together. -/
theorem Own_in (c : Dev nD) (t : Fin cfg0.N) (σ : St F) : iprop(Win c t σ ∗ Scr c σ) ⊢ Own c (Bt t) σ := by
  rw [Own_chain]
  unfold Win Scr
  iintro ⟨⟨H0, H1, H2, H3, H4, H5, H6, H7, H8⟩, S0, S1, S2, S3, S4, S5, S6, S7, S8, S9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact S9

/-- The windows and the scratch, apart. -/
theorem Own_out (c : Dev nD) (t : Fin cfg0.N) (σ : St F) : Own c (Bt t) σ ⊢ iprop(Win c t σ ∗ Scr c σ) := by
  rw [Own_chain]
  unfold Win Scr
  iintro ⟨H0, H1, H2, H3, H4, H5, H6, H7, H8, S0, S1, S2, S3, S4, S5, S6, S7, S8, S9⟩
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact S9

/-- Contents given one by one. -/
def St.mk (x : Nm.x.sh.Idx → Elt F Nm.x.el) (xs : Nm.xs.sh.Idx → Elt F Nm.xs.el) (w : Nm.w.sh.Idx → Elt F Nm.w.el) (ws : Nm.ws.sh.Idx → Elt F Nm.ws.el) (tgt : Nm.tgt.sh.Idx → Elt F Nm.tgt.el) (temp : Nm.temp.sh.Idx → Elt F Nm.temp.el) (ent : Nm.ent.sh.Idx → Elt F Nm.ent.el) (var : Nm.var.sh.Idx → Elt F Nm.var.el) (lp : Nm.lp.sh.Idx → Elt F Nm.lp.el) (accA : Nm.accA.sh.Idx → Elt F Nm.accA.el) (accB : Nm.accB.sh.Idx → Elt F Nm.accB.el) (wsb : Nm.wsb.sh.Idx → Elt F Nm.wsb.el) (xss : Nm.xss.sh.Idx → Elt F Nm.xss.el) (tcs : Nm.tcs.sh.Idx → Elt F Nm.tcs.el) (m : Nm.m.sh.Idx → Elt F Nm.m.el) (s0 : Nm.s0.sh.Idx → Elt F Nm.s0.el) (s1 : Nm.s1.sh.Idx → Elt F Nm.s1.el) (s2 : Nm.s2.sh.Idx → Elt F Nm.s2.el) (tg : Nm.tg.sh.Idx → Elt F Nm.tg.el) : St F
  | .x => x
  | .xs => xs
  | .w => w
  | .ws => ws
  | .tgt => tgt
  | .temp => temp
  | .ent => ent
  | .var => var
  | .lp => lp
  | .accA => accA
  | .accB => accB
  | .wsb => wsb
  | .xss => xss
  | .tcs => tcs
  | .m => m
  | .s0 => s0
  | .s1 => s1
  | .s2 => s2
  | .tg => tg

/-- The scratch at some contents is what the region keeps aside for it. -/
theorem scr_in (c : Dev nD) : (Pipeline.scopedRest (Ix := Unit) (Name := ℕ) (U := UR sig nD τ) (Lvl := ℕ) (Val := Elt F) spec0 c : sProp 𝕄)
    ⊢ iprop(∃ σ : St F, Scr c σ) := by
  rw [scopedRest0_eq]
  unfold Scr
  simp only [owns_whole]
  iintro ⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩
  iexists St.mk (fun _ => Classical.choice (Elt.nonempty F _)) (fun _ => Classical.choice (Elt.nonempty F _)) (fun _ => Classical.choice (Elt.nonempty F _)) (fun _ => Classical.choice (Elt.nonempty F _)) (fun _ => Classical.choice (Elt.nonempty F _)) (fun _ => Classical.choice (Elt.nonempty F _)) (fun _ => Classical.choice (Elt.nonempty F _)) (fun _ => Classical.choice (Elt.nonempty F _)) (fun _ => Classical.choice (Elt.nonempty F _)) f0 f1 f2 f3 f4 f5 f6 f7 f8 f9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact S9

/-- And back. -/
theorem scr_out (c : Dev nD) : iprop(∃ σ : St F, Scr c σ)
    ⊢ (Pipeline.scopedRest (Ix := Unit) (Name := ℕ) (U := UR sig nD τ) (Lvl := ℕ) (Val := Elt F) spec0 c : sProp 𝕄) := by
  rw [scopedRest0_eq]
  unfold Scr
  simp only [owns_whole]
  iintro ⟨%σ, S0, S1, S2, S3, S4, S5, S6, S7, S8, S9⟩
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  iexists _; iexact S9

/-- What a run of the body gives with resources kept aside. -/
theorem W.use {c : Dev nD} {B : Bufs} {α : Type} {p : P F α} {σ : St F} {Q : α → St F → Prop} (h : W c B p σ Q) {K : α → sProp 𝕄} (R : sProp 𝕄)
    (hk : ∀ a σ', Q a σ' → iprop(Own c B σ' ∗ R) ⊢ K a) :
    iprop(Own c B σ ∗ R) ⊢ wp frame (wpE defs₀ Variants.none (c : Thread nD τ) none) Set.univ p K := by
  refine BIBase.Entails.trans (Q := iprop(wp frame (wpE defs₀ Variants.none (c : Thread nD τ) none) Set.univ p
    (fun a => iprop(∃ σ', ⌜Q a σ'⌝ ∗ Own c B σ')) ∗ R)) ?_ ((wp_frame_r _ _ _).trans (wp_mono _ _ _ fun a => ?_))
  rotate_left 1
  · iintro ⟨⟨%σ', %hq, H⟩, HR⟩
    ihave HH := (hk a σ' hq) $$ [H HR]
    · isplitl [H]
      · iexact H
      · iexact HR
    iexact HH
  · iintro ⟨H, HR⟩
    ihave HW := (show Own c B σ ⊢ _ from h) $$ H
    isplitl [HW]
    · iexact HW
    · iexact HR

/-! ## The pipeline's proof data: the inputs' blocks, nothing of the results -/

section frame

variable (m : (ℓ : Loc nD τ sig) → Buf (Elt F) ℓ) (ρ : Dev nD → PrngReg)

/-- The windows whose contents the frame does not name: the three results. -/
def fgt0 : Fin cfg0.W → Bool
  | ⟨6, _⟩ => true | ⟨7, _⟩ => true | ⟨8, _⟩ => true | _ => false

/-- The proof data: the arrays as the region finds them, each input's buffer left at its block. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Dat.unnamed (cfg := cfg0) 6 t
    | ⟨7, _⟩ => Dat.unnamed (cfg := cfg0) 7 t
    | ⟨8, _⟩ => Dat.unnamed (cfg := cfg0) 8 t
  Φ _ := Pipeline.ΦA spec0 c
  q _ := fullShare
  owed _ := 0

theorem A_eqF (c : Dev nD) (w : Fin cfg0.W) : (datsF m 0 c).A w = V m c (Pipeline.arrRef spec0 w) := by
  dsimp only [datsF]

theorem afterF_0 (c : Dev nD) (t : Fin cfg0.N) : (datsF m 0 c).after 0 t = iblk m c 0 t := by dsimp only [datsF]
theorem afterF_1 (c : Dev nD) (t : Fin cfg0.N) : (datsF m 0 c).after 1 t = iblk m c 1 t := by dsimp only [datsF]
theorem afterF_2 (c : Dev nD) (t : Fin cfg0.N) : (datsF m 0 c).after 2 t = iblk m c 2 t := by dsimp only [datsF]
theorem afterF_3 (c : Dev nD) (t : Fin cfg0.N) : (datsF m 0 c).after 3 t = iblk m c 3 t := by dsimp only [datsF]
theorem afterF_4 (c : Dev nD) (t : Fin cfg0.N) : (datsF m 0 c).after 4 t = iblk m c 4 t := by dsimp only [datsF]
theorem afterF_5 (c : Dev nD) (t : Fin cfg0.N) : (datsF m 0 c).after 5 t = iblk m c 5 t := by dsimp only [datsF]

theorem beforeF_0 (c : Dev nD) (t : Fin cfg0.N) (d) : (datsF m 0 c).before 0 t d = iblk m c 0 t :=
  before0_0_of m (datsF m 0 c) (A_eqF m c 0) (afterF_0 m c) t d
theorem beforeF_1 (c : Dev nD) (t : Fin cfg0.N) (d) : (datsF m 0 c).before 1 t d = iblk m c 1 t :=
  before0_1_of m (datsF m 0 c) (A_eqF m c 1) (afterF_1 m c) t d
theorem beforeF_2 (c : Dev nD) (t : Fin cfg0.N) (d) : (datsF m 0 c).before 2 t d = iblk m c 2 t :=
  before0_2_of m (datsF m 0 c) (A_eqF m c 2) (afterF_2 m c) t d
theorem beforeF_3 (c : Dev nD) (t : Fin cfg0.N) (d) : (datsF m 0 c).before 3 t d = iblk m c 3 t :=
  before0_3_of m (datsF m 0 c) (A_eqF m c 3) (afterF_3 m c) t d
theorem beforeF_4 (c : Dev nD) (t : Fin cfg0.N) (d) : (datsF m 0 c).before 4 t d = iblk m c 4 t :=
  before0_4_of m (datsF m 0 c) (A_eqF m c 4) (afterF_4 m c) t d
theorem beforeF_5 (c : Dev nD) (t : Fin cfg0.N) (d) : (datsF m 0 c).before 5 t d = iblk m c 5 t :=
  before0_5_of m (datsF m 0 c) (A_eqF m c 5) (afterF_5 m c) t d

/-- What the body is called with at point `t`, the windows one by one, -/
def preF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ d, owns (c : Thread nD τ) (st0_3 t) fullShare ((datsF m 0 c).before 3 t d))
    ∗ (∃ d, owns (c : Thread nD τ) (st0_4 t) fullShare ((datsF m 0 c).before 4 t d))
    ∗ (∃ d, owns (c : Thread nD τ) (st0_5 t) fullShare ((datsF m 0 c).before 5 t d))
    ∗ (∃ X, owns (c : Thread nD τ) (st0_6 t) fullShare X)
    ∗ (∃ X, owns (c : Thread nD τ) (st0_7 t) fullShare X)
    ∗ (∃ X, owns (c : Thread nD τ) (st0_8 t) fullShare X))

/-- and what it returns. -/
def postF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ owns (c : Thread nD τ) (st0_1 t) fullShare ((datsF m 0 c).after 1 t)
    ∗ owns (c : Thread nD τ) (st0_2 t) fullShare ((datsF m 0 c).after 2 t)
    ∗ owns (c : Thread nD τ) (st0_3 t) fullShare ((datsF m 0 c).after 3 t)
    ∗ owns (c : Thread nD τ) (st0_4 t) fullShare ((datsF m 0 c).after 4 t)
    ∗ owns (c : Thread nD τ) (st0_5 t) fullShare ((datsF m 0 c).after 5 t)
    ∗ (∃ X, owns (c : Thread nD τ) (st0_6 t) fullShare X)
    ∗ (∃ X, owns (c : Thread nD τ) (st0_7 t) fullShare X)
    ∗ (∃ X, owns (c : Thread nD τ) (st0_8 t) fullShare X))

/-- The body at any point: the inputs' buffers hold their blocks, and the body leaves them there. -/
theorem sound_bodyF (c : Dev nD) (t : Fin cfg0.N) :
    preF m c t ⊢ wp frame (wpE (defs₀ (F := F)) Variants.none c none) Set.univ (body (grid0.coords t) (Bt t)) (fun _ => postF m c t) := by
  unfold preF postF
  simp only [beforeF_0, beforeF_1, beforeF_2, beforeF_3, beforeF_4, beforeF_5]
  rw [show (datsF m 0 c).Φ t.succ = Pipeline.ΦA spec0 c from rfl, show (datsF m 0 c).Φ t.castSucc = Pipeline.ΦA spec0 c from rfl,
    show (datsF m 0 c).owesAt () t.succ = (datsF m 0 c).owesAt () t.castSucc from rfl,
    afterF_0, afterF_1, afterF_2, afterF_3, afterF_4, afterF_5]
  unfold Pipeline.ΦA
  iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HS := (scr_in c) $$ HS
  icases HS with ⟨%σ, HS⟩
  iapply (W.use (fr_body (grid0.coords t) (St.mk (iblk m c 0 t) (iblk m c 1 t) (iblk m c 2 t) (iblk m c 3 t) (iblk m c 4 t) (iblk m c 5 t) d6 d7 d8 (σ .accA) (σ .accB) (σ .wsb) (σ .xss) (σ .tcs) (σ .m) (σ .s0) (σ .s1) (σ .s2) (σ .tg)))
    iprop((∃ r, prngReg c r) ∗ (datsF m 0 c).owesAt () t.castSucc) fun _ σ' hσ' => ?_)
  rotate_left 1
  · isplitl [HS H0 H1 H2 H3 H4 H5 H6 H7 H8]
    · iapply (Own_in c t _)
      isplitl [H0 H1 H2 H3 H4 H5 H6 H7 H8]
      · unfold Win
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · iexact HS
    · isplitl [Hr]
      · iexact Hr
      · iexact Ho
  · iintro ⟨H, Hr, Ho⟩
    ihave H := (Own_out c t σ') $$ H
    unfold Win
    icases H with ⟨⟨H0, H1, H2, H3, H4, H5, H6, H7, H8⟩, HS⟩
    isplitl [HS Hr]
    · isplitl [HS]
      · iapply (scr_out c)
        iexists σ'
        iexact HS
      · iexact Hr
    isplitl [Ho]; · iexact Ho
    isplitl [H0]; · rw [← show σ' .x = iblk m c 0 t from hσ' .x rfl]; iexact H0
    isplitl [H1]; · rw [← show σ' .xs = iblk m c 1 t from hσ' .xs rfl]; iexact H1
    isplitl [H2]; · rw [← show σ' .w = iblk m c 2 t from hσ' .w rfl]; iexact H2
    isplitl [H3]; · rw [← show σ' .ws = iblk m c 3 t from hσ' .ws rfl]; iexact H3
    isplitl [H4]; · rw [← show σ' .tgt = iblk m c 4 t from hσ' .tgt rfl]; iexact H4
    isplitl [H5]; · rw [← show σ' .temp = iblk m c 5 t from hσ' .temp rfl]; iexact H5
    isplitl [H6]; · iexists _; iexact H6
    isplitl [H7]; · iexists _; iexact H7
    iexists _; iexact H8

/-- The body table's row at point `t`'s slots is the body. -/
theorem row0 (t : Fin cfg0.N) :
    defs₀ (F := F) .tc cfg0.body (cfg0.bodyArgs t (cfg0.slots t)) = body (grid0.coords t) (Bt t) := by
  have h : defs₀ (F := F) .tc cfg0.body (cfg0.bodyArgs t (cfg0.slots t)) = bodyAt0 t := by unfold defs₀; rw [Defs.onTc_tc]
  rw [h]
  unfold bodyAt0
  rw [printed]

/-- The library's body obligation, at every point. -/
theorem body_obligationF (c : Dev nD) : BodyObligationLoose (datsF (F := F) m 0 c) (defs₀ (F := F)) Variants.none () Set.univ fgt0 := fun t => by
  rw [bigSep_W0, bigSep_W0, row0]
  exact triple_restated (sound_bodyF m c t) rfl .rfl fun _ => .rfl

/-- The buffers the lines after the region write. -/
def T0 : Finset (Ref sig .tc) := {main_v3, main_v4}

/-- They write no other. -/
theorem hT0 : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  unfold T0
  rcases hop with rfl | rfl <;> simp only [StableHlo.unary_writes, Finset.mem_singleton] at hb <;>
    simp only [Finset.mem_insert, Finset.mem_singleton]
  · exact .inl (by_contra fun h => StableHlo.devRef_ne_of_ne h hb)
  · exact .inr (by_contra fun h => StableHlo.devRef_ne_of_ne h hb)

set_option backward.isDefEq.respectTransparency.types false in
set_option maxHeartbeats 800000 in
/-- The launch: every input ends as it began, and every semaphore counter at zero. -/
theorem run_mainF : θ_run defs (onTc (τ := τ) (main (F := F))) (s₀ m ρ)
    (fun r => Pipeline.RDat.FramePostR (cfgs 0) (fun c => (datsF m 0 c).toRForget fgt0) T0 (V m) r ∧ r.2.sem = fun _ => 0) :=
  Pipeline.θ_run_frame_around_T_forget (Q' := _) cfgs (datsF m) (0 : Fin 1) launch0 defs₀ Variants.none fgt0 T0 m ρ main
    (hbody := body_obligationF m) (hshare := fun c => (datsF m 0 c).share_full fun _ => rfl)
    (howed := fun _ _ => rfl) (V₀ := V0 m) (opss := [hostOps1]) (hsub := sfx_sub) (hfresh := sfx_fresh) (hkeep := sfx_keeps)
    (hT := hT0) (hmain := hmain m Variants.none) (hA := A_eqF m) (hΦ := fun _ _ => rfl)

/-- The kernel's frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(Pipeline.RDat.FramePostR.arr_in h.1 c 0 rfl).trans ((A_eqF m c 0).trans (V_main_arg0 m c)), (Pipeline.RDat.FramePostR.arr_in h.1 c 1 rfl).trans ((A_eqF m c 1).trans (V_main_arg1 m c)), (Pipeline.RDat.FramePostR.arr_in h.1 c 2 rfl).trans ((A_eqF m c 2).trans (V_main_arg2 m c)), (Pipeline.RDat.FramePostR.arr_in h.1 c 3 rfl).trans ((A_eqF m c 3).trans (V_main_arg3 m c)),
      ((h.1 c).2 main_arg4 (Finset.mem_sdiff.mpr ⟨Pipeline.mem_restRefs_of main_arg4 (by decide) (by decide), by decide⟩)).trans (V_main_arg4 m c),
      (Pipeline.RDat.FramePostR.arr_in h.1 c 5 rfl).trans ((A_eqF m c 5).trans (V_main_arg5 m c))⟩, h.2⟩) (run_mainF m ρ)

end frame

end Cert.KernelIdeal.Body

end
-- ==== Proof.Lane.lean ====
module

public import Idealize.ShloMosaic.Lib.Pointwise

@[expose] public section

/-!
# Running moments of one lane

The kernel keeps, for one row of the batch and one sublane, a running reference `m` and the sums of `2^(u-m)`,
`2^(u-m)·(u-m)` and `2^(u-m)·(u-m)²` over the vocabulary entries of that sublane it has seen. Here those are the
real sums they stand for, and folding in a chunk or moving the reference keeps them so.
-/

noncomputable section

namespace Cert.KernelIdeal.Body

open Idealize.ShloMosaic
open Finset

/-- The first `n` vocabulary entries that lie in sublane `sub`. -/
def lane (sub n : ℕ) : Finset ℕ := (range n).filter fun v => v % 8 = sub

/-- The sums of `2^(u-μ)·(u-μ)^k` over `A`. -/
def mom (u : ℕ → ℝ) (A : Finset ℕ) (μ : ℝ) (k : ℕ) : ℝ := ∑ v ∈ A, (2 : ℝ) ^ (u v - μ) * (u v - μ) ^ k

/-- What a lane holds stands for the moments of `A` about some real reference. -/
def Part (u : ℕ → ℝ) (A : Finset ℕ) (m s0 s1 s2 : EReal) : Prop :=
  ∃ μ : ℝ, m = μ ∧ s0 = (mom u A μ 0 : ℝ) ∧ s1 = (mom u A μ 1 : ℝ) ∧ s2 = (mom u A μ 2 : ℝ)

theorem Part.start (u : ℕ → ℝ) (μ : ℝ) (sub : ℕ) : Part u (lane sub 0) μ 0 0 0 :=
  ⟨μ, rfl, by simp [mom, lane], by simp [mom, lane], by simp [mom, lane]⟩

theorem mom_move0 (u : ℕ → ℝ) (A : Finset ℕ) (μ ν : ℝ) : mom u A ν 0 = (2 : ℝ) ^ (μ - ν) * mom u A μ 0 := by
  simp only [mom, mul_sum]
  refine sum_congr rfl fun v _ => ?_
  rw [show u v - ν = (μ - ν) + (u v - μ) by ring, Real.rpow_add two_pos]; ring

theorem mom_move1 (u : ℕ → ℝ) (A : Finset ℕ) (μ ν : ℝ) :
    mom u A ν 1 = (2 : ℝ) ^ (μ - ν) * (mom u A μ 1 + (μ - ν) * mom u A μ 0) := by
  simp only [mom, mul_sum, ← sum_add_distrib]
  refine sum_congr rfl fun v _ => ?_
  rw [show u v - ν = (μ - ν) + (u v - μ) by ring, Real.rpow_add two_pos]; ring

theorem mom_move2 (u : ℕ → ℝ) (A : Finset ℕ) (μ ν : ℝ) :
    mom u A ν 2 = (2 : ℝ) ^ (μ - ν) * (mom u A μ 2 + (μ - ν) * (2 * mom u A μ 1 + (μ - ν) * mom u A μ 0)) := by
  simp only [mom, mul_sum, ← sum_add_distrib]
  refine sum_congr rfl fun v _ => ?_
  rw [show u v - ν = (μ - ν) + (u v - μ) by ring, Real.rpow_add two_pos]; ring

/-- The sixteen entries of sublane `sub` in the chunk of 128 that starts at `n`. -/
theorem sum_chunk (f : ℕ → ℝ) {sub n : ℕ} (hs : sub < 8) (hn : n % 8 = 0) :
    ∑ v ∈ lane sub (n + 128), f v = ∑ v ∈ lane sub n, f v + ∑ q : Fin 16, f (n + 8 * q.val + sub) := by
  have e : lane sub (n + 128) = lane sub n ∪ (univ : Finset (Fin 16)).image fun q => n + 8 * q.val + sub := by
    ext v
    simp only [lane, mem_union, mem_filter, mem_range, mem_image, mem_univ, true_and]
    constructor
    · rintro ⟨h, h'⟩
      by_cases hv : v < n
      · exact .inl ⟨hv, h'⟩
      · exact .inr ⟨⟨(v - n) / 8, by omega⟩, by simp only; omega⟩
    · rintro (⟨h, h'⟩ | ⟨q, rfl⟩)
      · exact ⟨by omega, h'⟩
      · have := q.isLt; exact ⟨by omega, by omega⟩
  rw [e, sum_union, sum_image]
  · intro a _ b _ h; simp only at h; exact Fin.ext (by omega)
  · rw [disjoint_left]; intro v hv hw
    simp only [lane, mem_filter, mem_range] at hv
    simp only [mem_image, mem_univ, true_and] at hw
    obtain ⟨q, rfl⟩ := hw; omega

/-- The coercion of a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [sum_insert h, sum_insert h, EReal.coe_add, ih]

/-- A maximum of reals taken from `-∞` and compared with a real is real. -/
theorem max_real {ι : Type} (s : Finset ι) (f : ι → ℝ) (μ : ℝ) :
    ∃ ν : ℝ, max (μ : EReal) (s.fold max ⊥ fun i => (f i : EReal)) = ν := by
  classical
  induction s using Finset.induction_on with
  | empty => exact ⟨μ, by simp⟩
  | insert a s h ih =>
    obtain ⟨ν, hν⟩ := ih
    refine ⟨max (f a) ν, ?_⟩
    rw [fold_insert h, max_left_comm, hν]
    exact (EReal.coe_strictMono.monotone.map_max).symm

/-- One chunk folded into a lane. -/
theorem Part.chunk {u : ℕ → ℝ} {sub n : ℕ} (hs : sub < 8) (hn : n % 8 = 0) {m s0 s1 s2 : EReal}
    (h : Part u (lane sub n) m s0 s1 s2) (U : Fin 16 → EReal) (hU : ∀ q, U q = (u (n + 8 * q.val + sub) : ℝ)) {m' : EReal}
    (hm' : m' = max m (univ.fold max ⊥ U)) :
    Part u (lane sub (n + 128)) m'
      (Ideal.exp2 (m - m') * s0 + ∑ q, Ideal.exp2 (U q - m'))
      (Ideal.exp2 (m - m') * (s1 + (m - m') * s0) + ∑ q, Ideal.exp2 (U q - m') * (U q - m'))
      (Ideal.exp2 (m - m') * (s2 + (m - m') * (2 * s1 + (m - m') * s0))
        + ∑ q, Ideal.exp2 (U q - m') * (U q - m') * (U q - m')) := by
  obtain ⟨μ, rfl, rfl, rfl, rfl⟩ := h
  obtain rfl : U = fun q => ((u (n + 8 * q.val + sub) : ℝ) : EReal) := funext hU
  obtain ⟨ν, hν⟩ := max_real (univ : Finset (Fin 16)) (fun q => u (n + 8 * q.val + sub)) μ
  obtain rfl : m' = (ν : EReal) := hm'.trans hν
  have h2 : (2 : EReal) = ((2 : ℝ) : EReal) := rfl
  refine ⟨ν, rfl, ?_, ?_, ?_⟩ <;>
    simp only [h2, ← EReal.coe_sub, Ideal.exp2_coe, Real.rpow_eq_pow, ← EReal.coe_mul, ← EReal.coe_add, ← coe_sum,
      EReal.coe_eq_coe_iff]
  · rw [mom.eq_def u (lane sub (n + 128)), sum_chunk _ hs hn, ← mom, mom_move0 u _ μ ν]; simp
  · rw [mom.eq_def u (lane sub (n + 128)), sum_chunk _ hs hn, ← mom, mom_move1 u _ μ ν]; simp
  · rw [mom.eq_def u (lane sub (n + 128)), sum_chunk _ hs hn, ← mom, mom_move2 u _ μ ν]; simp [pow_two, mul_assoc]

end Cert.KernelIdeal.Body

end
-- ==== Proof.Words.lean ====
module

public import Idealize.ShloMosaic.Lib.Pointwise

@[expose] public section

/-!
# The target's group and sublane

The kernel finds a target in a vocabulary tile by words: the target less the tile's first entry, its low three bits and
the rest. These facts read those words as numbers.
-/

noncomputable section

namespace Cert.KernelIdeal.Body

open Idealize.ShloMosaic

/-- A target less the tile's first entry, as a signed number. -/
theorem idx_toInt {x jw : BitVec 32} {J : ℕ} (hx : x.toNat < 32000) (hJ : J < 25) (hw : jw = BitVec.ofNat 32 J) :
    (x - jw * 1280#32).toInt = (x.toNat : ℤ) - 1280 * J := by
  subst hw
  have h1 : (BitVec.ofNat 32 J * 1280#32).toNat = 1280 * J := by
    rw [BitVec.toNat_mul, BitVec.toNat_ofNat]; simp; omega
  have e1 : (BitVec.ofNat 32 J * 1280#32).toInt = 1280 * J := by
    rw [BitVec.toInt_eq_toNat_of_lt (by omega), h1]; push_cast; ring
  rw [BitVec.toInt_sub, e1, BitVec.toInt_eq_toNat_of_lt (by omega)]
  rw [Int.bmod_eq_of_le] <;> omega

theorem shrsi3 (y : BitVec 32) : (IntOp.shrsi .vector y 3#32).toInt = y.toInt / 8 := by
  have : IntOp.shrsi .vector y 3#32 = y.sshiftRight 3 := by
    unfold IntOp.shrsi; rw [if_pos (by decide)]; rfl
  rw [this, BitVec.toInt_sshiftRight, Int.shiftRight_eq_div_pow]; rfl

/-- The target's group within the tile is `g` exactly when the target lies in that group's eight entries. -/
theorem hit_iff {x jw : BitVec 32} {J g : ℕ} (hx : x.toNat < 32000) (hJ : J < 25) (hw : jw = BitVec.ofNat 32 J) (hg : g < 160) :
    IntOp.shrsi .vector (x - jw * 1280#32) 3#32 = BitVec.ofNat 32 g ↔
      1280 * J + 8 * g ≤ x.toNat ∧ x.toNat < 1280 * J + 8 * g + 8 := by
  rw [← BitVec.toInt_inj, shrsi3, idx_toInt hx hJ hw,
    BitVec.toInt_eq_toNat_of_lt (by rw [BitVec.toNat_ofNat]; omega), BitVec.toNat_ofNat, Nat.mod_eq_of_lt (by omega)]
  omega

/-- And its sublane is then its place among them. -/
theorem sub_of_hit {x jw : BitVec 32} {J g : ℕ} (hJ : J < 25) (hw : jw = BitVec.ofNat 32 J)
    (h : 1280 * J + 8 * g ≤ x.toNat ∧ x.toNat < 1280 * J + 8 * g + 8) :
    ((x - jw * 1280#32) &&& 7#32).toNat = x.toNat - (1280 * J + 8 * g) := by
  subst hw
  have h1 : (BitVec.ofNat 32 J * 1280#32).toNat = 1280 * J := by
    rw [BitVec.toNat_mul, BitVec.toNat_ofNat]; simp; omega
  rw [BitVec.toNat_and, show (7#32).toNat = 2 ^ 3 - 1 from rfl, Nat.and_two_pow_sub_one_eq_mod, BitVec.toNat_sub, h1]
  omega

theorem and7_lt (y : BitVec 32) : (y &&& 7#32).toNat < 8 := by
  rw [BitVec.toNat_and, show (7#32).toNat = 2 ^ 3 - 1 from rfl, Nat.and_two_pow_sub_one_eq_mod]
  omega

theorem wrap_and7 (y : BitVec 32) : Scalar.select (IntOp.cmpi .slt (y &&& 7#32) 0#32) (IntOp.addi (y &&& 7#32) 8#32) (y &&& 7#32)
    = y &&& 7#32 := by
  have h := and7_lt y
  have : IntOp.cmpi .slt (y &&& 7#32) 0#32 = 0#1 := by
    generalize y &&& 7#32 = z at *
    have : ¬ z.slt 0#32 := by
      rw [BitVec.slt_iff_toInt_lt, BitVec.toInt_eq_toNat_of_lt (by omega)]
      simp
    simp [IntOp.cmpi, this]
  rw [this]; rfl

end Cert.KernelIdeal.Body

end
-- ==== Proof.Fold.lean ====
module

public import proofs.«01_k».proof.Proof.Body
public import proofs.«01_k».proof.Proof.Lane
public import proofs.«01_k».proof.Proof.Words

@[expose] public section

set_option maxRecDepth 16384

/-!
# What a lane should hold, and one chunk of it

`Data` is what the program is given. From it come the raw scores, the capped scores `th` and the base-two exponents
`u`, all real. `LaneOK` says that a lane's running statistics are those of the first `n` vocabulary entries, and
`fold_ok` that folding in a chunk of 128 entries takes `n` to `n + 128`.
-/

noncomputable section

namespace Cert.KernelIdeal.Body

open Idealize.ShloMosaic Idealize.SL.Sem
open Cert.KernelIdeal Cert.KernelIdeal.Facts₀ Cert.KernelIdeal.Facts

/-- The arrays the kernel is given: the codes and scales of the rows and of the vocabulary, the targets with their
eighth row, and the temperatures. -/
structure Data where
  x : S8x512x4096.Idx → EReal
  xs : S8x512.Idx → EReal
  w : S32000x4096.Idx → EReal
  ws : S32000.Idx → EReal
  tgt : S8x8x512.Idx → BitVec 32
  temp : S8x512.Idx → EReal

/-- The constant `1/30` as the program writes it. -/
def c30 : EReal := Ideal.ofBits .f32 0x3D088889#32

variable (D : Data)

/-- The raw score of row `(b, s)` against vocabulary entry `v`. -/
def Data.raw (b : Fin 8) (s : Fin 512) (v : ℕ) : EReal :=
  if h : v < 32000 then ∑ k : Fin 4096, D.w (ix2 ⟨v, h⟩ k) * D.x (ix3 b s k) else 0

/-- The scale of vocabulary entry `v`. -/
def Data.wsv (v : ℕ) : EReal := if h : v < 32000 then D.ws (ix1 ⟨v, h⟩) else 0

/-- The capped score, before the cap multiplies it. -/
def Data.th (b : Fin 8) (s : Fin 512) (v : ℕ) : ℝ := (Ideal.tanh (D.raw b s v * D.wsv v * (D.xs (ix2 b s) * c30))).toReal

/-- One over the temperature. -/
def Data.tau (b : Fin 8) (s : Fin 512) : ℝ := (D.temp (ix2 b s))⁻¹.toReal

/-- The cap over the temperature, in base two. -/
def Data.tc (b : Fin 8) (s : Fin 512) : ℝ := 30 * (Real.log 2)⁻¹ * D.tau b s

/-- The base-two exponent of vocabulary entry `v`. -/
def Data.u (b : Fin 8) (s : Fin 512) (v : ℕ) : ℝ := D.th b s v * D.tc b s

theorem tanh_real (x : EReal) : ((Ideal.tanh x).toReal : EReal) = Ideal.tanh x := by
  induction x with
  | bot => rfl
  | top => rfl
  | coe r => rfl

theorem inv_real (x : EReal) : ((x⁻¹).toReal : EReal) = x⁻¹ := by
  induction x with
  | bot => simp
  | top => simp
  | coe r => rw [← EReal.coe_inv]; rfl

/-- The lane of row `(b, s)` and sublane `sub` holds the statistics of the first `n` entries, and the target's capped
score if the target is one of them. -/
def LaneOK (b : Fin 8) (s : Fin 512) (sub : Fin 8) (n : ℕ) (m s0 s1 s2 tg : EReal) : Prop :=
  Part (D.u b s) (lane sub.val n) m s0 s1 s2 ∧
    ((D.tgt (ix3 b sub s)).toNat < n → tg = (D.th b s (D.tgt (ix3 b sub s)).toNat : ℝ))

/-- Column `l` of column chunk `c`. -/
abbrev col (c : Fin 4) (l : Fin 128) : Fin 512 := ⟨128 * c.val + l.val, by omega⟩

/-- `LaneOK` at one lane of the statistics of an `8 × 128` strip. -/
def StatsOK (b : Fin 8) (c : Fin 4) (n : ℕ) (s : Stats Ideal) : Prop :=
  ∀ (a : Fin 8) (l : Fin 128), LaneOK D b (col c l) a n (s.m (ix2 a l)) (s.s0 (ix2 a l)) (s.s1 (ix2 a l)) (s.s2 (ix2 a l))
    (s.tg (ix2 a l))

theorem upTo_ind {α : Type} {N : ℕ} {f : Fin N → α → α} (I : ℕ → α → Prop) {a : α} (h0 : I 0 a)
    (hs : ∀ (i : Fin N) (x : α), I i.val x → I (i.val + 1) (f i x)) : ∀ (n : ℕ) (h : n ≤ N), I n (upTo f n h a)
  | 0, _ => h0
  | n + 1, h => hs ⟨n, h⟩ _ (upTo_ind I h0 hs n (Nat.le_of_succ_le h))

theorem bot_bits : Ideal.ofBits .f32 0xFF800000#32 = ⊥ := by
  simp [Ideal.ofBits, Ideal.ieee]

theorem two_bits : Ideal.ofBits .f32 0x40000000#32 = 2 := by
  simp [Ideal.ofBits, Ideal.ieee]
  rw [← EReal.coe_mul]
  norm_num
  rfl

theorem pick_at (t : FVec Ideal S16x8x128 .f32) (lo hi : IVec S8x128 32) (r : ℕ) (q : Fin 16) (tg : FVec Ideal S8x128 .f32)
    (a : Fin 8) (l : Fin 128) : pick t lo hi r q tg (ix2 a l) =
      if hi (ix2 a l) = BitVec.ofNat 32 (16 * r + q.val) then
        t (ix3 q ⟨(wrap lo (ix2 a l)).toNat % 8, Nat.mod_lt _ (by decide)⟩ l) else tg (ix2 a l) := by
  generalize hz : wrap lo = z
  pointwise [pick, dynamicGather, hz]
  by_cases h : hi (ix2 a l) = BitVec.ofNat 32 (16 * r + q.val)
  · rw [if_pos h, show IntOp.cmpi .eq (hi (ix2 a l)) (BitVec.ofNat 32 (16 * r + q.val)) = 1#1 by simp [IntOp.cmpi, h]]
    rfl
  · rw [if_neg h, show IntOp.cmpi .eq (hi (ix2 a l)) (BitVec.ofNat 32 (16 * r + q.val)) = 0#1 by
      rw [IntOp.cmpi, beq_false_of_ne h]; rfl]
    rfl

/-- One group's pick at a lane. -/
theorem pick_ok {b : Fin 8} {s : Fin 512} {a : Fin 8} {J r : ℕ} {jw : BitVec 32} (hJ : J < 25) (hr : r < 10)
    (hw : jw = BitVec.ofNat 32 J) (hx : (D.tgt (ix3 b a s)).toNat < 32000)
    {t : FVec Ideal S16x8x128 .f32} {l : Fin 128} {lo hi : IVec S8x128 32}
    (ht : ∀ (q : Fin 16) (a : Fin 8), t (ix3 q a l) = (D.th b s (1280 * J + 128 * r + 8 * q.val + a.val) : ℝ))
    (hlo : lo (ix2 a l) = (D.tgt (ix3 b a s) - jw * 1280#32) &&& 7#32)
    (hhi : hi (ix2 a l) = IntOp.shrsi .vector (D.tgt (ix3 b a s) - jw * 1280#32) 3#32)
    (q : Fin 16) (tg : FVec Ideal S8x128 .f32)
    (h : (D.tgt (ix3 b a s)).toNat < 1280 * J + 128 * r + 8 * q.val → tg (ix2 a l) = (D.th b s (D.tgt (ix3 b a s)).toNat : ℝ)) :
    (D.tgt (ix3 b a s)).toNat < 1280 * J + 128 * r + 8 * (q.val + 1) →
      pick t lo hi r q tg (ix2 a l) = (D.th b s (D.tgt (ix3 b a s)).toNat : ℝ) := by
  intro hlt
  have hit := hit_iff hx hJ hw (g := 16 * r + q.val) (by omega)
  have sub := sub_of_hit (x := D.tgt (ix3 b a s)) (g := 16 * r + q.val) hJ hw
  rw [pick_at, hhi]
  have hwr : wrap lo (ix2 a l) = (D.tgt (ix3 b a s) - jw * 1280#32) &&& 7#32 := by
    pointwise [wrap]; rw [hlo, wrap_and7]
  split
  · rename_i hc
    have hr' := hit.1 hc
    have := sub hr'
    rw [ht]
    have e : 1280 * J + 128 * r + 8 * q.val + (wrap lo (ix2 a l)).toNat % 8 = (D.tgt (ix3 b a s)).toNat := by
      rw [hwr]; omega
    simp only [e]
  · rename_i hc
    refine h ?_
    have := mt hit.2 hc
    omega

/-- A chunk of 128 vocabulary entries folded in. -/
theorem fold_ok {b : Fin 8} {c : Fin 4} {J r : ℕ} {jw : BitVec 32} (hJ : J < 25) (hr : r < 10) (hw : jw = BitVec.ofNat 32 J)
    (hx : ∀ a s, (D.tgt (ix3 b a s)).toNat < 32000)
    {t : FVec Ideal S16x8x128 .f32} {tc : FVec Ideal S8x128 .f32} {lo hi : IVec S8x128 32}
    (ht : ∀ (q : Fin 16) (a : Fin 8) (l : Fin 128),
      t (ix3 q a l) = (D.th b (col c l) (1280 * J + 128 * r + 8 * q.val + a.val) : ℝ))
    (htc : ∀ (a : Fin 8) (l : Fin 128), tc (ix2 a l) = (D.tc b (col c l) : ℝ))
    (hlo : ∀ (a : Fin 8) (l : Fin 128), lo (ix2 a l) = (D.tgt (ix3 b a (col c l)) - jw * 1280#32) &&& 7#32)
    (hhi : ∀ (a : Fin 8) (l : Fin 128), hi (ix2 a l) = IntOp.shrsi .vector (D.tgt (ix3 b a (col c l)) - jw * 1280#32) 3#32)
    {s : Stats Ideal} (h : StatsOK D b c (1280 * J + 128 * r) s) :
    StatsOK D b c (1280 * J + 128 * (r + 1)) (fold t tc lo hi r s) := by
  intro a l
  obtain ⟨hp, hg⟩ := h a l
  refine ⟨?_, ?_⟩
  · have hU : ∀ q : Fin 16, t (ix3 q a l) * tc (ix2 a l) = (D.u b (col c l) (1280 * J + 128 * r + 8 * q.val + a.val) : ℝ) := by
      intro q; rw [ht, htc, ← EReal.coe_mul]; rfl
    have := hp.chunk a.isLt (by omega) (fun q => t (ix3 q a l) * tc (ix2 a l)) hU rfl
    rw [show 1280 * J + 128 * (r + 1) = 1280 * J + 128 * r + 128 by ring]
    convert this using 1
    · pointwise [fold]; rw [bot_bits]
    · pointwise [fold]; rw [bot_bits]; rfl
    · pointwise [fold]; rw [bot_bits]; rfl
    · pointwise [fold]; rw [bot_bits, two_bits]; rfl
  · have := upTo_ind (f := pick t lo hi r) (fun q tg => (D.tgt (ix3 b a (col c l))).toNat < 1280 * J + 128 * r + 8 * q →
        tg (ix2 a l) = (D.th b (col c l) (D.tgt (ix3 b a (col c l))).toNat : ℝ)) (a := s.tg) (by simpa using hg)
      (fun q tg h => pick_ok D hJ hr hw (hx a (col c l)) (fun q a => ht q a l) (hlo a l) (hhi a l) q tg h) 16 (Nat.le_refl 16)
    intro hlt
    exact this (by omega)

end Cert.KernelIdeal.Body

end
-- ==== Proof.Strip.lean ====
module

public import proofs.«01_k».proof.Proof.State
public import proofs.«01_k».proof.Proof.Fold

@[expose] public section

set_option maxRecDepth 16384

/-!
# Reading contents after a store

A store through a rectangle replaces the contents there: `overlay_unit` reads the result at an index, and the lemmas
after it do so for the rectangles the body stores through.
-/

noncomputable section

namespace Cert.KernelIdeal.Body

open Idealize.ShloMosaic Idealize.SL.Sem
open Cert.KernelIdeal Cert.KernelIdeal.Facts₀ Cert.KernelIdeal.Facts

/-- An index inside a rectangle, counted from the rectangle's corner. -/
def backIdx {s : Shape} {off size : Fin s.rank → ℕ} (i : s.Idx) (h : ∀ a, off a ≤ i a ∧ (i a : ℕ) < off a + size a) :
    (⟨s.rank, size⟩ : Shape).Idx :=
  fun a => ⟨(i a : ℕ) - off a, by have := h a; change _ < size a; omega⟩

theorem overlay_unit {s : Shape} {α : Type} {off size : Fin s.rank → ℕ} {inb} (X : s.Idx → α)
    (G : (Rect.unit off size inb).shape.Idx → α) (i : s.Idx) :
    (Rect.unit off size inb).overlay X G i =
      if h : ∀ a, off a ≤ i a ∧ (i a : ℕ) < off a + size a then G (backIdx i h) else X i := by
  split
  · rename_i h
    have e : i = (Rect.unit off size inb).emb (backIdx i h) := by
      funext a; apply Fin.ext
      have := h a
      rw [Rect.emb_apply]
      simp only [Rect.off_unit, Rect.stride_unit, backIdx]
      omega
    exact (congrArg _ e).trans (Rect.overlay_emb _ _ _ _)
  · rename_i h
    exact Rect.overlay_of_not_mem _ _ _ (fun hm => h (Rect.mem_set_unit.1 hm))

/-- A rectangle's index placed in the shape. -/
theorem emb_norm {s : Shape} (r : Rect s) (x : r.shape.Idx) :
    r.emb x = Shape.Idx.norm fun a => ⟨r.off a + r.stride a * (x a).val, r.coord_lt a (x a).isLt⟩ := rfl

/-- A strip of a nine-slot buffer replaced. -/
theorem overlay_strip {st : ℕ} (h : st < 9) (c : Fin 4) (X : S9x8x512.Idx → EReal) (v : FVec Ideal S8x128 .f32)
    (i : Fin 9) (a : Fin 8) (s : Fin 512) :
    (Rect.unit (s := S9x8x512) ![st, 0, 128 * c.val] S1x8x128.size (inb_col9 h c)).overlay X
        (shapeCast S1x8x128 v shapeCasts_S8x128_S1x8x128) (ix3 i a s) =
      if i.val = st ∧ s.val / 128 = c.val then v (ix2 a ⟨s.val % 128, Nat.mod_lt _ (by decide)⟩) else X (ix3 i a s) := by
  rw [overlay_unit]
  by_cases hc : i.val = st ∧ s.val / 128 = c.val
  · rw [if_pos hc, dif_pos (by
      intro b; have := a.isLt; have := s.isLt
      fin_cases b <;> simp [S1x8x128, ix3] <;> omega)]
    have e : ∀ h', backIdx (s := S9x8x512) (off := ![st, 0, 128 * c.val]) (size := S1x8x128.size) (ix3 i a s) h'
        = ix3 0 a ⟨s.val % 128, Nat.mod_lt _ (by decide)⟩ := by
      intro h'
      funext b; apply Fin.ext
      fin_cases b <;> simp [S1x8x128, ix3, backIdx] <;> omega
    refine (congrArg _ (e _)).trans ?_
    pointwise []
  · rw [if_neg hc, dif_neg]
    intro h'
    have h0 := h' 0
    have h2 := h' 2
    simp [S1x8x128, ix3] at h0 h2
    omega

theorem cast_strip {α : Type} (v : S1x8x128.Idx → α) (a : Fin 8) (l : Fin 128) :
    shapeCast S8x128 v shapeCasts_S1x8x128_S8x128 (ix2 a l) = v (ix3 0 a l) := by
  pointwise []

/-- A strip of a nine-slot buffer, loaded. -/
theorem load_strip9 {st : ℕ} (h : st < 9) (c : Fin 4) (X : S9x8x512.Idx → EReal) (a : Fin 8) (l : Fin 128) :
    shapeCast S8x128 (fun j => X ((Rect.unit (s := S9x8x512) ![st, 0, 128 * c.val] S1x8x128.size (inb_col9 h c)).emb j))
      shapeCasts_S1x8x128_S8x128 (ix2 a l) = X (ix3 ⟨st, h⟩ a (col c l)) := by
  refine (cast_strip _ a l).trans (congrArg X ?_)
  funext b; apply Fin.ext
  rw [Rect.emb_apply]
  fin_cases b <;> simp [ix3]

/-- A strip of a block of an `8 × 8 × 512` buffer, loaded. -/
theorem load_strip8 {α : Type} {ii : ℕ} (h : ii < 8) (c : Fin 4) (X : S8x8x512.Idx → α) (a : Fin 8) (l : Fin 128) :
    shapeCast S8x128 (fun j => X ((Rect.unit (s := S8x8x512) ![ii, 0, 128 * c.val] S1x8x128.size (inb_col8 h c)).emb j))
      shapeCasts_S1x8x128_S8x128 (ix2 a l) = X (ix3 ⟨ii, h⟩ a (col c l)) := by
  refine (cast_strip _ a l).trans (congrArg X ?_)
  funext b; apply Fin.ext
  rw [Rect.emb_apply]
  fin_cases b <;> simp [ix3]

theorem score_read (z : Vec Ideal S128x128 .f32) (ws : Vec Ideal S1x128x128 .f32) (xs : FVec Ideal S8x128 .f32)
    (q : Fin 16) (a : Fin 8) (l : Fin 128) : score z ws xs (ix3 q a l) =
      Ideal.tanh (z (ix2 ⟨q.val * 8 + a.val, by omega⟩ l) * ws (ix3 0 ⟨q.val * 8 + a.val, by omega⟩ l) * xs (ix2 a l)) := by
  pointwise [score]

/-- A chunk of scores, from the raw scores and scales loaded. -/
theorem score_at (A : S1280x512.Idx → EReal) (Wb : S2x1280x128.Idx → EReal) {k : ℕ} (hk : k < 2) (r : Fin 10) (c : Fin 4)
    (xs : FVec Ideal S8x128 .f32) (q : Fin 16) (a : Fin 8) (l : Fin 128) :
    score (F := Ideal) (fun j => A ((Rect.unit (s := S1280x512) ![128 * r.val, 128 * c.val] S128x128.size (inb_acc r c)).emb j))
      (fun j => Wb ((Rect.unit (s := S2x1280x128) ![k, 128 * r.val, 0] S1x128x128.size (inb_wsb hk r)).emb j)) xs (ix3 q a l) =
    Ideal.tanh (A (ix2 ⟨128 * r.val + (8 * q.val + a.val), by omega⟩ (col c l)) *
      Wb (ix3 ⟨k, hk⟩ ⟨128 * r.val + (8 * q.val + a.val), by omega⟩ l) * xs (ix2 a l)) := by
  rw [score_read]
  congr 3
  · refine congrArg A ?_
    funext b; apply Fin.ext
    rw [Rect.emb_apply]
    fin_cases b <;> simp [ix2]; omega
  · refine congrArg Wb ?_
    funext b; apply Fin.ext
    rw [Rect.emb_apply]
    fin_cases b <;> simp [ix3]; omega

end Cert.KernelIdeal.Body

end
-- ==== Proof.Epilogue.lean ====
module

public import proofs.«01_k».proof.Proof.Strip

@[expose] public section

set_option maxRecDepth 16384

/-!
# One epilogue

The epilogue touches one slot of the five statistics' buffers and nothing else; and where its operands are the scores of
block `b` against vocabulary tile `J`, it takes the slot's lanes from the first `1280 J` entries to the first
`1280 (J + 1)`.
-/

noncomputable section

namespace Cert.KernelIdeal.Body

open Idealize.ShloMosaic Idealize.SL.Sem
open Cert.KernelIdeal Cert.KernelIdeal.Facts₀ Cert.KernelIdeal.Facts

variable {ca : Dev nD} {B : Bufs} (D : Data)

/-- What the five statistics' buffers hold at a lane. -/
structure Ln where
  m : EReal
  s0 : EReal
  s1 : EReal
  s2 : EReal
  tg : EReal

/-- The lane at slot `i`, sublane `a`, column `s`. -/
def lanes (σ : St Ideal) (i : Fin 9) (a : Fin 8) (s : Fin 512) : Ln :=
  ⟨σ .m (ix3 i a s), σ .s0 (ix3 i a s), σ .s1 (ix3 i a s), σ .s2 (ix3 i a s), σ .tg (ix3 i a s)⟩

/-- The lane holds the first `n` entries' statistics. -/
def LnOK (b : Fin 8) (s : Fin 512) (a : Fin 8) (n : ℕ) (L : Ln) : Prop := LaneOK D b s a n L.m L.s0 L.s1 L.s2 L.tg

/-- The buffers the statistics are kept in. -/
def Nm.isStat : Nm → Bool
  | .m => true | .s0 => true | .s1 => true | .s2 => true | .tg => true | _ => false

/-- The accumulator is one of the two, and holds `A`. -/
def AccIs (B : Bufs) (σ : St Ideal) (acc : Memref sig .tc .vmem S1280x512 .f32) (A : S1280x512.Idx → EReal) : Prop :=
  (acc = B.accA ∧ σ .accA = A) ∨ (acc = B.accB ∧ σ .accB = A)

/-- The epilogue's operands are block `b`'s against vocabulary tile `J`. -/
structure EpiHyp (σ : St Ideal) (A : S1280x512.Idx → EReal) (b : Fin 8) (J : ℕ) (k : Fin 2) : Prop where
  acc : ∀ (r : Fin 1280) (s : Fin 512), A (ix2 r s) = D.raw b s (1280 * J + r.val)
  wsb : ∀ (r : Fin 1280) (l : Fin 128), σ .wsb (ix3 k r l) = D.wsv (1280 * J + r.val)
  xss : ∀ (a : Fin 8) (s : Fin 512), σ .xss (ix3 b a s) = D.xs (ix2 b s) * c30
  tcs : ∀ (a : Fin 8) (s : Fin 512), σ .tcs (ix3 b a s) = (D.tc b s : ℝ)
  tgt : σ .tgt = D.tgt
  lt : ∀ (b : Fin 8) (a : Fin 8) (s : Fin 512), (D.tgt (ix3 b a s)).toNat < 32000

theorem W.loadAcc {acc : Memref sig .tc .vmem S1280x512 .f32} {σ : St Ideal} {A : S1280x512.Idx → EReal}
    (h : AccIs B σ acc A) {r : Rect S1280x512} {hl : acc.view.LoadsAt r}
    {Q : (r.shape.Idx → EReal) → St Ideal → Prop} (hQ : Q (fun j => A (r.emb j)) σ) :
    W ca B (Prog.lift (.load acc r.toLoadRect hl)) σ Q := by
  rcases h with ⟨rfl, rfl⟩ | ⟨rfl, rfl⟩
  · exact W.load .accA hQ
  · exact W.load .accB hQ

/-- The strip of slot `st` at column chunk `c` replaced in one buffer. -/
def ovStrip {st : ℕ} (h : st < 9) (c : Fin 4) (X : S9x8x512.Idx → EReal) (v : FVec Ideal S8x128 .f32) : S9x8x512.Idx → EReal :=
  (Rect.unit (s := S9x8x512) ![st, 0, 128 * c.val] S1x8x128.size (inb_col9 h c)).overlay X
    (shapeCast S1x8x128 v shapeCasts_S8x128_S1x8x128)

/-- The strip of slot `st` at column chunk `c` replaced in the five buffers. -/
def putStrip (σ : St Ideal) {st : ℕ} (h : st < 9) (c : Fin 4) (S : Stats Ideal) : St Ideal :=
  ((((σ.set .m (ovStrip h c (σ .m) S.m)).set .s0 (ovStrip h c (σ .s0) S.s0)).set .s1 (ovStrip h c (σ .s1) S.s1)).set .s2
    (ovStrip h c (σ .s2) S.s2)).set .tg (ovStrip h c (σ .tg) S.tg)

theorem putStrip_other (σ : St Ideal) {st : ℕ} (h : st < 9) (c : Fin 4) (S : Stats Ideal) {n : Nm} (hn : n.isStat = false) :
    putStrip σ h c S n = σ n := by
  cases n <;> first | exact absurd hn (by decide) | (simp only [putStrip]; rw [St.set_ne _ (by decide), St.set_ne _ (by decide),
    St.set_ne _ (by decide), St.set_ne _ (by decide), St.set_ne _ (by decide)])

theorem lanes_putStrip (σ : St Ideal) {st : ℕ} (h : st < 9) (c : Fin 4) (S : Stats Ideal) (i : Fin 9) (a : Fin 8) (s : Fin 512) :
    lanes (putStrip σ h c S) i a s =
      if i.val = st ∧ s.val / 128 = c.val then
        let l : Fin 128 := ⟨s.val % 128, Nat.mod_lt _ (by decide)⟩
        ⟨S.m (ix2 a l), S.s0 (ix2 a l), S.s1 (ix2 a l), S.s2 (ix2 a l), S.tg (ix2 a l)⟩
      else lanes σ i a s := by
  have em : putStrip σ h c S .m = ovStrip h c (σ .m) S.m := by
    simp only [putStrip]
    rw [St.set_ne _ (by decide), St.set_ne _ (by decide), St.set_ne _ (by decide), St.set_ne _ (by decide), St.set_same]
  have e0 : putStrip σ h c S .s0 = ovStrip h c (σ .s0) S.s0 := by
    simp only [putStrip]
    rw [St.set_ne _ (by decide), St.set_ne _ (by decide), St.set_ne _ (by decide), St.set_same]
  have e1 : putStrip σ h c S .s1 = ovStrip h c (σ .s1) S.s1 := by
    simp only [putStrip]
    rw [St.set_ne _ (by decide), St.set_ne _ (by decide), St.set_same]
  have e2 : putStrip σ h c S .s2 = ovStrip h c (σ .s2) S.s2 := by
    simp only [putStrip]
    rw [St.set_ne _ (by decide), St.set_same]
  have eg : putStrip σ h c S .tg = ovStrip h c (σ .tg) S.tg := by
    simp only [putStrip]
    rw [St.set_same]
  unfold lanes
  have ov : ∀ X v, ovStrip h c X v (ix3 i a s) = _ := fun X v => overlay_strip h c X v i a s
  rw [em, e0, e1, e2, eg, ov, ov, ov, ov, ov]
  split <;> rfl

/-- The epilogue's row chunk, on what its operands hold. -/
theorem epiRow_W {acc : Memref sig .tc .vmem S1280x512 .f32} {σ : St Ideal} {A : S1280x512.Idx → EReal}
    (h : AccIs B σ acc A) {k : ℕ} (hk : k < 2) (c : Fin 4) (xs tc : FVec Ideal S8x128 .f32) (lo hi : IVec S8x128 32) (r : Fin 10)
    (s : Stats Ideal) :
    W ca B (epiRow B acc hk c xs tc lo hi r s) σ fun s' σ' => σ' = σ ∧ s' = fold (score (F := Ideal)
      (fun j => A ((Rect.unit (s := S1280x512) ![128 * r.val, 128 * c.val] S128x128.size (inb_acc r c)).emb j))
      (fun j => σ .wsb ((Rect.unit (s := S2x1280x128) ![k, 128 * r.val, 0] S1x128x128.size (inb_wsb hk r)).emb j)) xs) tc lo hi r.val s := by
  unfold epiRow
  refine W.bind (W.loadAcc h ?_)
  refine W.bind (W.load .wsb ?_)
  exact W.pure ⟨rfl, rfl⟩

/-- The column chunk: one strip of the statistics replaced, by the next tile's if the operands are that tile's. -/
theorem epiCol_W {acc : Memref sig .tc .vmem S1280x512 .f32} {σ : St Ideal} {A : S1280x512.Idx → EReal}
    (h : AccIs B σ acc A) {jw : BitVec 32} {ii st k : ℕ} (hi8 : ii < 8) (hst : st < 9) (hk : k < 2) (c : Fin 4) (x : PUnit) :
    W ca B (epiCol B acc jw hi8 hst hk c x) σ fun _ σ' => ∃ S : Stats Ideal, σ' = putStrip σ hst c S ∧
      ∀ J : ℕ, J < 25 → jw = BitVec.ofNat 32 J → EpiHyp D σ A ⟨ii, hi8⟩ J ⟨k, hk⟩ →
        (∀ a l, LnOK D ⟨ii, hi8⟩ (col c l) a (1280 * J) (lanes σ ⟨st, hst⟩ a (col c l))) →
        StatsOK D ⟨ii, hi8⟩ c (1280 * (J + 1)) S := by
  unfold epiCol ldCol8 ldCol9
  refine W.bind (W.load .xss ?_)
  refine W.bind (W.load .tcs ?_)
  refine W.bind (W.load .tgt ?_)
  refine W.bind (W.load .m ?_)
  refine W.bind (W.load .s0 ?_)
  refine W.bind (W.load .s1 ?_)
  refine W.bind (W.load .s2 ?_)
  refine W.bind (W.load .tg ?_)
  refine W.bind (W.runAll (fun r s σ' => σ' = σ ∧
      ∀ J : ℕ, J < 25 → jw = BitVec.ofNat 32 J → EpiHyp D σ A ⟨ii, hi8⟩ J ⟨k, hk⟩ →
        (∀ a l, LnOK D ⟨ii, hi8⟩ (col c l) a (1280 * J) (lanes σ ⟨st, hst⟩ a (col c l))) →
        StatsOK D ⟨ii, hi8⟩ c (1280 * J + 128 * r) s) ?_ ?_ ?_)
  · refine ⟨rfl, fun J hJ hw hyp hl a l => ?_⟩
    dsimp only
    rw [load_strip9 hst c (σ .m), load_strip9 hst c (σ .s0), load_strip9 hst c (σ .s1), load_strip9 hst c (σ .s2),
      load_strip9 hst c (σ .tg)]
    exact hl a l
  · rintro r s σ' ⟨rfl, hI⟩
    refine (epiRow_W h hk c _ _ _ _ r s).mono ?_
    rintro s' σ'' ⟨rfl, rfl⟩
    refine ⟨rfl, fun J hJ hw hyp hl => ?_⟩
    refine fold_ok D hJ r.isLt hw (fun a s => hyp.lt _ a s) ?_ ?_ ?_ ?_ (hI J hJ hw hyp hl)
    · intro q a l
      rw [score_at A (σ'' .wsb) hk r c, load_strip8 hi8 c (σ'' .xss), hyp.acc, hyp.wsb, hyp.xss, Data.th, tanh_real]
      simp only [Nat.add_assoc]
    · intro a l
      rw [load_strip8 hi8 c (σ'' .tcs), hyp.tcs]
    · intro a l
      exact (congrArg (fun y => (y - jw * 1280#32) &&& 7#32) (load_strip8 hi8 c (σ'' .tgt) a l)).trans (by rw [hyp.tgt])
    · intro a l
      exact (congrArg (fun y => IntOp.shrsi .vector (y - jw * 1280#32) 3#32) (load_strip8 hi8 c (σ'' .tgt) a l)).trans
        (by rw [hyp.tgt])
  · rintro S σ' ⟨rfl, hI⟩
    unfold stCol9 ldCol9
    refine W.bind (W.bind (W.load .m (W.store .m ?_)))
    refine W.bind (W.bind (W.load .s0 (W.store .s0 ?_)))
    refine W.bind (W.bind (W.load .s1 (W.store .s1 ?_)))
    refine W.bind (W.bind (W.load .s2 (W.store .s2 ?_)))
    refine W.bind (W.load .tg (W.store .tg ?_))
    refine ⟨S, ?_, hI⟩
    unfold putStrip ovStrip
    rfl

theorem EpiHyp.of_eq {σ σ' : St Ideal} {A : S1280x512.Idx → EReal} {b : Fin 8} {J : ℕ} {k : Fin 2} (h : EpiHyp D σ A b J k)
    (e : ∀ n : Nm, n.isStat = false → σ' n = σ n) : EpiHyp D σ' A b J k :=
  ⟨h.acc, fun r l => by rw [e .wsb rfl]; exact h.wsb r l, fun a s => by rw [e .xss rfl]; exact h.xss a s,
    fun a s => by rw [e .tcs rfl]; exact h.tcs a s, by rw [e .tgt rfl]; exact h.tgt, h.lt⟩

theorem AccIs.of_eq {σ σ' : St Ideal} {acc : Memref sig .tc .vmem S1280x512 .f32} {A : S1280x512.Idx → EReal}
    (h : AccIs B σ acc A) (e : ∀ n : Nm, n.isStat = false → σ' n = σ n) : AccIs B σ' acc A := by
  rcases h with ⟨h, h'⟩ | ⟨h, h'⟩
  · exact .inl ⟨h, by rw [e .accA rfl]; exact h'⟩
  · exact .inr ⟨h, by rw [e .accB rfl]; exact h'⟩

/-- What an epilogue on slot `st` may change, and what it makes of that slot. -/
structure EpiPost (σ : St Ideal) (A : S1280x512.Idx → EReal) (jw : BitVec 32) (ii : Fin 8) (st : Fin 9) (k : Fin 2)
    (σ' : St Ideal) : Prop where
  other : ∀ n : Nm, n.isStat = false → σ' n = σ n
  slots : ∀ (i : Fin 9) (a : Fin 8) (s : Fin 512), i ≠ st → lanes σ' i a s = lanes σ i a s
  slot : ∀ J : ℕ, J < 25 → jw = BitVec.ofNat 32 J → EpiHyp D σ A ii J k →
    (∀ a s, LnOK D ii s a (1280 * J) (lanes σ st a s)) → ∀ a s, LnOK D ii s a (1280 * (J + 1)) (lanes σ' st a s)

theorem epilogue_W {acc : Memref sig .tc .vmem S1280x512 .f32} {σ : St Ideal} {A : S1280x512.Idx → EReal}
    (h : AccIs B σ acc A) (jw : BitVec 32) {ii st k : ℕ} (hi8 : ii < 8) (hst : st < 9) (hk : k < 2) :
    W ca B (epilogue B acc jw hi8 hst hk) σ fun _ σ' => EpiPost D σ A jw ⟨ii, hi8⟩ ⟨st, hst⟩ ⟨k, hk⟩ σ' := by
  unfold epilogue
  refine W.runAll (fun c _ σ' => (∀ n : Nm, n.isStat = false → σ' n = σ n) ∧
    (∀ (i : Fin 9) (a : Fin 8) (s : Fin 512), i ≠ ⟨st, hst⟩ ∨ c ≤ s.val / 128 → lanes σ' i a s = lanes σ i a s) ∧
    ∀ J : ℕ, J < 25 → jw = BitVec.ofNat 32 J → EpiHyp D σ A ⟨ii, hi8⟩ J ⟨k, hk⟩ →
      (∀ a s, LnOK D ⟨ii, hi8⟩ s a (1280 * J) (lanes σ ⟨st, hst⟩ a s)) →
      ∀ a (s : Fin 512), s.val / 128 < c → LnOK D ⟨ii, hi8⟩ s a (1280 * (J + 1)) (lanes σ' ⟨st, hst⟩ a s)) ?_ ?_ ?_
  · exact ⟨fun _ _ => rfl, fun _ _ _ _ => rfl, fun _ _ _ _ _ _ s hs => absurd hs (by omega)⟩
  · rintro c x σ' ⟨ho, hs, hl⟩
    refine (epiCol_W D (h.of_eq ho) hi8 hst hk c x).mono ?_
    rintro _ σ'' ⟨S, rfl, hS⟩
    refine ⟨fun n hn => (putStrip_other σ' hst c S hn).trans (ho n hn), fun i a s hi => ?_, fun J hJ hw hyp h0 a s hlt => ?_⟩
    · rw [lanes_putStrip, if_neg, hs i a s (hi.imp_right (by omega))]
      rintro ⟨h1, h2⟩
      rcases hi with hi | hi
      · exact hi (Fin.ext h1)
      · omega
    · rw [lanes_putStrip]
      by_cases hc : s.val / 128 = c.val
      · rw [if_pos ⟨rfl, hc⟩]
        have := hS J hJ hw (hyp.of_eq D ho) (fun a l => by
          rw [hs ⟨st, hst⟩ a (col c l) (.inr (by simp only [col]; omega))]
          exact h0 a _) a ⟨s.val % 128, Nat.mod_lt _ (by decide)⟩
        have e : col c ⟨s.val % 128, Nat.mod_lt _ (by decide)⟩ = s := by
          apply Fin.ext; simp only [col]; omega
        rw [e] at this
        exact this
      · rw [if_neg (fun h => hc h.2)]
        exact hl J hJ hw hyp h0 a s (by omega)
  · rintro _ σ' ⟨ho, hs, hl⟩
    exact ⟨ho, fun i a s hi => hs i a s (.inl hi), fun J hJ hw hyp h0 a s => hl J hJ hw hyp h0 a s (by omega)⟩

end Cert.KernelIdeal.Body

end
-- ==== Proof.Prep.lean ====
module

public import proofs.«01_k».proof.Proof.Epilogue

@[expose] public section

set_option maxRecDepth 16384

/-!
# The pieces around the epilogues

What the score matrices, the spread vocabulary scales and the first grid point's preparation leave in the buffers.
-/

noncomputable section

namespace Cert.KernelIdeal.Body

open Idealize.ShloMosaic Idealize.SL.Sem
open Cert.KernelIdeal Cert.KernelIdeal.Facts₀ Cert.KernelIdeal.Facts

variable {ca : Dev nD} {B : Bufs} (D : Data)

/-! ## Stores read back -/

theorem St.set_set (σ : St Ideal) (n : Nm) (X Y : n.sh.Idx → Elt Ideal n.el) : (σ.set n X).set n Y = σ.set n Y :=
  Function.update_idem ..

theorem overlay_at {s : Shape} {α : Type} {r : Rect s} {X : s.Idx → α} {G : r.shape.Idx → α} {i : s.Idx} (j : r.shape.Idx)
    (h : ∀ a, (i a : ℕ) = r.off a + r.stride a * (j a : ℕ)) : r.overlay X G i = G j := by
  have e : i = r.emb j := by funext a; exact Fin.ext (h a)
  rw [e, Rect.overlay_emb]

theorem overlay_off {s : Shape} {α : Type} {off size : Fin s.rank → ℕ} {inb} {X : s.Idx → α}
    {G : (Rect.unit off size inb).shape.Idx → α} {i : s.Idx}
    (h : ¬ ∀ a, off a ≤ i a ∧ (i a : ℕ) < off a + size a) : (Rect.unit off size inb).overlay X G i = X i :=
  Rect.overlay_of_not_mem _ _ _ (fun hm => h (Rect.mem_set_unit.1 hm))

/-- A whole buffer replaced. -/
theorem overlay_all {s : Shape} {α : Type} {off : Fin s.rank → ℕ} {inb} (h0 : ∀ a, off a = 0) (X : s.Idx → α)
    (G : (Rect.unit off s.size inb).shape.Idx → α) (i : s.Idx) : (Rect.unit off s.size inb).overlay X G i = G i :=
  overlay_at (r := Rect.unit off s.size inb) i fun a => by
    rw [Rect.off_unit, Rect.stride_unit, h0]; omega

/-- A whole buffer read. -/
theorem emb_all {s : Shape} {off : Fin s.rank → ℕ} {inb} (h0 : ∀ a, off a = 0) (j : s.Idx) :
    (Rect.unit off s.size inb).emb j = j := by
  funext a; apply Fin.ext
  rw [Rect.emb_apply, Rect.off_unit, Rect.stride_unit, h0]; omega

/-- Block `i` of an `8 × 8 × 512` buffer replaced. -/
theorem overlay_blk (i : Fin 8) (X : S8x8x512.Idx → EReal) (v : FVec Ideal S8x512 .f32) (b a : Fin 8) (s : Fin 512) :
    (Rect.unit (s := S8x8x512) ![i.val, 0, 0] S1x8x512.size (inb_blk8 i)).overlay X
        (shapeCast S1x8x512 v shapeCasts_S8x512_S1x8x512) (ix3 b a s) =
      if b = i then v (ix2 a s) else X (ix3 b a s) := by
  split
  · rename_i h
    subst h
    refine (overlay_at (r := Rect.unit (s := S8x8x512) ![b.val, 0, 0] S1x8x512.size (inb_blk8 b)) (ix3 0 a s) ?_).trans ?_
    · intro d; fin_cases d <;> simp [ix3]
    · pointwise []
  · rename_i h
    refine overlay_off fun h' => h ?_
    have h0 := h' 0
    simp [S1x8x512, ix3] at h0
    exact Fin.ext (by omega)

/-- Row `i` of an `8 × 512` buffer replaced. -/
theorem overlay_row (i : Fin 8) (X : S8x512.Idx → EReal) (v : FVec Ideal S1x512 .f32) (b : Fin 8) (s : Fin 512) :
    (Rect.unit (s := S8x512) ![i.val, 0] S1x512.size (inb_row8 i)).overlay X v (ix2 b s) =
      if b = i then v (ix2 0 s) else X (ix2 b s) := by
  split
  · rename_i h
    subst h
    refine (overlay_at (r := Rect.unit (s := S8x512) ![b.val, 0] S1x512.size (inb_row8 b)) (ix2 0 s) ?_)
    intro d; fin_cases d <;> simp [ix2]
  · rename_i h
    refine overlay_off fun h' => h ?_
    have h0 := h' 0
    simp [S1x512, ix2] at h0
    exact Fin.ext (by omega)

/-- A chunk of the spread scales replaced. -/
theorem overlay_wsb {k : ℕ} (hk : k < 2) (r : Fin 10) (X : S2x1280x128.Idx → EReal) (v : FVec Ideal S128x128 .f32)
    (i : Fin 2) (p : Fin 1280) (l : Fin 128) :
    (Rect.unit (s := S2x1280x128) ![k, 128 * r.val, 0] S1x128x128.size (inb_wsb hk r)).overlay X
        (shapeCast S1x128x128 v shapeCasts_S128x128_S1x128x128) (ix3 i p l) =
      if i.val = k ∧ p.val / 128 = r.val then v (ix2 ⟨p.val % 128, Nat.mod_lt _ (by decide)⟩ l) else X (ix3 i p l) := by
  split
  · rename_i h
    refine (overlay_at (r := Rect.unit (s := S2x1280x128) ![k, 128 * r.val, 0] S1x128x128.size (inb_wsb hk r))
      (ix3 0 ⟨p.val % 128, Nat.mod_lt _ (by decide)⟩ l) ?_).trans ?_
    · intro d; fin_cases d <;> simp [ix3] <;> omega
    · pointwise []
  · rename_i h
    refine overlay_off fun h' => h ?_
    have h0 := h' 0
    have h1 := h' 1
    simp [S1x128x128, ix3] at h0 h1
    omega

/-! ## The scores -/

theorem gemm_read (W' : FVec Ideal S1280x4096 .fp8e4m3) (X' : FVec Ideal S1x512x4096 .fp8e4m3) (r : Fin 1280) (s : Fin 512) :
    shapeCast S1280x512 (matmul (F := Ideal) (φ₁ := .fp8e4m3) (φ₂ := .fp8e4m3) dot_S1280x4096_S512x4096_S1280x512_1_1_0_0_n_n none W'
        (shapeCast S512x4096 X' shapeCasts_S1x512x4096_S512x4096) (constant (F := Ideal) S1280x512 .f32 0x00000000#32))
        shapeCasts_S1280x512_S1280x512 (ix2 r s)
      = (∑ k : Fin 4096, W' (ix2 r k) * X' (ix3 0 s k) : EReal) := by
  pointwise []

/-- A block of row codes read. -/
theorem emb_x {i : ℕ} (h : i < 8) (s : Fin 512) (k : Fin 4096) :
    (Rect.unit (s := S8x512x4096) ![i, 0, 0] S1x512x4096.size (inb_x h)).emb (ix3 0 s k) = ix3 ⟨i, h⟩ s k := by
  funext d; apply Fin.ext
  rw [Rect.emb_apply]
  fin_cases d <;> simp [ix3]

/-- The scores as stored, from the codes as read. -/
abbrev gemmTerm (W' : FVec Ideal S1280x4096 .fp8e4m3) (X' : FVec Ideal S1x512x4096 .fp8e4m3) (Y : S1280x512.Idx → EReal) :
    S1280x512.Idx → EReal :=
  (Rect.unit (s := S1280x512) ![0, 0] S1280x512.size inb_S1280x512_S1280x512_0_0).overlay Y
      (shapeCast S1280x512 (matmul (F := Ideal) (φ₁ := .fp8e4m3) (φ₂ := .fp8e4m3) dot_S1280x4096_S512x4096_S1280x512_1_1_0_0_n_n none W'
        (shapeCast S512x4096 X' shapeCasts_S1x512x4096_S512x4096) (constant (F := Ideal) S1280x512 .f32 0x00000000#32))
        shapeCasts_S1280x512_S1280x512)

/-- Block `i`'s scores against the tile of codes held. -/
theorem gemm_val {i : ℕ} (h : i < 8) (Wt : S1280x4096.Idx → EReal) (X : S8x512x4096.Idx → EReal) (Y : S1280x512.Idx → EReal)
    (r : Fin 1280) (s : Fin 512) :
    gemmTerm (fun j => Wt ((Rect.unit (s := S1280x4096) ![0, 0] S1280x4096.size inb_S1280x4096_S1280x4096_0_0).emb j))
      (fun j => X ((Rect.unit (s := S8x512x4096) ![i, 0, 0] S1x512x4096.size (inb_x h)).emb j)) Y (ix2 r s)
      = ∑ k : Fin 4096, Wt (ix2 r k) * X (ix3 ⟨i, h⟩ s k) := by
  refine (overlay_all (by intro a; fin_cases a <;> rfl) _ _ _).trans ((gemm_read _ _ r s).trans ?_)
  refine Finset.sum_congr rfl fun k _ => ?_
  rw [emb_all (by intro a; fin_cases a <;> rfl), emb_x]

theorem gemmA_W {σ : St Ideal} {i : ℕ} (h : i < 8) :
    W ca B (gemm B B.accA h) σ fun _ σ' => ∃ V : S1280x512.Idx → EReal, σ' = σ.set .accA V ∧
      ∀ r s, V (ix2 r s) = ∑ k : Fin 4096, σ .w (ix2 r k) * σ .x (ix3 ⟨i, h⟩ s k) := by
  unfold gemm
  refine W.bind (W.load .w ?_)
  refine W.bind (W.load .x ?_)
  refine W.bind (W.load .accA ?_)
  exact W.store .accA ⟨_, rfl, fun r s => gemm_val h (σ .w) (σ .x) (σ .accA) r s⟩

theorem gemmB_W {σ : St Ideal} {i : ℕ} (h : i < 8) :
    W ca B (gemm B B.accB h) σ fun _ σ' => ∃ V : S1280x512.Idx → EReal, σ' = σ.set .accB V ∧
      ∀ r s, V (ix2 r s) = ∑ k : Fin 4096, σ .w (ix2 r k) * σ .x (ix3 ⟨i, h⟩ s k) := by
  unfold gemm
  refine W.bind (W.load .w ?_)
  refine W.bind (W.load .x ?_)
  refine W.bind (W.load .accB ?_)
  exact W.store .accB ⟨_, rfl, fun r s => gemm_val h (σ .w) (σ .x) (σ .accB) r s⟩

/-! ## The vocabulary scales -/

theorem off1_eq (i : grid0.Coords) (r : Fin 10) : k0_off1 i (BitVec.ofNat 32 (128 * r.val)) 0 = 1280 * (i 0).val + 128 * r.val := by
  revert i r; decide +kernel

theorem off2_eq (i : grid0.Coords) : k0_off2 i 0 = (i 0).val % 2 := by
  revert i; decide +kernel

theorem spread_at (v : Vec Ideal S128 .f32) (p l : Fin 128) :
    transpose S128x128 [1, 0] (broadcastTo S128x128 (shapeCast S1x128 (shapeCast S1x128 v shapeCasts_S128_S1x128)
      shapeCasts_S1x128_S1x128) broadcasts_S1x128_S128x128) transposes_S128x128_p1_0_S128x128 (ix2 p l) = v (ix1 p) := by
  pointwise []

theorem coords_lt (i : grid0.Coords) : (i 0).val < 25 := by
  revert i; decide +kernel

/-- The tile's scales, spread along the lanes of one of the two slots. -/
theorem ws_W {σ : St Ideal} (i : grid0.Coords) (hws : σ .ws = D.ws) :
    W ca B (runAll 10 (wsStep i B) ⟨⟩) σ fun _ σ' => ∃ V : S2x1280x128.Idx → EReal, σ' = σ.set .wsb V ∧
      (∀ k p l, k.val ≠ (i 0).val % 2 → V (ix3 k p l) = σ .wsb (ix3 k p l)) ∧
      ∀ (k : Fin 2) (p : Fin 1280) (l : Fin 128), k.val = (i 0).val % 2 → V (ix3 k p l) = D.wsv (1280 * (i 0).val + p.val) := by
  refine W.runAll (fun r _ σ' => ∃ V : S2x1280x128.Idx → EReal, σ' = σ.set .wsb V ∧
      (∀ k p l, k.val ≠ (i 0).val % 2 → V (ix3 k p l) = σ .wsb (ix3 k p l)) ∧
      ∀ (k : Fin 2) (p : Fin 1280) (l : Fin 128), k.val = (i 0).val % 2 → p.val / 128 < r →
        V (ix3 k p l) = D.wsv (1280 * (i 0).val + p.val)) ?_ ?_ ?_
  · exact ⟨σ .wsb, by simp [St.set], fun _ _ _ _ => rfl, fun _ _ _ _ h => absurd h (by omega)⟩
  · rintro r _ σ' ⟨V, rfl, h1, h2⟩
    unfold wsStep
    refine W.bind (W.load .ws ?_)
    refine W.bind (W.load .wsb ?_)
    refine W.store .wsb ?_
    refine ⟨_, St.set_set _ _ _ _, ?_, ?_⟩
    · intro k p l hk
      refine (overlay_wsb (slotLt i) r _ _ k p l).trans ?_
      rw [St.set_same]
      rw [if_neg (by rw [off2_eq]; exact fun h => hk h.1)]
      exact h1 k p l hk
    · intro k p l hk hp
      refine (overlay_wsb (slotLt i) r _ _ k p l).trans ?_
      rw [St.set_same]
      by_cases hc : p.val / 128 = r.val
      · rw [if_pos ⟨by rw [off2_eq]; exact hk, hc⟩, spread_at, St.set_ne _ (by decide), hws, Data.wsv,
          dif_pos (by have := coords_lt i; have := p.isLt; omega)]
        congr 1
        funext d; apply Fin.ext
        rw [Rect.emb_apply]
        fin_cases d
        simp [ix1, off1_eq]; omega
      · rw [if_neg (fun h => hc h.2)]
        exact h2 k p l hk (by omega)
  · rintro _ σ' ⟨V, rfl, h1, h2⟩
    exact ⟨V, rfl, h1, fun k p l hk => h2 k p l hk (by have := p.isLt; omega)⟩

end Cert.KernelIdeal.Body

end
-- ==== Proof.Start.lean ====
module

public import proofs.«01_k».proof.Proof.Prep

@[expose] public section

set_option maxRecDepth 16384

/-!
# The first grid point's preparation

Every lane starts at a real reference with empty sums, and the two scales of each row are spread along the sublanes.
-/

noncomputable section

namespace Cert.KernelIdeal.Body

open Idealize.ShloMosaic Idealize.SL.Sem
open Cert.KernelIdeal Cert.KernelIdeal.Facts₀ Cert.KernelIdeal.Facts

variable {ca : Dev nD} {B : Bufs} (D : Data)

/-- What the claims ask of the data: every target is in the vocabulary and no temperature is zero. -/
structure Data.Valid : Prop where
  tgt : ∀ (b : Fin 8) (a : Fin 8) (s : Fin 512), (D.tgt (ix3 b a s)).toNat < 32000
  temp : ∀ (b : Fin 8) (s : Fin 512), D.temp (ix2 b s) ≠ 0

/-- The spread scales of a row are right. -/
def ScaleOK (σ : St Ideal) (b : Fin 8) : Prop :=
  (∀ (a : Fin 8) (s : Fin 512), σ .xss (ix3 b a s) = D.xs (ix2 b s) * c30) ∧
  ∀ (a : Fin 8) (s : Fin 512), σ .tcs (ix3 b a s) = (D.tc b s : ℝ)

theorem div_tc (hD : D.Valid) (b : Fin 8) (s : Fin 512) :
    Ideal.div ((30 * (Real.log 2)⁻¹ : ℝ) : EReal) (D.temp (ix2 b s)) = (D.tc b s : ℝ) := by
  rw [Ideal.div, if_neg (hD.temp b s), Data.tc, EReal.coe_mul (30 * (Real.log 2)⁻¹) _, Data.tau, inv_real]

theorem row_emb (i : Fin 8) (s : Fin 512) :
    (Rect.unit (s := S8x512) ![i.val, 0] S1x512.size (inb_row8 i)).emb (ix2 0 s) = ix2 i s := by
  funext d; apply Fin.ext
  rw [Rect.emb_apply]
  fin_cases d <;> simp [ix2]

theorem xss_at (v : Vec Ideal S1x512 .f32) (a : Fin 8) (s : Fin 512) :
    broadcastTo S8x512 (shapeCast S1x512 (mulf v (broadcast S1x512 (Scalar.ofBits .f32 0x3D088889#32 : Ideal .f32)))
      shapeCasts_S1x512_S1x512) broadcasts_S1x512_S8x512 (ix2 a s) = v (ix2 0 s) * c30 := by
  pointwise [c30]

theorem tcs_at (v : Vec Ideal S1x512 .f32) (a : Fin 8) (s : Fin 512) :
    broadcastTo S8x512 (shapeCast S1x512 (divf (broadcast S1x512 (Named.named κ "softcap_log2e" 0x422D1F97#32 : Ideal .f32)) v)
      shapeCasts_S1x512_S1x512) broadcasts_S1x512_S8x512 (ix2 a s) =
      Ideal.div ((30 * (Real.log 2)⁻¹ : ℝ) : EReal) (v (ix2 0 s)) := by
  pointwise []
  rfl

/-- One row's scales spread. -/
theorem scale_W (hD : D.Valid) {σ : St Ideal} (hxs : σ .xs = D.xs) (htp : σ .temp = D.temp) :
    W ca B (runAll 8 (scaleStep B) ⟨⟩) σ fun _ σ' => (∀ n : Nm, n ≠ .xss → n ≠ .tcs → σ' n = σ n) ∧ ∀ b, ScaleOK D σ' b := by
  refine W.runAll (fun i _ σ' => (∀ n : Nm, n ≠ .xss → n ≠ .tcs → σ' n = σ n) ∧ ∀ b : Fin 8, b.val < i → ScaleOK D σ' b) ?_ ?_ ?_
  · exact ⟨fun _ _ _ => rfl, fun _ h => absurd h (by omega)⟩
  · rintro i _ σ' ⟨ho, hs⟩
    unfold scaleStep ldRow stBlk
    refine W.bind (W.load .xs ?_)
    refine W.bind (W.load .temp ?_)
    refine W.bind (W.bind (W.load .xss (W.store .xss ?_)))
    refine W.bind (W.load .tcs (W.store .tcs ?_))
    refine ⟨fun n h1 h2 => by rw [St.set_ne _ h2, St.set_ne _ h1, ho n h1 h2], fun b hb => ⟨fun a s => ?_, fun a s => ?_⟩⟩
    · rw [St.set_ne _ (by decide), St.set_same]
      refine (overlay_blk i _ _ b a s).trans ?_
      split
      · rename_i h; subst h
        refine (xss_at _ a s).trans ?_
        dsimp only
        rw [row_emb, ho .xs (by decide) (by decide), hxs]
      · rename_i h
        exact (hs b (by have := Fin.val_ne_of_ne h; omega)).1 a s
    · rw [St.set_same]
      refine (overlay_blk i _ _ b a s).trans ?_
      split
      · rename_i h; subst h
        refine (tcs_at _ a s).trans ?_
        dsimp only
        rw [row_emb, ho .temp (by decide) (by decide), htp, div_tc D hD]
      · rename_i h
        rw [St.set_ne _ (by decide)]
        exact (hs b (by have := Fin.val_ne_of_ne h; omega)).2 a s
  · rintro _ σ' ⟨ho, hs⟩
    exact ⟨ho, fun b => hs b b.isLt⟩

/-- The buffers a grid point leaves alone unless it is the last. -/
def Nm.isKeep : Nm → Bool
  | .ent => true | .var => true | .lp => true | n => n.isIn

theorem start_real : ∃ μ : ℝ, Ideal.ofBits .f32 0xDD5E0B6B#32 = μ := by
  simp [Ideal.ofBits, Ideal.ieee]
  exact ⟨-(14551915 * 2 ^ 36), by rw [EReal.coe_neg, EReal.coe_mul]; rfl⟩

theorem LnOK.start (b : Fin 8) (s : Fin 512) (a : Fin 8) : LnOK D b s a 0 ⟨Ideal.ofBits .f32 0xDD5E0B6B#32, 0, 0, 0, 0⟩ := by
  obtain ⟨μ, hμ⟩ := start_real
  refine ⟨?_, fun h => absurd h (by omega)⟩
  rw [hμ]
  exact Part.start _ _ _

theorem fill_at (X : S9x8x512.Idx → EReal) (v : BitVec 32) (i : S9x8x512.Idx) :
    (Rect.unit (s := S9x8x512) ![0, 0, 0] S9x8x512.size inb_S9x8x512_S9x8x512_0_0_0).overlay X
      (shapeCast S9x8x512 (broadcast S9x8x512 (Scalar.ofBits .f32 v : Ideal .f32)) shapeCasts_S9x8x512_S9x8x512) i
      = Ideal.ofBits .f32 v :=
  (overlay_all (by intro a; fin_cases a <;> rfl) _ _ _).trans rfl

/-- The preparation. -/
theorem init_W (hD : D.Valid) {σ : St Ideal} (hxs : σ .xs = D.xs) (htp : σ .temp = D.temp) :
    W ca B (initBody B) σ fun _ σ' => (∀ n : Nm, n.isKeep = true → σ' n = σ n) ∧ (∀ b, ScaleOK D σ' b) ∧
      ∀ i a s, lanes σ' i a s = ⟨Ideal.ofBits .f32 0xDD5E0B6B#32, 0, 0, 0, 0⟩ := by
  unfold initBody fill9
  refine W.bind (W.bind (W.load .m (W.store .m ?_)))
  refine W.bind (W.bind (W.load .s0 (W.store .s0 ?_)))
  refine W.bind (W.bind (W.load .s1 (W.store .s1 ?_)))
  refine W.bind (W.bind (W.load .s2 (W.store .s2 ?_)))
  refine W.bind (W.bind (W.load .tg (W.store .tg ?_)))
  refine W.bind (W.load .wsb ?_)
  refine W.bind (W.store .wsb ?_)
  refine W.bind (W.load .accB ?_)
  refine W.bind (W.store .accB ?_)
  refine (scale_W D hD ?_ ?_).mono ?_
  · simp only [St.set_ne _ (show Nm.xs ≠ .accB by decide), St.set_ne _ (show Nm.xs ≠ .wsb by decide),
      St.set_ne _ (show Nm.xs ≠ .tg by decide), St.set_ne _ (show Nm.xs ≠ .s2 by decide),
      St.set_ne _ (show Nm.xs ≠ .s1 by decide), St.set_ne _ (show Nm.xs ≠ .s0 by decide),
      St.set_ne _ (show Nm.xs ≠ .m by decide), hxs]
  · simp only [St.set_ne _ (show Nm.temp ≠ .accB by decide), St.set_ne _ (show Nm.temp ≠ .wsb by decide),
      St.set_ne _ (show Nm.temp ≠ .tg by decide), St.set_ne _ (show Nm.temp ≠ .s2 by decide),
      St.set_ne _ (show Nm.temp ≠ .s1 by decide), St.set_ne _ (show Nm.temp ≠ .s0 by decide),
      St.set_ne _ (show Nm.temp ≠ .m by decide), htp]
  · rintro _ σ' ⟨ho, hs⟩
    refine ⟨fun n hn => ?_, hs, fun i a s => ?_⟩
    · have hne : ∀ n' : Nm, n'.isKeep = false → n ≠ n' := fun n' h' e => by rw [e, h'] at hn; exact Bool.noConfusion hn
      rw [ho n (hne _ rfl) (hne _ rfl), St.set_ne _ (hne _ rfl), St.set_ne _ (hne _ rfl), St.set_ne _ (hne _ rfl),
        St.set_ne _ (hne _ rfl), St.set_ne _ (hne _ rfl), St.set_ne _ (hne _ rfl), St.set_ne _ (hne _ rfl)]
    · have em := ho .m (by decide) (by decide)
      have e0 := ho .s0 (by decide) (by decide)
      have e1 := ho .s1 (by decide) (by decide)
      have e2 := ho .s2 (by decide) (by decide)
      have eg := ho .tg (by decide) (by decide)
      unfold lanes
      rw [em, e0, e1, e2, eg]
      have z : Ideal.ofBits .f32 0x00000000#32 = 0 := Ideal.ofBits_zero_f32
      congr 1
      · exact fill_at _ _ _
      · exact (fill_at _ _ _).trans z
      · exact (fill_at _ _ _).trans z
      · exact (fill_at _ _ _).trans z
      · exact (fill_at _ _ _).trans z

end Cert.KernelIdeal.Body

end
-- ==== Proof.Point.lean ====
module

public import proofs.«01_k».proof.Proof.Start

@[expose] public section

set_option maxRecDepth 16384

/-!
# A grid point's loop

The loop forms the scores of one block while the block before it is folded, so a block of the tile before is still
unfolded when a point begins. `Core` says, for each block, how many vocabulary entries its lanes hold; `Inv` adds
which scores are waiting.
-/

noncomputable section

namespace Cert.KernelIdeal.Body

open Idealize.ShloMosaic Idealize.SL.Sem
open Cert.KernelIdeal Cert.KernelIdeal.Facts₀ Cert.KernelIdeal.Facts

variable {ca : Dev nD} {B : Bufs} (D : Data)

/-- The inputs' buffers hold the data, the weights' buffer tile `j` of it. -/
structure Inp (j : ℕ) (σ : St Ideal) : Prop where
  x : σ .x = D.x
  xs : σ .xs = D.xs
  ws : σ .ws = D.ws
  tgt : σ .tgt = D.tgt
  temp : σ .temp = D.temp
  w : ∀ (r : Fin 1280) (h : 1280 * j + r.val < 32000) (k : Fin 4096), σ .w (ix2 r k) = D.w (ix2 ⟨1280 * j + r.val, h⟩ k)

/-- The slot of block `b`. -/
def slotOf (b : Fin 8) : Fin 9 := ⟨b.val, by omega⟩

/-- Block `b`'s lanes hold the first `c b` vocabulary entries, and what the folds read is in place. -/
structure Core (σ₀ : St Ideal) (j : ℕ) (c : Fin 8 → ℕ) (σ : St Ideal) : Prop where
  keep : ∀ n : Nm, n.isKeep = true → σ n = σ₀ n
  scale : ∀ b, ScaleOK D σ b
  tile : ∀ (k : Fin 2) (p : Fin 1280) (l : Fin 128), k.val = j % 2 → σ .wsb (ix3 k p l) = D.wsv (1280 * j + p.val)
  lanes : ∀ (b a : Fin 8) (s : Fin 512), LnOK D b s a (c b) (lanes σ (slotOf b) a s)

/-- The scores of block `b` against tile `J` are in `A`. -/
def Raw (b : Fin 8) (J : ℕ) (A : S1280x512.Idx → EReal) : Prop :=
  ∀ (r : Fin 1280) (s : Fin 512), A (ix2 r s) = D.raw b s (1280 * J + r.val)

/-- The scales of the tile before `j` are in the other slot. -/
def Old (j : ℕ) (σ : St Ideal) : Prop :=
  ∀ (k : Fin 2) (p : Fin 1280) (l : Fin 128), k.val = (j + 1) % 2 → σ .wsb (ix3 k p l) = D.wsv (1280 * (j - 1) + p.val)

/-- How far block `b` is folded after `t` pairs of tile `j`. -/
def cnt (j t : ℕ) (b : Fin 8) : ℕ :=
  if t = 0 ∧ b.val = 7 then 1280 * (j - 1) else if b.val + 1 < 2 * t then 1280 * (j + 1) else 1280 * j

/-- The loop's invariant. -/
structure Inv (σ₀ : St Ideal) (j t : ℕ) (σ : St Ideal) : Prop where
  core : Core D σ₀ j (cnt j t) σ
  pend0 : t = 0 → 0 < j → Raw D 7 (j - 1) (σ .accB) ∧ Old D j σ
  pend : ∀ b : Fin 8, b.val + 1 = 2 * t → Raw D b j (σ .accB)

variable {D}

theorem Core.acc {σ₀ : St Ideal} {j : ℕ} {c : Fin 8 → ℕ} {σ : St Ideal} (h : Core D σ₀ j c σ) {n : Nm}
    (hn : n = .accA ∨ n = .accB) (V : n.sh.Idx → Elt Ideal n.el) : Core D σ₀ j c (σ.set n V) := by
  have hne : ∀ n' : Nm, n' ≠ .accA → n' ≠ .accB → (σ.set n V) n' = σ n' := by
    intro n' h1 h2
    rcases hn with rfl | rfl
    · exact St.set_ne _ h1 _
    · exact St.set_ne _ h2 _
  refine ⟨fun n' hk => ?_, fun b => ⟨fun a s => ?_, fun a s => ?_⟩, fun k p l hk => ?_, fun b a s => ?_⟩
  · rw [hne n' (by rintro rfl; exact Bool.noConfusion hk) (by rintro rfl; exact Bool.noConfusion hk), h.keep n' hk]
  · rw [hne .xss (by decide) (by decide), (h.scale b).1]
  · rw [hne .tcs (by decide) (by decide), (h.scale b).2]
  · rw [hne .wsb (by decide) (by decide), h.tile k p l hk]
  · have e := h.lanes b a s
    unfold Body.lanes at e ⊢
    rwa [hne .m (by decide) (by decide), hne .s0 (by decide) (by decide), hne .s1 (by decide) (by decide),
      hne .s2 (by decide) (by decide), hne .tg (by decide) (by decide)]

/-- What an epilogue does to the lanes: the block it folds, if its operands are the next tile's, and no other. -/
theorem Core.epi (hD : D.Valid) {σ₀ : St Ideal} {j : ℕ} {c c' : Fin 8 → ℕ} {σ σ' : St Ideal} (h : Core D σ₀ j c σ)
    (hin : Inp D j σ₀) {A : S1280x512.Idx → EReal} {jw : BitVec 32} {ii : Fin 8} {st : Fin 9} {k : Fin 2}
    (hp : EpiPost D σ A jw ii st k σ')
    (hc : ∀ b : Fin 8, b.val ≠ st.val → c' b = c b)
    (hs : st.val < 8 → st.val = ii.val ∧ ∃ J, J < 25 ∧ jw = BitVec.ofNat 32 J ∧ Raw D ii J A ∧ c ii = 1280 * J ∧ c' ii = 1280 * (J + 1) ∧
      ∀ (p : Fin 1280) (l : Fin 128), σ .wsb (ix3 k p l) = D.wsv (1280 * J + p.val)) :
    Core D σ₀ j c' σ' := by
  refine ⟨fun n' hk => ?_, fun b => ⟨fun a s => ?_, fun a s => ?_⟩, fun k p l hk => ?_, fun b a s => ?_⟩
  · rw [hp.other n' (by cases n' <;> first | rfl | exact Bool.noConfusion hk), h.keep n' hk]
  · rw [hp.other .xss rfl, (h.scale b).1]
  · rw [hp.other .tcs rfl, (h.scale b).2]
  · rw [hp.other .wsb rfl, h.tile k p l hk]
  · by_cases hb : b.val = st.val
    · obtain ⟨e, J, hJ, hw, hA, h1, h2, ht⟩ := hs (hb ▸ b.isLt)
      obtain rfl : b = ii := Fin.ext (hb.trans e)
      obtain rfl : slotOf b = st := Fin.ext hb
      rw [h2]
      refine hp.slot J hJ hw ⟨hA, ht, (h.scale b).1, (h.scale b).2, ?_, hD.tgt⟩ (fun a s => ?_) a s
      · rw [h.keep .tgt rfl, hin.tgt]
      · have := h.lanes b a s
        rwa [h1] at this
    · rw [hc b hb, hp.slots (slotOf b) a s (fun e => hb (congrArg Fin.val e))]
      exact h.lanes b a s

theorem raw_of_gemm {j : ℕ} (hj : j < 25) {σ : St Ideal} (hin : Inp D j σ) {V : S1280x512.Idx → EReal} (b : Fin 8)
    (hV : ∀ r s, V (ix2 r s) = ∑ k : Fin 4096, σ .w (ix2 r k) * σ .x (ix3 b s k)) : Raw D b j V := by
  intro r s
  have h : 1280 * j + r.val < 32000 := by have := r.isLt; omega
  rw [hV, Data.raw, dif_pos h]
  refine Finset.sum_congr rfl fun k _ => ?_
  rw [hin.w r h k, hin.x]

theorem Inp.of_keep {j : ℕ} {σ σ₀ : St Ideal} (h : Inp D j σ₀) (hk : ∀ n : Nm, n.isKeep = true → σ n = σ₀ n) : Inp D j σ :=
  ⟨(hk .x rfl).trans h.x, (hk .xs rfl).trans h.xs, (hk .ws rfl).trans h.ws, (hk .tgt rfl).trans h.tgt,
    (hk .temp rfl).trans h.temp, fun r hr k => (congrFun (hk .w rfl) _).trans (h.w r hr k)⟩

theorem offs : ∀ (i : grid0.Coords) (t : Fin k0_t1_loop.trips), t.val < 4 ∧
    k0_off12 t 0 = 2 * t.val ∧ k0_off31 t 0 = 2 * t.val + 1 ∧ k0_off13 t 0 = (if t.val = 0 then 7 else 2 * t.val - 1) ∧
    k0_off14 i t 0 = (if t.val = 0 ∧ (i 0).val = 0 then 8 else if t.val = 0 then 7 else 2 * t.val - 1) ∧
    k0_off15 i t 0 = (if t.val = 0 then ((i 0).val + 1) % 2 else (i 0).val % 2) ∧
    k0_off32 t 0 = 2 * t.val ∧ k0_off33 t 0 = 2 * t.val ∧ k0_off34 i 0 = (i 0).val % 2 ∧
    (tileOf (BitVec.ofNat 32 (i 0).val) t = if t.val = 0 ∧ (i 0).val = 0 then (-1#32) else
      BitVec.ofNat 32 (if t.val = 0 then (i 0).val - 1 else (i 0).val)) := by
  decide +kernel

/-- One pair of blocks. -/
theorem pair_W (hD : D.Valid) {σ₀ σ : St Ideal} (i : grid0.Coords) (hin : Inp D (i 0).val σ₀) (t : Fin k0_t1_loop.trips)
    (h : Inv D σ₀ (i 0).val t.val σ) :
    W ca B (pairBody i B t) σ fun _ σ' => Inv D σ₀ (i 0).val (t.val + 1) σ' := by
  have hj := coords_lt i
  obtain ⟨ht, o12, o31, o13, o14, o15, o32, o33, o34, otile⟩ := offs i t
  unfold pairBody
  refine W.bind ((gemmA_W (xLt t)).mono ?_)
  rintro _ _ ⟨V, rfl, hV⟩
  have c1 := h.core.acc (.inl rfl) V
  have hB1 : (σ.set .accA V) .accB = σ .accB := St.set_ne _ (by decide) _
  have hw1 : (σ.set .accA V) .wsb = σ .wsb := St.set_ne _ (by decide) _
  have rV : Raw D ⟨2 * t.val, by omega⟩ (i 0).val V := by
    have e : (⟨k0_off12 t 0, xLt t⟩ : Fin 8) = ⟨2 * t.val, by omega⟩ := Fin.ext o12
    rw [e] at hV
    exact raw_of_gemm hj (hin.of_keep h.core.keep) _ hV
  refine W.bind ((epilogue_W D (.inr ⟨rfl, rfl⟩) _ (iiLt t) (stLt i t) (wLt i t)).mono ?_)
  intro _ σ2 p2
  have c2 : Core D σ₀ (i 0).val (fun b => if b.val + 1 < 2 * t.val + 1 ∨ (t.val = 0 ∧ b.val = 7) then
      (if t.val = 0 then 1280 * (i 0).val else 1280 * ((i 0).val + 1)) else 1280 * (i 0).val) σ2 := by
    refine c1.epi hD hin p2 (fun b hb => ?_) (fun hs => ?_)
    · dsimp only at hb ⊢
      rw [o14] at hb
      unfold cnt
      have := b.isLt
      split at hb <;> (try split at hb) <;> split_ifs <;> omega
    · dsimp only at hs ⊢
      by_cases h0 : t.val = 0
      · have hj0 : (i 0).val ≠ 0 := by intro e; rw [o14, if_pos ⟨h0, e⟩] at hs; omega
        rw [if_neg (by omega), if_pos h0] at o14
        rw [if_pos h0] at o13 o15
        rw [if_neg (by omega), if_pos h0] at otile
        refine ⟨o14.trans o13.symm, (i 0).val - 1, by omega, otile, ?_, ?_, ?_, ?_⟩
        · have e : (⟨k0_off13 t 0, iiLt t⟩ : Fin 8) = 7 := Fin.ext o13
          rw [e, hB1]
          exact (h.pend0 h0 (by omega)).1
        · unfold cnt; dsimp only; split_ifs <;> omega
        · split_ifs <;> omega
        · intro p l
          rw [hw1]
          exact (h.pend0 h0 (by omega)).2 _ p l o15
      · rw [if_neg (by omega), if_neg h0] at o14
        rw [if_neg h0] at o13 o15
        rw [if_neg (by omega), if_neg h0] at otile
        refine ⟨o14.trans o13.symm, (i 0).val, hj, otile, ?_, ?_, ?_, ?_⟩
        · have e : (⟨k0_off13 t 0, iiLt t⟩ : Fin 8) = ⟨2 * t.val - 1, by omega⟩ := Fin.ext o13
          rw [e, hB1]
          exact h.pend _ (by dsimp only; omega)
        · unfold cnt; dsimp only; split_ifs <;> omega
        · split_ifs <;> omega
        · intro p l
          rw [hw1]
          exact h.core.tile _ p l o15
  have hA2 : σ2 .accA = V := (p2.other .accA rfl).trans (St.set_same _ _ _)
  refine W.bind ((gemmB_W (xLt' t)).mono ?_)
  rintro _ _ ⟨U, rfl, hU⟩
  have c3 := c2.acc (.inr rfl) U
  have hA3 : (σ2.set .accB U) .accA = V := (St.set_ne _ (by decide) _).trans hA2
  have rU : Raw D ⟨2 * t.val + 1, by omega⟩ (i 0).val U := by
    have e : (⟨k0_off31 t 0, xLt' t⟩ : Fin 8) = ⟨2 * t.val + 1, by omega⟩ := Fin.ext o31
    rw [e] at hU
    exact raw_of_gemm hj (hin.of_keep c2.keep) _ hU
  refine (epilogue_W D (.inl ⟨rfl, rfl⟩) _ (iiLt' t) (stLt' t) (wLt' i)).mono ?_
  intro _ σ4 p4
  refine ⟨c3.epi hD hin p4 (fun b hb => ?_) (fun hs => ?_), fun h => absurd h (by omega), fun b hb => ?_⟩
  · dsimp only at hb ⊢
    rw [o33] at hb
    unfold cnt
    have := b.isLt
    split_ifs <;> first | omega | tauto
  · dsimp only
    refine ⟨by rw [o33, o32], (i 0).val, hj, rfl, ?_, ?_, ?_, ?_⟩
    · have e : (⟨k0_off32 t 0, iiLt' t⟩ : Fin 8) = ⟨2 * t.val, by omega⟩ := Fin.ext o32
      rw [e, hA3]
      exact rV
    · split_ifs <;> omega
    · unfold cnt; dsimp only; split_ifs <;> omega
    · intro p l
      exact c3.tile _ p l (by dsimp only; exact o34)
  · have e : b = ⟨2 * t.val + 1, by omega⟩ := Fin.ext (by dsimp only; omega)
    rw [e, p4.other .accB rfl, St.set_same]
    exact rU

/-- The loop. -/
theorem loop_W (hD : D.Valid) {σ₀ σ : St Ideal} (i : grid0.Coords) (hin : Inp D (i 0).val σ₀) (h : Inv D σ₀ (i 0).val 0 σ) :
    W ca B (Scf.Loop.for k0_t1_loop Gen.k0_t1_ok PUnit.unit (fun t _ => pairBody i B t)) σ fun _ σ' =>
      Inv D σ₀ (i 0).val 4 σ' :=
  W.for (fun t _ σ' => Inv D σ₀ (i 0).val t σ') h (fun t _ _ h' => pair_W hD i hin t h') (fun _ _ h' => h')

end Cert.KernelIdeal.Body

end
-- ==== Proof.Softmax.lean ====
module

public import proofs.«01_k».proof.Proof.Lane
public import Mathlib.Analysis.SpecialFunctions.Log.Basic

@[expose] public section

/-!
# The softmax's statistics

The log-probability, the entropy and the varentropy of a softmax over 32000 real logits, and what they are in terms of
the moments about a reference that the lanes hold.
-/

noncomputable section

namespace Cert.KernelIdeal.Body

open Idealize.ShloMosaic Finset

/-- The number of vocabulary entries. -/
abbrev nV : ℕ := 32000

/-- The log-probability. -/
def LP (z : Fin nV → ℝ) (v : Fin nV) : ℝ := z v - Real.log (∑ w, Real.exp (z w))

/-- The entropy. -/
def Ent (z : Fin nV → ℝ) : ℝ := -∑ v, Real.exp (LP z v) * LP z v

/-- The varentropy. -/
def Var (z : Fin nV → ℝ) : ℝ := ∑ v, Real.exp (LP z v) * ((LP z v + Ent z) * (LP z v + Ent z))

theorem sum_exp_pos (z : Fin nV → ℝ) : 0 < ∑ w, Real.exp (z w) :=
  sum_pos (fun _ _ => Real.exp_pos _) ⟨⟨0, by decide⟩, mem_univ _⟩

/-- The logits may be shifted. -/
theorem LP_shift (z : Fin nV → ℝ) (M : ℝ) (v : Fin nV) : LP z v = z v - M - Real.log (∑ w, Real.exp (z w - M)) := by
  have h : ∑ w, Real.exp (z w - M) = Real.exp (-M) * ∑ w, Real.exp (z w) := by
    rw [mul_sum]; exact sum_congr rfl fun w _ => by rw [← Real.exp_add]; congr 1; ring
  rw [h, Real.log_mul (Real.exp_ne_zero _) (sum_exp_pos z).ne', Real.log_exp, LP]; ring

section
variable (u : ℕ → ℝ) (M : ℝ)

/-- The moments about `M` of the whole vocabulary. -/
abbrev Mo (k : ℕ) : ℝ := mom u (range nV) M k

theorem Mo_pos : 0 < Mo u M 0 := by
  unfold Mo mom
  refine sum_pos (fun v _ => ?_) ⟨0, by simp⟩
  simp only [pow_zero, mul_one]
  exact Real.rpow_pos_of_pos two_pos _

theorem Mo_sum (k : ℕ) : Mo u M k = ∑ v : Fin nV, (2 : ℝ) ^ (u v - M) * (u v - M) ^ k := by
  unfold Mo mom
  rw [Finset.sum_range]

variable {u} {z : Fin nV → ℝ} (hz : ∀ v : Fin nV, z v = Real.log 2 * u v)
include hz

theorem exp_z (v : Fin nV) : Real.exp (z v - Real.log 2 * M) = (2 : ℝ) ^ (u v - M) := by
  rw [hz, Real.rpow_def_of_pos two_pos]; congr 1; ring

theorem LP_eq (v : Fin nV) : LP z v = Real.log 2 * (u v - M) - Real.log (Mo u M 0) := by
  rw [LP_shift z (Real.log 2 * M) v, Mo_sum]
  simp only [exp_z M hz, pow_zero, mul_one]
  rw [hz]; ring

theorem exp_LP (v : Fin nV) : Real.exp (LP z v) = (2 : ℝ) ^ (u v - M) / Mo u M 0 := by
  rw [LP_eq M hz, Real.exp_sub, Real.exp_log (Mo_pos u M), Real.rpow_def_of_pos two_pos]

theorem Ent_eq : Ent z = Real.log (Mo u M 0) - Real.log 2 * (Mo u M 1 / Mo u M 0) := by
  have h0 := (Mo_pos u M).ne'
  have e0 := Mo_sum u M 0
  have e1 := Mo_sum u M 1
  simp only [pow_zero, mul_one, pow_one] at e0 e1
  unfold Ent
  have : ∀ v : Fin nV, Real.exp (LP z v) * LP z v = Real.log 2 / Mo u M 0 * ((2 : ℝ) ^ (u v - M) * (u v - M))
      - Real.log (Mo u M 0) / Mo u M 0 * (2 : ℝ) ^ (u v - M) := fun v => by
    rw [exp_LP M hz, LP_eq M hz]; ring
  simp only [this, sum_sub_distrib, ← mul_sum]
  rw [← e0, ← e1]
  field_simp
  ring

theorem Var_eq : Var z = Real.log 2 * Real.log 2 * (Mo u M 2 / Mo u M 0 - Mo u M 1 / Mo u M 0 * (Mo u M 1 / Mo u M 0)) := by
  have h0 := (Mo_pos u M).ne'
  have e0 := Mo_sum u M 0
  have e1 := Mo_sum u M 1
  have e2 := Mo_sum u M 2
  simp only [pow_zero, mul_one, pow_one] at e0 e1
  unfold Var
  have : ∀ v : Fin nV, Real.exp (LP z v) * ((LP z v + Ent z) * (LP z v + Ent z)) =
      Real.log 2 * Real.log 2 / Mo u M 0 * ((2 : ℝ) ^ (u v - M) * (u v - M) ^ 2)
      - 2 * Real.log 2 * Real.log 2 * (Mo u M 1 / Mo u M 0) / Mo u M 0 * ((2 : ℝ) ^ (u v - M) * (u v - M))
      + Real.log 2 * Real.log 2 * (Mo u M 1 / Mo u M 0) * (Mo u M 1 / Mo u M 0) / Mo u M 0 * (2 : ℝ) ^ (u v - M) := fun v => by
    rw [exp_LP M hz, LP_eq M hz, Ent_eq M hz]; ring
  simp only [this, sum_add_distrib, sum_sub_distrib, ← mul_sum]
  rw [← e0, ← e1, ← e2]
  field_simp
  ring

end

theorem sum_lanes (f : ℕ → ℝ) : ∑ a : Fin 8, ∑ v ∈ lane a.val nV, f v = ∑ v ∈ range nV, f v := by
  have h := sum_fiberwise_of_maps_to (s := range nV) (t := range 8) (g := fun v => v % 8)
    (fun v _ => mem_range.2 (Nat.mod_lt _ (by decide))) f
  rw [← h, Finset.sum_range]
  rfl

theorem fold_real (m : Fin 8 → EReal) (h : ∀ a, ∃ μ : ℝ, m a = μ) : ∃ M : ℝ, univ.fold max ⊥ m = M := by
  choose μ hμ using h
  obtain ⟨ν, hν⟩ := max_real (univ : Finset (Fin 8)) μ (μ 0)
  refine ⟨ν, ?_⟩
  rw [← hν, ← hμ 0, show (fun a => ((μ a : ℝ) : EReal)) = m from funext fun a => (hμ a).symm]
  refine (max_eq_right ?_).symm
  rw [le_fold_max]
  exact .inr ⟨0, mem_univ _, le_rfl⟩

/-- The eight lanes' statistics brought to one reference and added. -/
theorem combine {u : ℕ → ℝ} {m s0 s1 s2 : Fin 8 → EReal} (h : ∀ a : Fin 8, Part u (lane a.val nV) (m a) (s0 a) (s1 a) (s2 a))
    {mx : EReal} (hmx : mx = univ.fold max ⊥ m) : ∃ M : ℝ, mx = M ∧
      ∑ a, Ideal.exp2 (m a - mx) * s0 a = (Mo u M 0 : ℝ) ∧
      ∑ a, Ideal.exp2 (m a - mx) * (s1 a + (m a - mx) * s0 a) = (Mo u M 1 : ℝ) ∧
      ∑ a, Ideal.exp2 (m a - mx) * (s2 a + (m a - mx) * (2 * s1 a + (m a - mx) * s0 a)) = (Mo u M 2 : ℝ) := by
  obtain ⟨M, hM⟩ := fold_real m fun a => (h a).imp fun _ h => h.1
  choose μ h1 h2 h3 h4 using h
  obtain rfl : mx = (M : EReal) := hmx.trans hM
  have two : (2 : EReal) = ((2 : ℝ) : EReal) := rfl
  refine ⟨M, rfl, ?_, ?_, ?_⟩ <;>
    simp only [h1, h2, h3, h4, two, ← EReal.coe_sub, Ideal.exp2_coe, Real.rpow_eq_pow, ← EReal.coe_mul, ← EReal.coe_add,
      ← coe_sum, EReal.coe_eq_coe_iff]
  · simp only [← mom_move0]; exact sum_lanes _
  · simp only [← mom_move1]; exact sum_lanes _
  · simp only [← mom_move2]; exact sum_lanes _

end Cert.KernelIdeal.Body

end
-- ==== Proof.Finish.lean ====
module

public import proofs.«01_k».proof.Proof.Point
public import proofs.«01_k».proof.Proof.Softmax

@[expose] public section

set_option maxRecDepth 16384

/-!
# The last grid point's end

Once every block is folded the eight sublanes' statistics are brought to one reference and added, and the entropy, the
varentropy and the targets' log-probabilities are read off.
-/

noncomputable section

namespace Cert.KernelIdeal.Body

open Idealize.ShloMosaic Idealize.SL.Sem
open Cert.KernelIdeal Cert.KernelIdeal.Facts₀ Cert.KernelIdeal.Facts

/-- The slot loads' common shape. -/
abbrev Sl := FVec Ideal S1x8x512 .f32

section Reads
variable (vm v0 v1 v2 vg : Sl) (vt : FVec Ideal S1x512 .f32)

/-- The reference of the eight sublanes. -/
def fMx : FVec Ideal S1x512 .f32 :=
  shapeCast S1x512 (multiReduction .maximumf [0] S512 (shapeCast S8x512 vm shapeCasts_S1x8x512_S8x512) 0xFF800000#32
    reduces_S8x512_S512 (.inl rfl) rfl) shapeCasts_S512_S1x512

/-- How far each sublane is from it. -/
def fD : FVec Ideal S8x512 .f32 :=
  subf (shapeCast S8x512 vm shapeCasts_S1x8x512_S8x512) (broadcastTo S8x512 (fMx vm) broadcasts_S1x512_S8x512)

/-- Added along the sublanes. -/
def fSum (v : FVec Ideal S8x512 .f32) : FVec Ideal S1x512 .f32 :=
  shapeCast S1x512 (multiReduction .add [0] S512 v 0x00000000#32 reduces_S8x512_S512 (.inl rfl) rfl) shapeCasts_S512_S1x512

/-- The three moments. -/
def fR0 : FVec Ideal S1x512 .f32 := fSum (mulf (exp2 (fD vm)) (shapeCast S8x512 v0 shapeCasts_S1x8x512_S8x512))
@[inherit_doc fR0] def fR1 : FVec Ideal S1x512 .f32 :=
  fSum (mulf (exp2 (fD vm)) (addf (shapeCast S8x512 v1 shapeCasts_S1x8x512_S8x512)
    (mulf (fD vm) (shapeCast S8x512 v0 shapeCasts_S1x8x512_S8x512))))
@[inherit_doc fR0] def fR2 : FVec Ideal S1x512 .f32 :=
  fSum (mulf (exp2 (fD vm)) (addf (shapeCast S8x512 v2 shapeCasts_S1x8x512_S8x512) (mulf (fD vm)
    (addf (mulf (broadcast S8x512 (Scalar.ofBits .f32 0x40000000#32 : Ideal .f32)) (shapeCast S8x512 v1 shapeCasts_S1x8x512_S8x512))
      (mulf (fD vm) (shapeCast S8x512 v0 shapeCasts_S1x8x512_S8x512))))))

theorem fMx_at (s : Fin 512) : fMx vm (ix2 0 s) = Finset.univ.fold max ⊥ fun a : Fin 8 => vm (ix3 0 a s) := by
  unfold fMx
  pointwise []
  simp only [bot_bits]

theorem fD_at (a : Fin 8) (s : Fin 512) : fD vm (ix2 a s) = vm (ix3 0 a s) - fMx vm (ix2 0 s) := by
  unfold fD
  generalize fMx vm = M
  pointwise []

theorem fSum_at (v : FVec Ideal S8x512 .f32) (s : Fin 512) : fSum v (ix2 0 s) = ∑ a : Fin 8, v (ix2 a s) := by
  unfold fSum
  pointwise []

theorem fR0_at (s : Fin 512) : fR0 vm v0 (ix2 0 s) =
    ∑ a : Fin 8, Ideal.exp2 (vm (ix3 0 a s) - fMx vm (ix2 0 s)) * v0 (ix3 0 a s) := by
  unfold fR0
  rw [fSum_at]
  refine Finset.sum_congr rfl fun a _ => ?_
  rw [← fD_at]
  generalize fD vm = d
  pointwise []
  rfl

theorem fR1_at (s : Fin 512) : fR1 vm v0 v1 (ix2 0 s) =
    ∑ a : Fin 8, Ideal.exp2 (vm (ix3 0 a s) - fMx vm (ix2 0 s)) *
      (v1 (ix3 0 a s) + (vm (ix3 0 a s) - fMx vm (ix2 0 s)) * v0 (ix3 0 a s)) := by
  unfold fR1
  rw [fSum_at]
  refine Finset.sum_congr rfl fun a _ => ?_
  rw [← fD_at]
  generalize fD vm = d
  pointwise []
  rfl

theorem fR2_at (s : Fin 512) : fR2 vm v0 v1 v2 (ix2 0 s) =
    ∑ a : Fin 8, Ideal.exp2 (vm (ix3 0 a s) - fMx vm (ix2 0 s)) *
      (v2 (ix3 0 a s) + (vm (ix3 0 a s) - fMx vm (ix2 0 s)) *
        (2 * v1 (ix3 0 a s) + (vm (ix3 0 a s) - fMx vm (ix2 0 s)) * v0 (ix3 0 a s))) := by
  unfold fR2
  rw [fSum_at]
  refine Finset.sum_congr rfl fun a _ => ?_
  rw [← fD_at]
  generalize fD vm = d
  pointwise []
  simp only [two_bits]
  rfl

theorem ent_at (r0 r1 : FVec Ideal S1x512 .f32) (s : Fin 512) :
    (subf (log r0) (mulf (broadcast S1x512 (Named.named κ "ln2" 0x3F317218#32 : Ideal .f32)) (divf r1 r0)) : FVec Ideal S1x512 .f32)
      (ix2 0 s) = Ideal.log (r0 (ix2 0 s)) - (Real.log 2 : ℝ) * Ideal.div (r1 (ix2 0 s)) (r0 (ix2 0 s)) := by
  pointwise []
  rfl

theorem var_at (r0 r1 r2 : FVec Ideal S1x512 .f32) (s : Fin 512) :
    (mulf (broadcast S1x512 (Named.named κ "ln2_sq" 0x3EF5FDF0#32 : Ideal .f32))
      (subf (divf r2 r0) (mulf (divf r1 r0) (divf r1 r0))) : FVec Ideal S1x512 .f32)
      (ix2 0 s) = (Real.log 2 * Real.log 2 : ℝ) * (Ideal.div (r2 (ix2 0 s)) (r0 (ix2 0 s)) -
        Ideal.div (r1 (ix2 0 s)) (r0 (ix2 0 s)) * Ideal.div (r1 (ix2 0 s)) (r0 (ix2 0 s))) := by
  pointwise []
  rfl

theorem lp_at (mx ls : FVec Ideal S1x512 .f32) (a : Fin 8) (s : Fin 512) :
    (subf (subf (mulf (shapeCast S8x512 vg shapeCasts_S1x8x512_S8x512)
      (broadcastTo S8x512 (divf (broadcast S1x512 (Scalar.ofBits .f32 0x41F00000#32 : Ideal .f32)) vt) broadcasts_S1x512_S8x512))
      (broadcastTo S8x512 (mulf (broadcast S1x512 (Named.named κ "ln2" 0x3F317218#32 : Ideal .f32)) mx) broadcasts_S1x512_S8x512))
    (broadcastTo S8x512 ls broadcasts_S1x512_S8x512) : FVec Ideal S8x512 .f32) (ix2 a s) =
      vg (ix3 0 a s) * Ideal.div (Ideal.ofBits .f32 0x41F00000#32) (vt (ix2 0 s)) - (Real.log 2 : ℝ) * mx (ix2 0 s) - ls (ix2 0 s) := by
  pointwise []
  rfl

end Reads

theorem thirty : Ideal.ofBits .f32 0x41F00000#32 = ((30 : ℝ) : EReal) := by
  simp [Ideal.ofBits, Ideal.ieee]
  rw [← EReal.coe_mul]; norm_num

/-- A real divided by a real that is not zero. -/
theorem div_real (x y : ℝ) (h : y ≠ 0) : Ideal.div (x : EReal) (y : EReal) = ((x / y : ℝ) : EReal) := by
  rw [Ideal.div, if_neg (by simpa using h), ← EReal.coe_inv, ← EReal.coe_mul]; rfl

theorem log_real {x : ℝ} (h : 0 < x) : Ideal.log (x : EReal) = ((Real.log x : ℝ) : EReal) := by
  change (if x ≤ 0 then (⊥ : EReal) else ((Real.log x : ℝ) : EReal)) = _
  rw [if_neg (not_le.2 h)]

/-! ## The last point -/

variable {ca : Dev nD} {B : Bufs} (D : Data)

/-- The logits of a row. -/
def Data.z (b : Fin 8) (s : Fin 512) (v : Fin nV) : ℝ := D.th b s v.val * (30 * D.tau b s)

theorem z_eq (b : Fin 8) (s : Fin 512) (v : Fin nV) : D.z b s v = Real.log 2 * D.u b s v.val := by
  have : Real.log 2 ≠ 0 := (Real.log_pos one_lt_two).ne'
  unfold Data.z Data.u Data.tc
  field_simp

/-- The target of a row, where it is in the vocabulary. -/
def Data.tv (hD : D.Valid) (b a : Fin 8) (s : Fin 512) : Fin nV := ⟨(D.tgt (ix3 b a s)).toNat, hD.tgt b a s⟩

/-- The results of block `b` are in. -/
structure ResOK (hD : D.Valid) (b : Fin 8) (σ : St Ideal) : Prop where
  ent : ∀ s : Fin 512, σ .ent (ix2 b s) = ((Ent (D.z b s) : ℝ) : EReal)
  var : ∀ s : Fin 512, σ .var (ix2 b s) = ((Var (D.z b s) : ℝ) : EReal)
  lp : ∀ (a : Fin 8) (s : Fin 512), σ .lp (ix3 b a s) = ((LP (D.z b s) (D.tv hD b a s) : ℝ) : EReal)

theorem slot_emb (i a : Fin 8) (s : Fin 512) :
    (Rect.unit (s := S9x8x512) ![i.val, 0, 0] S1x8x512.size (inb_blk9 i)).emb (ix3 0 a s) = ix3 (slotOf i) a s := by
  funext d; apply Fin.ext
  rw [Rect.emb_apply]
  fin_cases d <;> simp [ix3, slotOf]

/-- What the row's three results are, from what its lanes hold. -/
theorem row_vals (hD : D.Valid) (b : Fin 8) (s : Fin 512) (vm v0 v1 v2 vg : Sl) (vt : FVec Ideal S1x512 .f32)
    (hl : ∀ a : Fin 8, LnOK D b s a nV ⟨vm (ix3 0 a s), v0 (ix3 0 a s), v1 (ix3 0 a s), v2 (ix3 0 a s), vg (ix3 0 a s)⟩)
    (ht : vt (ix2 0 s) = D.temp (ix2 b s)) :
    (Ideal.log (fR0 vm v0 (ix2 0 s)) - (Real.log 2 : ℝ) * Ideal.div (fR1 vm v0 v1 (ix2 0 s)) (fR0 vm v0 (ix2 0 s)) =
      ((Ent (D.z b s) : ℝ) : EReal)) ∧
    ((Real.log 2 * Real.log 2 : ℝ) * (Ideal.div (fR2 vm v0 v1 v2 (ix2 0 s)) (fR0 vm v0 (ix2 0 s)) -
      Ideal.div (fR1 vm v0 v1 (ix2 0 s)) (fR0 vm v0 (ix2 0 s)) * Ideal.div (fR1 vm v0 v1 (ix2 0 s)) (fR0 vm v0 (ix2 0 s))) =
      ((Var (D.z b s) : ℝ) : EReal)) ∧
    ∀ a : Fin 8, vg (ix3 0 a s) * Ideal.div (Ideal.ofBits .f32 0x41F00000#32) (vt (ix2 0 s)) - (Real.log 2 : ℝ) * fMx vm (ix2 0 s)
      - Ideal.log (fR0 vm v0 (ix2 0 s)) = ((LP (D.z b s) (D.tv hD b a s) : ℝ) : EReal) := by
  obtain ⟨M, hM, h0, h1, h2⟩ := combine (fun a => (hl a).1) (fMx_at vm s)
  have hz := z_eq D b s
  rw [fR0_at, fR1_at, fR2_at, h0, h1, h2, hM, log_real (Mo_pos _ M), div_real _ _ (Mo_pos _ M).ne', div_real _ _ (Mo_pos _ M).ne']
  refine ⟨?_, ?_, fun a => ?_⟩
  · rw [← EReal.coe_mul, ← EReal.coe_sub, Ent_eq M hz]
  · rw [← EReal.coe_mul, ← EReal.coe_sub, ← EReal.coe_mul, Var_eq M hz]
  · have hd : Ideal.div ((30 : ℝ) : EReal) (vt (ix2 0 s)) = ((30 * D.tau b s : ℝ) : EReal) := by
      rw [ht, Ideal.div, if_neg (hD.temp b s), EReal.coe_mul, Data.tau, inv_real]
    have hg := (hl a).2 (hD.tgt b a s)
    dsimp only at hg
    rw [thirty, hd, hg, ← EReal.coe_mul, ← EReal.coe_mul, ← EReal.coe_sub, ← EReal.coe_sub, LP_eq M hz]
    congr 2
    rw [mul_sub, ← hz]
    rfl

/-- The results, row by row. -/
theorem results_W (hD : D.Valid) {σ : St Ideal} (hl : ∀ (b a : Fin 8) (s : Fin 512), LnOK D b s a nV (lanes σ (slotOf b) a s))
    (ht : σ .temp = D.temp) :
    W ca B (runAll 8 (finStep B) ⟨⟩) σ fun _ σ' => (∀ n : Nm, n ≠ .ent → n ≠ .var → n ≠ .lp → σ' n = σ n) ∧
      ∀ b, ResOK D hD b σ' := by
  refine W.runAll (fun i _ σ' => (∀ n : Nm, n ≠ .ent → n ≠ .var → n ≠ .lp → σ' n = σ n) ∧
    ∀ b : Fin 8, b.val < i → ResOK D hD b σ') ?_ ?_ ?_
  · exact ⟨fun _ _ _ _ => rfl, fun _ h => absurd h (by omega)⟩
  · rintro i _ σ' ⟨ho, hs⟩
    unfold finStep ldSlot stRow ldRow stBlk
    refine W.bind (W.load .m ?_)
    refine W.bind (W.load .s0 ?_)
    refine W.bind (W.load .s1 ?_)
    refine W.bind (W.load .s2 ?_)
    refine W.bind (W.bind (W.load .ent (W.store .ent ?_)))
    refine W.bind (W.bind (W.load .var (W.store .var ?_)))
    refine W.bind (W.load .tg ?_)
    refine W.bind (W.load .temp ?_)
    refine W.bind (W.load .lp (W.store .lp ?_))
    rw [St.set_ne _ (show Nm.tg ≠ .var by decide), St.set_ne _ (show Nm.tg ≠ .ent by decide),
      St.set_ne _ (show Nm.temp ≠ .var by decide), St.set_ne _ (show Nm.temp ≠ .ent by decide)]
    have hv := fun s => row_vals D hD i s
      (fun j => σ' .m ((Rect.unit (s := S9x8x512) ![i.val, 0, 0] S1x8x512.size (inb_blk9 i)).emb j))
      (fun j => σ' .s0 ((Rect.unit (s := S9x8x512) ![i.val, 0, 0] S1x8x512.size (inb_blk9 i)).emb j))
      (fun j => σ' .s1 ((Rect.unit (s := S9x8x512) ![i.val, 0, 0] S1x8x512.size (inb_blk9 i)).emb j))
      (fun j => σ' .s2 ((Rect.unit (s := S9x8x512) ![i.val, 0, 0] S1x8x512.size (inb_blk9 i)).emb j))
      (fun j => σ' .tg ((Rect.unit (s := S9x8x512) ![i.val, 0, 0] S1x8x512.size (inb_blk9 i)).emb j))
      (fun j => σ' .temp ((Rect.unit (s := S8x512) ![i.val, 0] S1x512.size (inb_row8 i)).emb j))
      (fun a => by
        rw [slot_emb]
        have := hl i a s
        unfold lanes at this
        rwa [ho .m (by decide) (by decide) (by decide), ho .s0 (by decide) (by decide) (by decide),
          ho .s1 (by decide) (by decide) (by decide), ho .s2 (by decide) (by decide) (by decide),
          ho .tg (by decide) (by decide) (by decide)])
      (by dsimp only; rw [row_emb, ho .temp (by decide) (by decide) (by decide), ht])
    refine ⟨fun n h1 h2 h3 => by rw [St.set_ne _ h3, St.set_ne _ h2, St.set_ne _ h1, ho n h1 h2 h3], fun b hb => ⟨fun s => ?_, fun s => ?_,
      fun a s => ?_⟩⟩
    · rw [St.set_ne _ (by decide), St.set_ne _ (by decide), St.set_same]
      refine (overlay_row i _ _ b s).trans ?_
      split
      · rename_i h; subst h
        exact (ent_at _ _ s).trans (hv s).1
      · rename_i h
        exact (hs b (by have := Fin.val_ne_of_ne h; omega)).ent s
    · rw [St.set_ne _ (by decide), St.set_same]
      refine (overlay_row i _ _ b s).trans ?_
      split
      · rename_i h; subst h
        exact (var_at _ _ _ s).trans (hv s).2.1
      · rename_i h
        rw [St.set_ne _ (by decide)]
        exact (hs b (by have := Fin.val_ne_of_ne h; omega)).var s
    · rw [St.set_same]
      refine (overlay_blk i _ _ b a s).trans ?_
      split
      · rename_i h; subst h
        exact (lp_at _ _ _ _ a s).trans ((hv s).2.2 a)
      · rename_i h
        rw [St.set_ne _ (by decide), St.set_ne _ (by decide)]
        exact (hs b (by have := Fin.val_ne_of_ne h; omega)).lp a s
  · rintro _ σ' ⟨ho, hs⟩
    exact ⟨ho, fun b => hs b b.isLt⟩

end Cert.KernelIdeal.Body

end
-- ==== Proof.Whole.lean ====
module

public import proofs.«01_k».proof.Proof.Finish

@[expose] public section

set_option maxRecDepth 16384

/-!
# The body at a grid point

What a point needs of the contents it finds, and what it leaves: between points every block but the last is folded up to
the tile, the last block's scores wait in the second accumulator, and the results are stored at the last point.
-/

noncomputable section

namespace Cert.KernelIdeal.Body

open Idealize.ShloMosaic Idealize.SL.Sem
open Cert.KernelIdeal Cert.KernelIdeal.Facts₀ Cert.KernelIdeal.Facts

variable {ca : Dev nD} {B : Bufs} (D : Data)

/-- What the scratch buffers hold when point `j` begins. -/
structure Mid (j : ℕ) (σ : St Ideal) : Prop where
  scale : ∀ b, ScaleOK D σ b
  lanes : ∀ (b a : Fin 8) (s : Fin 512), LnOK D b s a (cnt j 0 b) (lanes σ (slotOf b) a s)
  raw : Raw D 7 (j - 1) (σ .accB)
  old : Old D j σ

variable {D}

theorem cond1_iff : ∀ i : grid0.Coords,
    (Scalar.cmpi .ne (Scalar.extui (Scalar.cmpi .eq (BitVec.ofNat 32 (i 0).val) 0#32) : BitVec 32) 0#32 = 1#1) ↔ (i 0).val = 0 := by
  decide +kernel

theorem cond2_iff : ∀ i : grid0.Coords, k0_cond2 i = 1#1 ↔ (i 0).val = 24 := by
  decide +kernel

/-- What the point leaves. -/
structure Left (hD : D.Valid) (σ₀ : St Ideal) (j : ℕ) (σ : St Ideal) : Prop where
  keep : ∀ n : Nm, n.isIn = true → σ n = σ₀ n
  mid : j < 24 → (∀ n : Nm, n.isKeep = true → σ n = σ₀ n) ∧ Mid D (j + 1) σ
  res : j = 24 → ∀ b, ResOK D hD b σ

/-- The last block of the last tile folded, and the results. -/
theorem fin_W (hD : D.Valid) {σ₀ σ : St Ideal} (i : grid0.Coords) (hi : (i 0).val = 24) (hin : Inp D (i 0).val σ₀)
    (h : Inv D σ₀ (i 0).val 4 σ) :
    W ca B (finBody i B) σ fun _ σ' => (∀ n : Nm, n.isIn = true → σ' n = σ₀ n) ∧ ∀ b, ResOK D hD b σ' := by
  unfold finBody
  refine W.bind ((epilogue_W D (.inr ⟨rfl, rfl⟩) _ _ _ (wLt' i)).mono ?_)
  intro _ σ2 p2
  have c2 : Core D σ₀ (i 0).val (fun _ => nV) σ2 := by
    refine h.core.epi hD hin p2 (fun b hb => ?_) (fun _ => ⟨rfl, (i 0).val, by omega, rfl, ?_, ?_, ?_, ?_⟩)
    · have := b.isLt
      dsimp only at hb ⊢
      unfold cnt nV
      split_ifs <;> omega
    · exact h.pend _ rfl
    · unfold cnt; rw [if_neg (by omega), if_neg (by dsimp only; omega)]
    · dsimp only; unfold nV; omega
    · intro p l
      exact h.core.tile _ p l (by dsimp only; obtain ⟨-, -, -, -, -, -, -, -, o34, -⟩ := offs i ⟨0, by decide +kernel⟩; exact o34)
  refine (results_W D hD c2.lanes ((c2.keep .temp rfl).trans hin.temp)).mono ?_
  rintro _ σ' ⟨ho, hr⟩
  refine ⟨fun n hn => ?_, hr⟩
  rw [ho n (by rintro rfl; exact Bool.noConfusion hn) (by rintro rfl; exact Bool.noConfusion hn) (by rintro rfl; exact Bool.noConfusion hn)]
  exact c2.keep n (by cases n <;> first | rfl | exact Bool.noConfusion hn)

/-- What follows the preparation. -/
theorem rest_W (hD : D.Valid) {σ₀ σ : St Ideal} (i : grid0.Coords) (hin : Inp D (i 0).val σ₀)
    (hk : ∀ n : Nm, n.isKeep = true → σ n = σ₀ n) (hs : ∀ b, ScaleOK D σ b)
    (hl : ∀ (b a : Fin 8) (s : Fin 512), LnOK D b s a (cnt (i 0).val 0 b) (lanes σ (slotOf b) a s))
    (hp : 0 < (i 0).val → Raw D 7 ((i 0).val - 1) (σ .accB) ∧ Old D (i 0).val σ) :
    W ca B (runAll 10 (wsStep i B) PUnit.unit >>= fun _ =>
      Scf.Loop.for k0_t1_loop Gen.k0_t1_ok PUnit.unit (fun t _ => pairBody i B t) >>= fun _ =>
      if _h : k0_cond2 i = 1#1 then finBody i B >>= fun _ => Pure.pure PUnit.unit else Pure.pure PUnit.unit) σ
      fun _ σ' => Left hD σ₀ (i 0).val σ' := by
  refine W.bind ((ws_W D i ((hk .ws rfl).trans hin.ws)).mono ?_)
  rintro _ _ ⟨V, rfl, h1, h2⟩
  have hne : ∀ n : Nm, n ≠ .wsb → (σ.set .wsb V) n = σ n := fun n h => St.set_ne _ h _
  have hV : (σ.set .wsb V) .wsb = V := St.set_same _ _ _
  have inv : Inv D σ₀ (i 0).val 0 (σ.set .wsb V) := by
    refine ⟨⟨fun n hn => ?_, fun b => ⟨fun a s => ?_, fun a s => ?_⟩, fun k p l hkk => ?_, fun b a s => ?_⟩, fun _ h0 => ⟨?_, ?_⟩,
      fun b hb => absurd hb (by omega)⟩
    · rw [hne n (by rintro rfl; exact Bool.noConfusion hn), hk n hn]
    · rw [hne .xss (by decide), (hs b).1]
    · rw [hne .tcs (by decide), (hs b).2]
    · rw [hV]; exact h2 k p l hkk
    · have e := hl b a s
      unfold lanes at e ⊢
      rwa [hne .m (by decide), hne .s0 (by decide), hne .s1 (by decide), hne .s2 (by decide), hne .tg (by decide)]
    · rw [hne .accB (by decide)]; exact (hp h0).1
    · intro k p l hkk
      rw [hV, h1 k p l (by omega)]
      exact (hp h0).2 k p l hkk
  refine W.bind ((loop_W hD i hin inv).mono ?_)
  intro _ σ2 h4
  split
  · rename_i h
    have hi := (cond2_iff i).1 h
    refine W.bind ((fin_W hD i hi hin h4).mono ?_)
    rintro _ σ3 ⟨hk3, hr⟩
    exact W.pure ⟨hk3, fun h => absurd h (by omega), fun _ => hr⟩
  · rename_i h
    have hi : (i 0).val ≠ 24 := fun e => h ((cond2_iff i).2 e)
    have hin' : ∀ n : Nm, n.isIn = true → n.isKeep = true := fun n hn => by cases n <;> first | rfl | exact Bool.noConfusion hn
    refine W.pure ⟨fun n hn => h4.core.keep n (hin' n hn), fun hj => ⟨h4.core.keep, h4.core.scale, fun b a s => ?_, ?_, ?_⟩, fun e => absurd e hi⟩
    · have e : cnt ((i 0).val + 1) 0 b = cnt (i 0).val 4 b := by
        have := b.isLt
        unfold cnt
        split_ifs <;> first | omega | tauto
      rw [e]
      exact h4.core.lanes b a s
    · exact h4.pend 7 rfl
    · intro k p l hkk
      exact h4.core.tile k p l (by omega)

/-- The body at a point. -/
theorem body_W (hD : D.Valid) {σ₀ : St Ideal} (i : grid0.Coords) (hin : Inp D (i 0).val σ₀)
    (hm : 0 < (i 0).val → Mid D (i 0).val σ₀) : W ca B (body i B) σ₀ fun _ σ' => Left hD σ₀ (i 0).val σ' := by
  unfold body
  extract_lets jp
  split
  · rename_i h
    have hi := (cond1_iff i).1 h
    refine W.bind ((init_W D hD hin.xs hin.temp).mono ?_)
    rintro _ σ1 ⟨hk, hs, hl⟩
    refine rest_W hD i hin hk hs (fun b a s => ?_) (fun h0 => absurd h0 (by omega))
    have e : cnt (i 0).val 0 b = 0 := by rw [hi]; unfold cnt; split_ifs <;> omega
    rw [e, hl]
    exact LnOK.start D b s a
  · rename_i h
    have hi : 0 < (i 0).val := Nat.pos_of_ne_zero fun e => h ((cond1_iff i).2 e)
    exact rest_W hD i hin (fun _ _ => rfl) (hm hi).scale (hm hi).lanes (fun _ => ⟨(hm hi).raw, (hm hi).old⟩)

end Cert.KernelIdeal.Body

end
-- ==== Proof.Run.lean ====
module

public import proofs.«01_k».proof.Proof.Whole
public import proofs.«01_k».proof.Proof.Frame

@[expose] public section

set_option maxRecDepth 16384

/-!
# The kernel's run, with its results named

The launch again, over the extended reals: between points the scratch holds `Mid`, and the last point leaves the three
results in their staging buffers, each written back once.
-/

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal.Gen

local notation "𝕄" => MT nD τ sig Unit (Elt Ideal) ℕ (UR sig nD τ) ℕ

/-- The results, every block of them. -/
def entOf (D : Data) (j : S8x512.Idx) : EReal := ((Ent (D.z (j 0) (j 1)) : ℝ) : EReal)
def varOf (D : Data) (j : S8x512.Idx) : EReal := ((Var (D.z (j 0) (j 1)) : ℝ) : EReal)
def lpOf (D : Data) (hD : D.Valid) (j : S8x8x512.Idx) : EReal := ((LP (D.z (j 0) (j 2)) (D.tv hD (j 0) (j 1) (j 2)) : ℝ) : EReal)

section run

variable (m : (ℓ : Loc nD τ sig) → Buf (Elt Ideal) ℓ) (ρ : Dev nD → PrngReg)
variable (DD : Dev nD → Data) (hD : ∀ c, (DD c).Valid)

/-- The windows' blocks are the data. -/
structure Blk (c : Dev nD) : Prop where
  x : ∀ t : Fin cfg0.N, iblk m c 0 t = (DD c).x
  xs : ∀ t : Fin cfg0.N, iblk m c 1 t = (DD c).xs
  w : ∀ (t : Fin cfg0.N) (r : Fin 1280) (h : 1280 * t.val + r.val < 32000) (k : Fin 4096),
    (iblk m c 2 t : S1280x4096.Idx → EReal) (ix2 r k) = (DD c).w (ix2 ⟨1280 * t.val + r.val, h⟩ k)
  ws : ∀ t : Fin cfg0.N, iblk m c 3 t = (DD c).ws
  tgt : ∀ t : Fin cfg0.N, iblk m c 4 t = (DD c).tgt
  temp : ∀ t : Fin cfg0.N, iblk m c 5 t = (DD c).temp

/-- What the region keeps between points: the scratch at `Mid`, but before the first and after the last. -/
def ΦV (c : Dev nD) (n : ℕ) : sProp 𝕄 :=
  iprop((∃ σ : St Ideal, ⌜0 < n → n < 25 → Mid (DD c) n σ⌝ ∗ Scr c σ) ∗ ∃ r, prngReg c r)

/-- The proof data: each input's buffer left at its block, each result's at its value. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => entOf (DD c)
    | ⟨7, _⟩ => varOf (DD c)
    | ⟨8, _⟩ => lpOf (DD c) (hD c)
  Φ t := ΦV DD c t.val
  q _ := fullShare
  owed _ := 0

theorem A_eqV (c : Dev nD) (w : Fin cfg0.W) : (datsV m DD hD 0 c).A w = V m c (Pipeline.arrRef spec0 w) := by
  dsimp only [datsV]

theorem afterV_0 (c : Dev nD) (t : Fin cfg0.N) : (datsV m DD hD 0 c).after 0 t = iblk m c 0 t := by dsimp only [datsV]
theorem afterV_1 (c : Dev nD) (t : Fin cfg0.N) : (datsV m DD hD 0 c).after 1 t = iblk m c 1 t := by dsimp only [datsV]
theorem afterV_2 (c : Dev nD) (t : Fin cfg0.N) : (datsV m DD hD 0 c).after 2 t = iblk m c 2 t := by dsimp only [datsV]
theorem afterV_3 (c : Dev nD) (t : Fin cfg0.N) : (datsV m DD hD 0 c).after 3 t = iblk m c 3 t := by dsimp only [datsV]
theorem afterV_4 (c : Dev nD) (t : Fin cfg0.N) : (datsV m DD hD 0 c).after 4 t = iblk m c 4 t := by dsimp only [datsV]
theorem afterV_5 (c : Dev nD) (t : Fin cfg0.N) : (datsV m DD hD 0 c).after 5 t = iblk m c 5 t := by dsimp only [datsV]
theorem afterV_6 (c : Dev nD) (t : Fin cfg0.N) : (datsV m DD hD 0 c).after 6 t = entOf (DD c) := by dsimp only [datsV]
theorem afterV_7 (c : Dev nD) (t : Fin cfg0.N) : (datsV m DD hD 0 c).after 7 t = varOf (DD c) := by dsimp only [datsV]
theorem afterV_8 (c : Dev nD) (t : Fin cfg0.N) : (datsV m DD hD 0 c).after 8 t = lpOf (DD c) (hD c) := by dsimp only [datsV]

theorem beforeV_0 (c : Dev nD) (t : Fin cfg0.N) (d) : (datsV m DD hD 0 c).before 0 t d = iblk m c 0 t :=
  before0_0_of m (datsV m DD hD 0 c) (A_eqV m DD hD c 0) (afterV_0 m DD hD c) t d
theorem beforeV_1 (c : Dev nD) (t : Fin cfg0.N) (d) : (datsV m DD hD 0 c).before 1 t d = iblk m c 1 t :=
  before0_1_of m (datsV m DD hD 0 c) (A_eqV m DD hD c 1) (afterV_1 m DD hD c) t d
theorem beforeV_2 (c : Dev nD) (t : Fin cfg0.N) (d) : (datsV m DD hD 0 c).before 2 t d = iblk m c 2 t :=
  before0_2_of m (datsV m DD hD 0 c) (A_eqV m DD hD c 2) (afterV_2 m DD hD c) t d
theorem beforeV_3 (c : Dev nD) (t : Fin cfg0.N) (d) : (datsV m DD hD 0 c).before 3 t d = iblk m c 3 t :=
  before0_3_of m (datsV m DD hD 0 c) (A_eqV m DD hD c 3) (afterV_3 m DD hD c) t d
theorem beforeV_4 (c : Dev nD) (t : Fin cfg0.N) (d) : (datsV m DD hD 0 c).before 4 t d = iblk m c 4 t :=
  before0_4_of m (datsV m DD hD 0 c) (A_eqV m DD hD c 4) (afterV_4 m DD hD c) t d
theorem beforeV_5 (c : Dev nD) (t : Fin cfg0.N) (d) : (datsV m DD hD 0 c).before 5 t d = iblk m c 5 t :=
  before0_5_of m (datsV m DD hD 0 c) (A_eqV m DD hD c 5) (afterV_5 m DD hD c) t d

theorem coord0 : ∀ t : Fin cfg0.N, (grid0.coords t 0).val = t.val := by decide +kernel

/-- The buffers as the body finds them at a point, -/
abbrev at0 (c : Dev nD) (t : Fin cfg0.N) (d6 : Nm.ent.sh.Idx → Elt Ideal Nm.ent.el)
    (d7 : Nm.var.sh.Idx → Elt Ideal Nm.var.el) (d8 : Nm.lp.sh.Idx → Elt Ideal Nm.lp.el) (σ : St Ideal) : St Ideal :=
  St.mk (iblk m c 0 t) (iblk m c 1 t) (iblk m c 2 t) (iblk m c 3 t) (iblk m c 4 t) (iblk m c 5 t) d6 d7 d8 (σ .accA) (σ .accB)
    (σ .wsb) (σ .xss) (σ .tcs) (σ .m) (σ .s0) (σ .s1) (σ .s2) (σ .tg)

/-- which are the data, -/
theorem inp_at0 {c : Dev nD} (hB : Blk m DD c) (t : Fin cfg0.N) (d6 d7 d8) (σ : St Ideal) :
    Inp (DD c) (grid0.coords t 0).val (at0 m c t d6 d7 d8 σ) := by
  rw [coord0]
  exact ⟨hB.x t, hB.xs t, hB.ws t, hB.tgt t, hB.temp t, hB.w t⟩

/-- and the scratch as the point before left it. -/
theorem mid_at0 {c : Dev nD} {n : ℕ} (t : Fin cfg0.N) (d6 d7 d8) {σ : St Ideal} (h : Mid (DD c) n σ) :
    Mid (DD c) n (at0 m c t d6 d7 d8 σ) := ⟨h.scale, h.lanes, h.raw, h.old⟩

/-- The results' idleness and write-backs. -/
theorem idle_iff : ∀ t : Fin cfg0.N, k0_cond2 (grid0.coords t) = 1#1 ↔ t.val = 24 := fun t => by
  rw [cond2_iff, coord0]

theorem idle6 (t : Fin cfg0.N) : cfg0.idle 6 (cfg0.grid.coords t) = decide (t.val ≠ 24) := by
  show (!(k0_cond2 (grid0.coords t) == 1#1)) = _
  by_cases h : t.val = 24
  · rw [(idle_iff t).mpr h]; simp [h]
  · have : ¬ k0_cond2 (grid0.coords t) = 1#1 := fun e => h ((idle_iff t).mp e)
    simp [h, this]
theorem idle7 (t : Fin cfg0.N) : cfg0.idle 7 (cfg0.grid.coords t) = decide (t.val ≠ 24) := idle6 t
theorem idle8 (t : Fin cfg0.N) : cfg0.idle 8 (cfg0.grid.coords t) = decide (t.val ≠ 24) := idle6 t

theorem flushF (w : Fin cfg0.W) (h : ∀ t, (cfg0.win w).flush t = true ↔ t.val % 25 = 24) (t : Fin cfg0.N) (ht : t.val ≠ 24) :
    (cfg0.win w).flush t = false := by
  have hN : t.val < 25 := t.isLt
  by_contra e
  have := (h t).mp (by simpa using e)
  omega

/-- A result's buffer before the last point is handed back as it was, -/
theorem leaves_of (c : Dev nD) (w : Fin cfg0.W) (t : Fin cfg0.N) (d) (hi : cfg0.idle w (cfg0.grid.coords t) = decide (t.val ≠ 24))
    (hf : ∀ t, (cfg0.win w).flush t = true ↔ t.val % 25 = 24) (X) (hn : t.val ≠ 24 → X = (datsV m DD hD 0 c).before w t d)
    (hl : t.val = 24 → X = (datsV m DD hD 0 c).after w t) :
    owns (c : Thread nD τ) ((cfg0.win w).stage (cfg0.slots t w)) fullShare X ⊢ ((datsV m DD hD 0 c).leaves w t : sProp 𝕄) := by
  refine BIBase.Entails.trans ?_ ((datsV m DD hD 0 c).leaves_intro w t)
  unfold Dat.leavesExact
  by_cases h : t.val = 24
  · rw [hi, show decide (t.val ≠ 24) = false by simp [h], hl h]

  · rw [hi, show decide (t.val ≠ 24) = true by simp [h], flushF w hf t h, hn h]
    iintro H; iexists d; iexact H

/-- What the body is called with at point `t`, the windows one by one, -/
def preV (c : Dev nD) (t : Fin cfg0.N) : sProp 𝕄 :=
  iprop((datsV m DD hD 0 c).Φ t.castSucc ∗ (datsV m DD hD 0 c).owesAt () t.castSucc
    ∗ (∃ d, owns (c : Thread nD τ) (st0_0 t) fullShare ((datsV m DD hD 0 c).before 0 t d))
    ∗ (∃ d, owns (c : Thread nD τ) (st0_1 t) fullShare ((datsV m DD hD 0 c).before 1 t d))
    ∗ (∃ d, owns (c : Thread nD τ) (st0_2 t) fullShare ((datsV m DD hD 0 c).before 2 t d))
    ∗ (∃ d, owns (c : Thread nD τ) (st0_3 t) fullShare ((datsV m DD hD 0 c).before 3 t d))
    ∗ (∃ d, owns (c : Thread nD τ) (st0_4 t) fullShare ((datsV m DD hD 0 c).before 4 t d))
    ∗ (∃ d, owns (c : Thread nD τ) (st0_5 t) fullShare ((datsV m DD hD 0 c).before 5 t d))
    ∗ (∃ d, owns (c : Thread nD τ) (st0_6 t) fullShare ((datsV m DD hD 0 c).before 6 t d))
    ∗ (∃ d, owns (c : Thread nD τ) (st0_7 t) fullShare ((datsV m DD hD 0 c).before 7 t d))
    ∗ (∃ d, owns (c : Thread nD τ) (st0_8 t) fullShare ((datsV m DD hD 0 c).before 8 t d)))

/-- and what it returns. -/
def postV (c : Dev nD) (t : Fin cfg0.N) : sProp 𝕄 :=
  iprop((datsV m DD hD 0 c).Φ t.succ ∗ (datsV m DD hD 0 c).owesAt () t.succ
    ∗ owns (c : Thread nD τ) (st0_0 t) fullShare ((datsV m DD hD 0 c).after 0 t)
    ∗ owns (c : Thread nD τ) (st0_1 t) fullShare ((datsV m DD hD 0 c).after 1 t)
    ∗ owns (c : Thread nD τ) (st0_2 t) fullShare ((datsV m DD hD 0 c).after 2 t)
    ∗ owns (c : Thread nD τ) (st0_3 t) fullShare ((datsV m DD hD 0 c).after 3 t)
    ∗ owns (c : Thread nD τ) (st0_4 t) fullShare ((datsV m DD hD 0 c).after 4 t)
    ∗ owns (c : Thread nD τ) (st0_5 t) fullShare ((datsV m DD hD 0 c).after 5 t)
    ∗ (datsV m DD hD 0 c).leaves 6 t
    ∗ (datsV m DD hD 0 c).leaves 7 t
    ∗ (datsV m DD hD 0 c).leaves 8 t)

/-- The body at any point. -/
theorem sound_bodyV (c : Dev nD) (hB : Blk m DD c) (t : Fin cfg0.N) :
    preV m DD hD c t ⊢ wp Idealize.ShloMosaic.frame (wpE (defs₀ (F := Ideal)) Variants.none c none) Set.univ (body (grid0.coords t) (Bt t)) (fun _ => postV m DD hD c t) := by
  unfold preV postV
  simp only [beforeV_0, beforeV_1, beforeV_2, beforeV_3, beforeV_4, beforeV_5]
  rw [show (datsV m DD hD 0 c).Φ t.succ = ΦV DD c (t.val + 1) from rfl, show (datsV m DD hD 0 c).Φ t.castSucc = ΦV DD c t.val from rfl,
    show (datsV m DD hD 0 c).owesAt () t.succ = (datsV m DD hD 0 c).owesAt () t.castSucc from rfl,
    afterV_0, afterV_1, afterV_2, afterV_3, afterV_4, afterV_5]
  unfold ΦV
  iintro ⟨⟨⟨%σ, %hσ, HS⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hN : t.val < 25 := t.isLt
  iapply (W.use (body_W (ca := c) (B := Bt t) (hD c) (grid0.coords t)
      (inp_at0 m DD hB t ((datsV m DD hD 0 c).before 6 t d6) ((datsV m DD hD 0 c).before 7 t d7) ((datsV m DD hD 0 c).before 8 t d8) σ)
      (fun h => mid_at0 m DD t _ _ _ (by rw [coord0] at h ⊢; exact hσ h hN)))
    iprop((∃ r, prngReg c r) ∗ (datsV m DD hD 0 c).owesAt () t.castSucc) fun _ σ' hσ' => ?_)
  rotate_left 1
  · isplitl [HS H0 H1 H2 H3 H4 H5 H6 H7 H8]
    · iapply (Own_in c t _)
      isplitl [H0 H1 H2 H3 H4 H5 H6 H7 H8]
      · unfold Win
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · iexact HS
    · isplitl [Hr]
      · iexact Hr
      · iexact Ho
  · rw [coord0] at hσ'
    iintro ⟨H, Hr, Ho⟩
    ihave H := (Own_out c t σ') $$ H
    unfold Win
    icases H with ⟨⟨H0, H1, H2, H3, H4, H5, H6, H7, H8⟩, HS⟩
    isplitl [HS Hr]
    · isplitl [HS]
      · iexists σ'
        isplitr
        · ipureintro
          exact fun _ hn => (hσ'.mid (by omega)).2
        · iexact HS
      · iexact Hr
    isplitl [Ho]; · iexact Ho
    isplitl [H0]; · rw [← show σ' .x = iblk m c 0 t from hσ'.keep .x rfl]; iexact H0
    isplitl [H1]; · rw [← show σ' .xs = iblk m c 1 t from hσ'.keep .xs rfl]; iexact H1
    isplitl [H2]; · rw [← show σ' .w = iblk m c 2 t from hσ'.keep .w rfl]; iexact H2
    isplitl [H3]; · rw [← show σ' .ws = iblk m c 3 t from hσ'.keep .ws rfl]; iexact H3
    isplitl [H4]; · rw [← show σ' .tgt = iblk m c 4 t from hσ'.keep .tgt rfl]; iexact H4
    isplitl [H5]; · rw [← show σ' .temp = iblk m c 5 t from hσ'.keep .temp rfl]; iexact H5
    isplitl [H6]
    · iapply (leaves_of m DD hD c 6 t d6 (idle6 t) flush0_6 (σ' .ent) (fun h => (hσ'.mid (by omega)).1 .ent rfl)
        (fun h => by rw [afterV_6]; funext j; obtain ⟨b, s, rfl⟩ : ∃ b s, j = ix2 b s := ⟨_, _, eq_ix2 j⟩; exact (hσ'.res h b).ent s))
      iexact H6
    isplitl [H7]
    · iapply (leaves_of m DD hD c 7 t d7 (idle7 t) flush0_7 (σ' .var) (fun h => (hσ'.mid (by omega)).1 .var rfl)
        (fun h => by rw [afterV_7]; funext j; obtain ⟨b, s, rfl⟩ : ∃ b s, j = ix2 b s := ⟨_, _, eq_ix2 j⟩; exact (hσ'.res h b).var s))
      iexact H7
    iapply (leaves_of m DD hD c 8 t d8 (idle8 t) flush0_8 (σ' .lp) (fun h => (hσ'.mid (by omega)).1 .lp rfl)
        (fun h => by rw [afterV_8]; funext j; obtain ⟨b, a, s, rfl⟩ : ∃ b a s, j = ix3 b a s := ⟨_, _, _, eq_ix3 j⟩; exact (hσ'.res h b).lp a s))
    iexact H8

/-- The library's body obligation, at every point. -/
theorem body_obligationV (hB : ∀ c, Blk m DD c) (c : Dev nD) :
    BodyObligationLoose (datsV m DD hD 0 c) (defs₀ (F := Ideal)) Variants.none () Set.univ := fun t => by
  rw [bigSep_W0, bigSep_W0, row0]
  exact triple_restated (sound_bodyV m DD hD c (hB c) t) rfl .rfl fun _ => .rfl

set_option backward.isDefEq.respectTransparency.types false in
set_option maxHeartbeats 800000 in
/-- The launch. -/
theorem run_mainV (hB : ∀ c, Blk m DD c) : θ_run defs (onTc (τ := τ) (main (F := Ideal))) (s₀ m ρ)
    (fun r => Pipeline.FramePost cfgs (datsV m DD hD) 0 (Pipeline.afterTail₀ cfgs (datsV m DD hD) 0 (V0 m) [hostOps1]) r) :=
  Pipeline.θ_run_frame_around_track cfgs (datsV m DD hD) (0 : Fin 1) launch0 defs₀ Variants.none m ρ main
    (hbody := body_obligationV m DD hD hB) (hshare := fun c => (datsV m DD hD 0 c).share_full fun _ => rfl)
    (howed := fun _ _ => rfl) (V₀ := V0 m) (opss := [hostOps1]) (hsub := sfx_sub) (hfresh := sfx_fresh) (hkeep := sfx_keeps)
    (hmain := hmain m Variants.none) (hA := A_eqV m DD hD)
    (hin := fun c => by
      show _ ⊢ ΦV DD c 0
      unfold Pipeline.ΦA ΦV
      iintro ⟨HS, Hr⟩
      ihave HS := (scr_in c) $$ HS
      icases HS with ⟨%σ, HS⟩
      isplitl [HS]
      · iexists σ
        isplitr
        · ipureintro
          exact fun h => absurd h (lt_irrefl 0)
        · iexact HS
      · iexact Hr)
    (hout := fun c => by
      show ΦV DD c 25 ⊢ _
      unfold Pipeline.ΦA ΦV
      iintro ⟨⟨%σ, %hσ, HS⟩, Hr⟩
      isplitl [HS]
      · iapply (scr_out c)
        iexists σ
        iexact HS
      · iexact Hr)

end run

end Cert.KernelIdeal.Body

end
-- ==== Proof.Arrays.lean ====
module

public import proofs.«01_k».proof.Proof.Run
public import Idealize.ShloMosaic.Lib.Pipeline.ValueKit
public import Idealize.ShloMosaic.Lib.Claim
public import Idealize.ShloMosaic.Lib.Pointwise

@[expose] public section

set_option maxRecDepth 16384

/-!
# The kernel's data, and its result arrays

The data of `Fold.lean` read off the argument arrays, the windows' blocks as that data, and what the three result arrays
hold after the run.
-/

noncomputable section

namespace Cert.KernelIdeal.Body

open Idealize.ShloMosaic Idealize.ShloMosaic.TcCoe Idealize.ShloMosaic.Tactic
open Idealize.SL.Sem
open Idealize.ShloMosaic.Pipeline (Dat Cfg Window)
open Cert.KernelIdeal.Gen

variable (m : (ℓ : Loc nD τ sig) → Buf (Elt Ideal) ℓ) (ρ : Dev nD → PrngReg)

/-- The data of core `c`'s run. -/
def dataOf (c : Dev nD) : Data where
  x := m ((c.tc : Thread nD τ).loc main_arg0)
  xs := m ((c.tc : Thread nD τ).loc main_arg1)
  w := m ((c.tc : Thread nD τ).loc main_arg2)
  ws := m ((c.tc : Thread nD τ).loc main_arg3)
  tgt := V m c main_v1
  temp := m ((c.tc : Thread nD τ).loc main_arg5)

theorem idx : ∀ t : Fin cfg0.N, win0_0.index t = ![0, 0, 0] ∧ win0_1.index t = ![0, 0] ∧ win0_2.index t = ![t.val, 0]
    ∧ win0_3.index t = ![0] ∧ win0_4.index t = ![0, 0, 0] ∧ win0_5.index t = ![0, 0] ∧ win0_6.index t = ![0, 0]
    ∧ win0_7.index t = ![0, 0] ∧ win0_8.index t = ![0, 0, 0] :=
  (by decide +kernel : ∀ t : Fin grid0.N, _)

theorem blk_0 (c : Dev nD) (t : Fin cfg0.N) : iblk m c 0 t = m ((c.tc : Thread nD τ).loc main_arg0) := by
  blk_ext! [iblk, V, idx t]
theorem blk_1 (c : Dev nD) (t : Fin cfg0.N) : iblk m c 1 t = m ((c.tc : Thread nD τ).loc main_arg1) := by
  blk_ext! [iblk, V, idx t]
theorem blk_3 (c : Dev nD) (t : Fin cfg0.N) : iblk m c 3 t = m ((c.tc : Thread nD τ).loc main_arg3) := by
  blk_ext! [iblk, V, idx t]
theorem blk_4 (c : Dev nD) (t : Fin cfg0.N) : iblk m c 4 t = V m c main_v1 := by
  blk_ext! [iblk, idx t]
theorem blk_5 (c : Dev nD) (t : Fin cfg0.N) : iblk m c 5 t = m ((c.tc : Thread nD τ).loc main_arg5) := by
  blk_ext! [iblk, V, idx t]
theorem blk_2 (c : Dev nD) (t : Fin cfg0.N) (r : Fin 1280) (h : 1280 * t.val + r.val < 32000) (k : Fin 4096) :
    (iblk m c 2 t : S1280x4096.Idx → EReal) (ix2 r k)
      = (m ((c.tc : Thread nD τ).loc main_arg2) : S32000x4096.Idx → EReal) (ix2 ⟨1280 * t.val + r.val, h⟩ k) := by
  blk_ext [iblk, V, idx t]

theorem blk_data (c : Dev nD) : Blk m (dataOf m) c :=
  ⟨blk_0 m c, blk_1 m c, blk_2 m c, blk_3 m c, blk_4 m c, blk_5 m c⟩

/-- The padded operand's contents: transposed, then padded. -/
theorem V_main_v1 (c : Dev nD) : (V m c main_v1 : S8x8x512.Idx → BitVec 32)
    = pad S8x8x512 ![0, 0, 0] ![0, 1, 0] ![0, 0, 0]
        (transpose S8x7x512 [0, 2, 1] (m ((c.tc : Thread nD τ).loc main_arg4) : S8x512x7.Idx → BitVec 32) transposes_S8x512x7_S8x7x512_0_2_1)
        (constantI S_ 32 0#32) pads_S8x7x512_S8x8x512_000_010_000 h_S_ := by
  show StableHlo.after (List.flatten [hostOps0, hostOps0_1]) (fun b => m (c, b)) (Proc.devRef .tc main_v1) = _
  simp only [hostOps0, hostOps0_1, List.flatten_cons, List.flatten_nil, List.append_nil, List.cons_append, List.nil_append,
    StableHlo.TRef.unary, StableHlo.TRef.binary, StableHlo.TRef.toBuf, StableHlo.TRef.ofBuf, cast_eq]
  after_results_simp
  rfl

/-- The targets as the region finds them: transposed, the eighth row padding. -/
theorem tgt_at (c : Dev nD) (b a : Fin 8) (s : Fin 512) : (dataOf m c).tgt (ix3 b a s)
    = if h : a.val < 7 then (m ((c.tc : Thread nD τ).loc main_arg4) : S8x512x7.Idx → BitVec 32) (ix3 b s ⟨a.val, h⟩) else 0#32 := by
  show (V m c main_v1 : S8x8x512.Idx → BitVec 32) (ix3 b a s) = _
  rw [V_main_v1]
  generalize (m ((c.tc : Thread nD τ).loc main_arg4) : S8x512x7.Idx → BitVec 32) = X
  have := b.isLt
  have := s.isLt
  unfold pad
  by_cases h : a.val < 7
  · rw [dif_pos h, dif_pos (fun d => by
      fin_cases d <;> simp [ix3] <;> omega)]
    pointwise
    blk_ext
  · rw [dif_neg h, dif_neg (fun e => by
      have := (e 1).2.2
      simp [ix3] at this
      omega)]
    rfl

/-- The last grid point. -/
def tLast : Fin cfg0.N := ⟨24, by decide⟩

section final

variable (hD : ∀ c, (dataOf m c).Valid)

theorem final_6 (c : Dev nD) : (datsV m (dataOf m) hD 0 c).arrAt 6 cfg0.N = entOf (dataOf m c) := by
  refine (datsV m (dataOf m) hD 0 c).arrAt_eq_of_after_last 6 tLast (by decide +kernel) _ fun j => ?_
  blk_simp
  rw [afterV_6]
  blk_ext [idx tLast]
theorem final_7 (c : Dev nD) : (datsV m (dataOf m) hD 0 c).arrAt 7 cfg0.N = varOf (dataOf m c) := by
  refine (datsV m (dataOf m) hD 0 c).arrAt_eq_of_after_last 7 tLast (by decide +kernel) _ fun j => ?_
  blk_simp
  rw [afterV_7]
  blk_ext [idx tLast]
theorem final_8 (c : Dev nD) : (datsV m (dataOf m) hD 0 c).arrAt 8 cfg0.N = lpOf (dataOf m c) (hD c) := by
  refine (datsV m (dataOf m) hD 0 c).arrAt_eq_of_after_last 8 tLast (by decide +kernel) _ fun j => ?_
  blk_simp
  rw [afterV_8]
  blk_ext [idx tLast]

end final

end Cert.KernelIdeal.Body

end
-- ==== Proof.Results.lean ====
module

public import proofs.«01_k».proof.Proof.Arrays
public import proofs.«01_k».proof.Defs

@[expose] public section

set_option maxRecDepth 16384

/-!
# The kernel's results

From inputs in the precondition the kernel's run ends with the entropy, the varentropy and the targets' log-probabilities.
-/

noncomputable section

namespace Cert.KernelIdeal.Body

open Idealize.ShloMosaic Idealize.ShloMosaic.TcCoe Idealize.ShloMosaic.Tactic
open Idealize.SL.Sem
open Idealize.ShloMosaic.Pipeline (Dat Cfg Window)
open Cert.KernelIdeal.Gen

variable (m : (ℓ : Loc nD τ sig) → Buf (Elt Ideal) ℓ) (ρ : Dev nD → PrngReg)

/-- The precondition at a position. -/
theorem pre_fn [Cert.Pre_valid.Facts] (a0 : FVec Ideal S8x512x4096 .fp8e4m3) (a1 : FVec Ideal S8x512 .f32) (a2 : FVec Ideal S32000x4096 .fp8e4m3)
    (a3 : FVec Ideal S32000 .f32) (X : IVec S8x512x7 32) (T : FVec Ideal S8x512 .f32) (b : Fin 8) (s : Fin 512) (n : Fin 7)
    (h : Cert.Pre_valid.fn a0 a1 a2 a3 X T (ix3 b s n) = 1#1) :
    (X (ix3 b s n)).toNat < 32000 ∧ (T (ix2 b s) : EReal) ≠ 0 := by
  have e : Cert.Pre_valid.fn a0 a1 a2 a3 X T (ix3 b s n) = IntOp.andi (IntOp.andi (IntOp.cmpi .sge (X (ix3 b s n)) 0#32)
      (IntOp.cmpi .slt (X (ix3 b s n)) 32000#32)) (BitVec.ofBool (decide ((T (ix2 b s) : EReal) ≠ 0))) := by
    pointwise [Cert.Pre_valid.fn]
  rw [e] at h
  have key : ∀ p q r : Bool, IntOp.andi (IntOp.andi (BitVec.ofBool p) (BitVec.ofBool q)) (BitVec.ofBool r) = 1#1 → p = true ∧ q = true ∧ r = true := by
    decide
  obtain ⟨h1, h2, h3⟩ := key _ _ _ h
  refine ⟨?_, of_decide_eq_true h3⟩
  generalize X (ix3 b s n) = x at h1 h2
  have h1' : (0#32).sle x = true := h1
  have h2' : x.slt 32000#32 = true := h2
  rw [BitVec.sle_eq_decide, decide_eq_true_eq] at h1'
  rw [BitVec.slt_eq_decide, decide_eq_true_eq] at h2'
  rw [show (0#32).toInt = 0 by decide] at h1'
  rw [show (32000#32).toInt = 32000 by decide] at h2'
  have hc := BitVec.toInt_eq_toNat_cond x
  have := x.isLt
  split_ifs at hc <;> omega

/-- What the precondition says at a position. -/
theorem pre_at [Cert.Pre_valid.Facts] (h : Cert.Pre_KernelIdeal_valid m) (c : Dev nD) (b : Fin 8) (s : Fin 512) (n : Fin 7) :
    ((m ((c.tc : Thread nD τ).loc main_arg4) : S8x512x7.Idx → BitVec 32) (ix3 b s n)).toNat < 32000
      ∧ ((m ((c.tc : Thread nD τ).loc main_arg5) : S8x512.Idx → EReal) (ix2 b s) : EReal) ≠ (0 : EReal) :=
  pre_fn _ _ _ _ _ _ b s n (congrFun (h c) (ix3 b s n))

/-- Each core's targets in the vocabulary, no temperature zero. -/
theorem valid_of [Cert.Pre_valid.Facts] (h : Cert.Pre_KernelIdeal_valid m) (c : Dev nD) : (dataOf m c).Valid where
  tgt b a s := by
    rw [tgt_at]
    split_ifs with ha
    · exact (pre_at m h c b s _).1
    · decide
  temp b s := (pre_at m h c b s 0).2

variable (hD : ∀ c, (dataOf m c).Valid)

/-- The targets' log-probabilities as the kernel returns them. -/
def lpOut (D : Data) (hD : D.Valid) (j : S8x512x7.Idx) : EReal :=
  ((LP (D.z (j 0) (j 1)) (D.tv hD (j 0) ⟨(j 2).val, Nat.lt_of_lt_of_le (j 2).isLt (by decide)⟩ (j 1)) : ℝ) : EReal)

/-- The kernel's last lines: the log-probabilities transposed back, the padding row dropped. -/
theorem tail_v4 (c : Dev nD) : Pipeline.afterTail₀ cfgs (datsV m (dataOf m) hD) 0 (V0 m) [hostOps1] c main_v4
    = lpOut (dataOf m c) (hD c) := by
  unfold Pipeline.afterTail₀
  simp only [hostOps1, List.flatten_cons, List.flatten_nil, List.append_nil]
  after_results_simp
  rw [show Pipeline.withArrays spec0 c (V0 m c) (fun w => (datsV m (dataOf m) hD 0 c).arrAt w cfg0.N) (Proc.devRef .tc main_v2_2)
    = lpOf (dataOf m c) (hD c) from (Pipeline.withArrays_arr spec0 launch0.win.arr_inj c _ _ 8).trans (final_8 m hD c)]
  funext j
  obtain ⟨b, s, n, rfl⟩ : ∃ b s n, j = ix3 b s n := ⟨_, _, _, eq_ix3 j⟩
  unfold lpOut
  generalize hX : lpOf (dataOf m c) (hD c) = X
  pointwise
  subst hX
  rfl

theorem run_values : θ_run defs (onTc (τ := τ) (main (F := Ideal))) ⟨m, fun _ => 0, ρ⟩ (fun r => ∀ c : Dev nD,
      r.2.mem ((c.tc : Thread nD τ).loc main_v2_0) = entOf (dataOf m c)
      ∧ r.2.mem ((c.tc : Thread nD τ).loc main_v2_1) = varOf (dataOf m c)
      ∧ r.2.mem ((c.tc : Thread nD τ).loc main_v4) = lpOut (dataOf m c) (hD c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  run_from run_mainV m ρ (dataOf m) hD (blk_data m)
  · exact final_6 m hD c
  · exact final_7 m hD c
  · exact tail_v4 m hD c
  · exact W_main_arg4 m _ c

end Cert.KernelIdeal.Body

end
-- ==== Proof.Scores.lean ====
module

public import proofs.«01_k».proof.Proof.Finish
public import proofs.«01_k».proof.Proof.Gen.ReferenceIdeal.Run
public import Idealize.ShloMosaic.Lib.Pipeline.ValueKit
public import Idealize.ShloMosaic.Lib.Claim
public import Idealize.ShloMosaic.Lib.Pointwise

@[expose] public section

set_option maxRecDepth 16384

/-!
# The reference's logits and log-probabilities

The reference's lines read at an index, over the data of `Fold.lean`: its logits are `Data.z`, its log-softmax `LP`.
-/

noncomputable section

namespace Cert.ReferenceIdeal.Body

open Cert.ReferenceIdeal Cert.ReferenceIdeal.Gen Cert.ReferenceIdeal.Value
open Idealize.ShloMosaic Idealize.ShloMosaic.TcCoe Idealize.ShloMosaic.Tactic
open Idealize.SL.Sem
open Cert.KernelIdeal.Body (Data LP LP_shift sum_exp_pos Ent Var nV c30 tanh_real inv_real thirty div_real log_real coe_sum bot_bits)

/-- What the lines after the reference's product find. -/
structure RefIn (V0 : Valuation τ sig (Elt Ideal)) (D : Data) : Prop where
  v0 : ∀ (b : Fin 8) (s : Fin 512) (v : Fin 32000), (V0 (Proc.devRef .tc main_v0) : S8x512x32000.Idx → EReal) (ix3 b s v)
    = ∑ k : Fin 4096, D.x (ix3 b s k) * D.w (ix2 v k)
  xs : V0 (Proc.devRef .tc main_arg1) = D.xs
  ws : V0 (Proc.devRef .tc main_arg3) = D.ws
  temp : V0 (Proc.devRef .tc main_arg5) = D.temp

variable {V0 : Valuation τ sig (Elt Ideal)} {D : Data}

/-- The logits. -/
theorem v14_at (h : RefIn V0 D) (hD : D.Valid) (b : Fin 8) (s : Fin 512) (v : Fin 32000) :
    (res_main_v14 V0 : S8x512x32000.Idx → EReal) (ix3 b s v) = ((D.z b s v : ℝ) : EReal) := by
  unfold res_main_v14
  have h0 := h.v0 b s v
  rw [h.xs, h.ws, h.temp]
  revert h0
  generalize (V0 (Proc.devRef .tc main_v0) : S8x512x32000.Idx → EReal) = A
  intro h0
  pointwise
  rw [h0, Ideal.div, if_neg (hD.temp b s)]
  have e : (∑ k : Fin 4096, D.x (ix3 b s k) * D.w (ix2 v k)) * D.xs (ix2 b s) * D.ws (ix1 v) * Ideal.ofBits FTy.f32 1023969417#32
      = D.raw b s v.val * D.wsv v.val * (D.xs (ix2 b s) * c30) := by
    rw [Data.raw, dif_pos v.isLt, Data.wsv, dif_pos v.isLt]
    rw [Finset.sum_congr rfl fun k _ => mul_comm (D.x (ix3 b s k)) (D.w (ix2 v k))]
    generalize (∑ k : Fin 4096, D.w (ix2 v k) * D.x (ix3 b s k)) = r
    change r * D.xs (ix2 b s) * D.ws (ix1 v) * c30 = r * D.ws (ix1 v) * (D.xs (ix2 b s) * c30)
    ac_rfl
  rw [e, ← tanh_real, ← inv_real]
  change _ * ((D.th b s v.val : ℝ) : EReal) * ((D.tau b s : ℝ) : EReal) = _
  rw [show Ideal.ofBits FTy.f32 1106247680#32 = ((30 : ℝ) : EReal) from thirty, ← EReal.coe_mul, ← EReal.coe_mul, Data.z]
  congr 1
  ring

/-! ## Reductions over the vocabulary -/

/-- The vocabulary's maximum, as the reference folds it. -/
theorem rowMax_at (A : FVec Ideal S8x512x32000 .f32) (b : Fin 8) (s : Fin 512) :
    (Host.reduce (FloatOps.maximumf (F := Ideal) (φ := .f32)) A (constant (F := Ideal) S_ .f32 0xFF800000#32) reducesTo_S8x512x32000_S8x512_d2 h_S_ :
      S8x512.Idx → EReal) (ix2 b s) = Finset.univ.fold max ⊥ fun v : Fin 32000 => A (ix3 b s v) := by
  rw [Host.reduce_eq_fold, Shape.ReducesTo.fold_fiber_r3_a2]
  rw [← bot_bits]
  rfl

/-- The vocabulary's sum. -/
theorem rowSum_at (A : FVec Ideal S8x512x32000 .f32) (b : Fin 8) (s : Fin 512) :
    (Host.reduceAdd A (constant (F := Ideal) S_ .f32 0x00000000#32) reducesTo_S8x512x32000_S8x512_d2 h_S_ : S8x512.Idx → EReal)
      (ix2 b s) = ∑ v : Fin 32000, A (ix3 b s v) := by
  pointwise

/-- The greatest of finitely many reals is real. -/
theorem fold_max_real {n : ℕ} (hn : 0 < n) (f : Fin n → ℝ) :
    ∃ M : ℝ, (Finset.univ.fold max (⊥ : EReal) fun v => ((f v : ℝ) : EReal)) = (M : EReal) := by
  refine ⟨_, (EReal.coe_toReal (ne_of_lt ?_) (ne_of_gt ?_)).symm⟩
  · exact (Finset.fold_max_lt _).2 ⟨bot_lt_top, fun v _ => EReal.coe_lt_top _⟩
  · exact (Finset.lt_fold_max _).2 (.inr ⟨⟨0, hn⟩, Finset.mem_univ _, EReal.bot_lt_coe _⟩)

/-- Over real logits, the maximum is real. -/
theorem rowMax_real (A : FVec Ideal S8x512x32000 .f32) (b : Fin 8) (s : Fin 512) (z : Fin 32000 → ℝ)
    (h : ∀ v, A (ix3 b s v) = ((z v : ℝ) : EReal)) : ∃ M : ℝ,
    (Host.reduce (FloatOps.maximumf (F := Ideal) (φ := .f32)) A (constant (F := Ideal) S_ .f32 0xFF800000#32)
      reducesTo_S8x512x32000_S8x512_d2 h_S_ : S8x512.Idx → EReal) (ix2 b s) = (M : EReal) := by
  rw [rowMax_at, funext h]
  exact fold_max_real (by decide) z

/-- The logits less their row's maximum. -/
theorem sub_at (A : FVec Ideal S8x512x32000 .f32) (R : FVec Ideal S8x512 .f32) (b : Fin 8) (s : Fin 512) (v : Fin 32000) :
    (subf A (broadcastInDim S8x512x32000 ![0, 1, 2] bcast_S8x512x1_S8x512x32000_0_1_2
      (broadcastInDim S8x512x1 ![0, 1] bcast_S8x512_S8x512x1_0_1
        (maximumf (broadcastInDim S8x512 ![] bcast_S_S8x512 (constant S_ .f32 0xFF800000#32)) R))) : FVec Ideal S8x512x32000 .f32)
      (ix3 b s v) = A (ix3 b s v) - R (ix2 b s) := by
  pointwise
  rw [show Ideal.ofBits FTy.f32 4286578688#32 = ⊥ from bot_bits, max_eq_right bot_le]

/-! ## The log-softmax -/

/-- The logits less a real. -/
theorem v5_at (h : ∀ (b : Fin 8) (s : Fin 512) (v : Fin 32000), (res_main_v14 V0 : S8x512x32000.Idx → EReal) (ix3 b s v) =
    ((D.z b s v : ℝ) : EReal)) (b : Fin 8) (s : Fin 512) :
    ∃ M : ℝ, ∀ v : Fin 32000, (res_main_call0_v5 V0 : S8x512x32000.Idx → EReal) (ix3 b s v) = ((D.z b s v - M : ℝ) : EReal) := by
  obtain ⟨M, hM⟩ := rowMax_real (res_main_v14 V0) b s (D.z b s) (h b s)
  refine ⟨M, fun v => ?_⟩
  rw [EReal.coe_sub, ← h b s v, ← hM]
  exact sub_at _ _ b s v

/-- The log-probabilities. -/
theorem v15_at (h : ∀ (b : Fin 8) (s : Fin 512) (v : Fin 32000), (res_main_v14 V0 : S8x512x32000.Idx → EReal) (ix3 b s v) =
    ((D.z b s v : ℝ) : EReal)) (b : Fin 8) (s : Fin 512) (v : Fin 32000) :
    (res_main_v15 V0 : S8x512x32000.Idx → EReal) (ix3 b s v) = ((LP (D.z b s) v : ℝ) : EReal) := by
  obtain ⟨M, hA⟩ := v5_at h b s
  clear h
  unfold res_main_v15
  revert hA
  generalize (res_main_call0_v5 V0 : FVec Ideal S8x512x32000 .f32) = A
  intro hA
  have hR := rowSum_at (Host.exp A) b s
  revert hR
  generalize (Host.reduceAdd (Host.exp A) (constant (F := Ideal) S_ .f32 0x00000000#32) reducesTo_S8x512x32000_S8x512_d2 h_S_ :
      FVec Ideal S8x512 .f32) = R
  intro hR
  pointwise at hR ⊢
  have hR' : R (ix2 b s) = ((∑ w : Fin nV, Real.exp (D.z b s w - M) : ℝ) : EReal) := by
    rw [hR, coe_sum]
    exact Finset.sum_congr rfl fun w _ => by rw [hA]; rfl
  rw [hR', hA, log_real (sum_exp_pos fun w => D.z b s w - M), ← EReal.coe_sub, LP_shift _ M]

end Cert.ReferenceIdeal.Body

end
-- ==== Proof.Moments.lean ====
module

public import proofs.«01_k».proof.Proof.Scores
public import proofs.«01_k».proof.Proof.Gen.ReferenceIdeal.Run
public import Idealize.ShloMosaic.Lib.Pipeline.ValueKit
public import Idealize.ShloMosaic.Lib.Claim
public import Idealize.ShloMosaic.Lib.Pointwise

@[expose] public section

set_option maxRecDepth 16384

/-!
# The reference's entropy and varentropy
-/

noncomputable section

namespace Cert.ReferenceIdeal.Body

open Cert.ReferenceIdeal Cert.ReferenceIdeal.Gen Cert.ReferenceIdeal.Value
open Idealize.ShloMosaic Idealize.ShloMosaic.TcCoe Idealize.ShloMosaic.Tactic
open Idealize.SL.Sem
open Cert.KernelIdeal.Body (Data LP Ent Var nV coe_sum)

/-- The sum over the vocabulary. -/
abbrev sumV (A : FVec Ideal S8x512x32000 .f32) : FVec Ideal S8x512 .f32 :=
  Host.reduceAdd A (constant (F := Ideal) S_ .f32 0x00000000#32) reducesTo_S8x512x32000_S8x512_d2 h_S_

/-- One value for every vocabulary entry of its row. -/
abbrev alongV (R : FVec Ideal S8x512 .f32) : FVec Ideal S8x512x32000 .f32 :=
  broadcastInDim S8x512x32000 ![0, 1, 2] bcast_S8x512x1_S8x512x32000_0_1_2
    (broadcastInDim S8x512x1 ![0, 1] bcast_S8x512_S8x512x1_0_1 R)

section
variable {L : FVec Ideal S8x512x32000 .f32} {z : Fin nV → ℝ} {b : Fin 8} {s : Fin 512}

/-- The entropy's sum, over log-probabilities that are real. -/
theorem plogp_at (h : ∀ v : Fin 32000, L (ix3 b s v) = ((LP z v : ℝ) : EReal)) :
    sumV (mulf (Host.exp L) L) (ix2 b s) = ((∑ v, Real.exp (LP z v) * LP z v : ℝ) : EReal) := by
  rw [coe_sum]
  refine (rowSum_at _ b s).trans ?_
  refine Finset.sum_congr rfl fun v _ => ?_
  pointwise
  rw [h, EReal.coe_mul]
  rfl

/-- The entropy. -/
theorem ent_at (h : ∀ v : Fin 32000, L (ix3 b s v) = ((LP z v : ℝ) : EReal)) :
    (Host.negf (sumV (mulf (Host.exp L) L)) : FVec Ideal S8x512 .f32) (ix2 b s) = ((Ent z : ℝ) : EReal) := by
  have hR := plogp_at h
  revert hR
  generalize sumV (mulf (Host.exp L) L) = R
  intro hR
  pointwise
  rw [hR, ← EReal.coe_neg]
  rfl

/-- The varentropy. -/
theorem var_at (h : ∀ v : Fin 32000, L (ix3 b s v) = ((LP z v : ℝ) : EReal)) :
    sumV (mulf (Host.exp L) (mulf (addf L (alongV (Host.negf (sumV (mulf (Host.exp L) L)))))
      (addf L (alongV (Host.negf (sumV (mulf (Host.exp L) L))))))) (ix2 b s) = ((Var z : ℝ) : EReal) := by
  have hE := ent_at h
  revert hE
  generalize (Host.negf (sumV (mulf (Host.exp L) L)) : FVec Ideal S8x512 .f32) = E
  intro hE
  rw [Var, coe_sum]
  refine (rowSum_at _ b s).trans ?_
  refine Finset.sum_congr rfl fun v _ => ?_
  pointwise
  rw [h, hE, ← EReal.coe_add, ← EReal.coe_mul, EReal.coe_mul]
  rfl

end

end Cert.ReferenceIdeal.Body

end
-- ==== Proof.Take.lean ====
module

public import proofs.«01_k».proof.Proof.Gen.ReferenceIdeal.Run
public import Idealize.ShloMosaic.Lib.Pipeline.ValueKit
public import Idealize.ShloMosaic.Lib.Claim
public import Idealize.ShloMosaic.Lib.Pointwise

@[expose] public section

set_option maxRecDepth 16384

/-!
# The reference's lookup of the targets

A target in range is kept by the wrapping of negative indices, passes the range check, and is the vocabulary entry the
lookup reads.
-/

noncomputable section

namespace Cert.ReferenceIdeal.Body

open Cert.ReferenceIdeal Cert.ReferenceIdeal.Gen Cert.ReferenceIdeal.Value
open Idealize.ShloMosaic Idealize.ShloMosaic.TcCoe Idealize.ShloMosaic.Tactic
open Idealize.SL.Sem

/-- The lookup at an index in range. -/
theorem take_at (A : FVec Ideal S8x512x32000 .f32) (I : IVec S8x512x7x1 32) (b : Fin 8) (s : Fin 512) (n : Fin 7)
    (ht : (I (ix4 b s n 0)).toNat < 32000) :
    Host.gather gather_S8x512x32000_S8x512x7x1_S8x512x7_n_2_01_01_2_3_111 A I (ix3 b s n) = A (ix3 b s ⟨_, ht⟩) := by
  unfold Host.gather
  congr 1
  funext a
  refine Fin.ext ?_
  change GatherDims.start _ _ _ a + GatherDims.batchCoord _ _ a + GatherDims.offCoord _ _ a = _
  have h012 : a = 0 ∨ a = 1 ∨ a = 2 := by
    match a with
    | ⟨0, _⟩ => exact .inl rfl
    | ⟨1, _⟩ => exact .inr (.inl rfl)
    | ⟨2, _⟩ => exact .inr (.inr rfl)
  have hb : ∀ a : Fin 3, a ∈ ([0, 1] : List (Fin 3)) → a ∈ (gather_S8x512x32000_S8x512x7x1_S8x512x7_n_2_01_01_2_3_111).operandBatchingDims := fun _ h => h
  rcases h012 with rfl | rfl | rfl
  · rw [GatherDims.start_batching _ _ _ _ (hb 0 (by decide)),
      GatherDims.offCoord_eq_zero _ _ _ (fun h => ((GatherDims.mem_sKept _ _).mp h).2 (hb 0 (by decide)))]
    simp only [Nat.zero_add, Nat.add_zero]
    unfold GatherDims.batchCoord
    rw [dif_pos (hb 0 (by decide))]
    rfl
  · rw [GatherDims.start_batching _ _ _ _ (hb 1 (by decide)),
      GatherDims.offCoord_eq_zero _ _ _ (fun h => ((GatherDims.mem_sKept _ _).mp h).2 (hb 1 (by decide)))]
    simp only [Nat.zero_add, Nat.add_zero]
    unfold GatherDims.batchCoord
    rw [dif_pos (hb 1 (by decide))]
    rfl
  · rw [GatherDims.batchCoord_eq_zero _ _ _ (fun h => absurd (show (2 : Fin 3) ∈ ([0, 1] : List (Fin 3)) from h) (by decide)),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (gather_S8x512x32000_S8x512x7x1_S8x512x7_n_2_01_01_2_3_111).startIndexMap from List.mem_singleton.mpr rfl)]
    have hsi : (gather_S8x512x32000_S8x512x7x1_S8x512x7_n_2_01_01_2_3_111).siIdx (ix3 b s n)
        ⟨List.idxOf (2 : Fin 3) (gather_S8x512x32000_S8x512x7x1_S8x512x7_n_2_01_01_2_3_111).startIndexMap,
        List.idxOf_lt_length_iff.2 (List.mem_singleton.mpr rfl)⟩ = ix4 b s n 0 := by
      funext b; refine Fin.ext ?_
      match b with
      | ⟨0, _⟩ => rfl
      | ⟨1, _⟩ => rfl
      | ⟨2, _⟩ => rfl
      | ⟨3, _⟩ => rfl
    rw [hsi]
    have e : (I (ix4 b s n 0)).toInt = ((I (ix4 b s n 0)).toNat : ℤ) := by
      rw [BitVec.toInt_eq_toNat_cond]; split_ifs <;> omega
    rw [e, Int.toNat_natCast]
    change min _ (32000 - 1) = (I (ix4 b s n 0)).toNat
    omega

/-- A target in range, as the lookup's index. -/
theorem index_at (T : IVec S8x512x7 32) (b : Fin 8) (s : Fin 512) (n : Fin 7) (ht : (T (ix3 b s n)).toNat < 32000) :
    (shapeCast S8x512x7x1 (select (cmpi .slt T (broadcastInDim S8x512x7 ![] bcast_S_S8x512x7 (constantI S_ 32 0#32)))
      (addi T (broadcastInDim S8x512x7 ![] bcast_S_S8x512x7 (constantI S_ 32 32000#32))) T) shapeCasts_S8x512x7_S8x512x7x1 :
      IVec S8x512x7x1 32) (ix4 b s n 0) = T (ix3 b s n) := by
  pointwise
  have e : IntOp.cmpi .slt (T (ix3 b s n)) 0#32 = 0#1 := by
    generalize T (ix3 b s n) = t at ht
    have e : t.toInt = (t.toNat : ℤ) := by rw [BitVec.toInt_eq_toNat_cond]; split_ifs <;> omega
    have : ¬ t.toInt < 0 := by omega
    simp [IntOp.cmpi, BitVec.slt, this]
  rw [e]
  rfl

/-- The range check passes. -/
theorem mask_at (I : IVec S8x512x7x1 32) (b : Fin 8) (s : Fin 512) (n : Fin 7) (ht : (I (ix4 b s n 0)).toNat < 32000) :
    (Host.reduce IntOp.andi (andi (cmpi .sge I (broadcastInDim S8x512x7x1 ![] bcast_S_S8x512x7x1 (constantI S_ 32 0#32)))
      (cmpi .sle I (broadcastInDim S8x512x7x1 ![0, 1, 2, 3] bcast_S1x1x1x1_S8x512x7x1_0_1_2_3
        (broadcastInDim S1x1x1x1 ![3] bcast_S1_S1x1x1x1_3 (constantI S1 32 31999#32))))) (constantI S_ 1 1#1)
        reducesTo_S8x512x7x1_S8x512x7_d3 h_S_ : IVec S8x512x7 1) (ix3 b s n) = 1#1 := by
  pointwise
  have e : (fun x : Fin 1 => IntOp.andi (IntOp.cmpi CmpIPredicate.sge (I (ix4 b s n x)) 0#32)
      (IntOp.cmpi CmpIPredicate.sle (I (ix4 b s n x)) 31999#32)) = fun _ => 1#1 := by
    funext x
    obtain rfl : x = 0 := Subsingleton.elim _ _
    generalize I (ix4 b s n 0) = t at ht
    have e : t.toInt = (t.toNat : ℤ) := by rw [BitVec.toInt_eq_toNat_cond]; split_ifs <;> omega
    have h0 : (0 : ℤ) ≤ t.toInt := by omega
    have h1 : t.toInt ≤ 31999 := by omega
    simp [IntOp.cmpi, IntOp.andi, BitVec.sle, h0, h1]
  rw [e]
  decide

end Cert.ReferenceIdeal.Body

end
-- ==== Proof.Product.lean ====
module

public import proofs.«01_k».proof.Proof.Fold
public import proofs.«01_k».proof.Proof.Gen.ReferenceIdeal.Run
public import Idealize.ShloMosaic.Lib.Pipeline.ValueKit
public import Idealize.ShloMosaic.Lib.Claim
public import Idealize.ShloMosaic.Lib.Pointwise

@[expose] public section

set_option maxRecDepth 16384

/-!
# The reference's product

The array of the reference's one region: every hidden state against every row of the table.
-/

noncomputable section

namespace Cert.ReferenceIdeal.Body

open Cert.ReferenceIdeal Cert.ReferenceIdeal.Gen Cert.ReferenceIdeal.Value
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ)

/-- The windows' one block index. -/
theorem idx : ∀ t : Fin cfg0.N, win0_0.index t = ![0, 0, 0] ∧ win0_1.index t = ![0, 0] ∧ win0_2.index t = ![0, 0, 0] :=
  (by decide +kernel : ∀ t : Fin grid0.N, _)

/-- Each input window's block is its whole array. -/
theorem blk_0 (c : Dev nD) (t : Fin cfg0.N) : iblk m c 0 t = m ((c.tc : Thread nD τ).loc main_arg0) := by
  blk_ext! [iblk, V, idx t]
@[inherit_doc blk_0] theorem blk_1 (c : Dev nD) (t : Fin cfg0.N) : iblk m c 1 t = m ((c.tc : Thread nD τ).loc main_arg2) := by
  blk_ext! [iblk, V, idx t]

/-- What the body leaves in the output's buffer. -/
theorem out_eq (x0 : Vec Ideal S8x512x4096 .fp8e4m3) (x1 : Vec Ideal S32000x4096 .fp8e4m3) : out0_2 x0 x1 = k0_pay1 x0 x1 := by
  frame_out

/-- The one store's value, at an index. -/
theorem pay_at (x0 : Vec Ideal S8x512x4096 .fp8e4m3) (x1 : Vec Ideal S32000x4096 .fp8e4m3) (b : Fin 8) (s : Fin 512) (v : Fin 32000) :
    (k0_pay1 x0 x1 : S8x512x32000.Idx → EReal) (ix3 b s v)
      = ∑ k : Fin 4096, (x0 : S8x512x4096.Idx → EReal) (ix3 b s k) * (x1 : S32000x4096.Idx → EReal) (ix2 v k) := by
  unfold k0_pay1
  pointwise

/-- What the output's array holds. -/
theorem final_2 (c : Dev nD) : (dats m 0 c).arrAt 2 cfg0.N
    = k0_pay1 (m ((c.tc : Thread nD τ).loc main_arg0)) (m ((c.tc : Thread nD τ).loc main_arg2)) := by
  refine (dats m 0 c).arrAt_eq_of_after_last 2 t0_0 (by decide +kernel) _ fun j => ?_
  blk_simp
  rw [after0_2, blk_0, blk_1, out_eq]

/-- The product over the data of `Fold.lean`. -/
theorem product_at (D : Cert.KernelIdeal.Body.Data) (c : Dev nD) (hx : m ((c.tc : Thread nD τ).loc main_arg0) = D.x)
    (hw : m ((c.tc : Thread nD τ).loc main_arg2) = D.w) (b : Fin 8) (s : Fin 512) (v : Fin 32000) :
    (reg_main_v0 m c : S8x512x32000.Idx → EReal) (ix3 b s v) = ∑ k : Fin 4096, D.x (ix3 b s k) * D.w (ix2 v k) := by
  unfold reg_main_v0
  rw [final_2, hx, hw]
  exact pay_at _ _ b s v

end Cert.ReferenceIdeal.Body

end
-- ==== Proof.Algebraic.lean ====
module

public import proofs.«01_k».proof.Proof.Results
public import proofs.«01_k».proof.Proof.Moments
public import proofs.«01_k».proof.Proof.Take
public import proofs.«01_k».proof.Proof.Product

@[expose] public section

set_option maxRecDepth 16384

/-!
# The two programs' results are equal

The reference's results, read at an index, are the softmax statistics the kernel's results are (`Results.lean`).
-/

noncomputable section

namespace Cert.ReferenceIdeal.Body

open Cert.ReferenceIdeal Cert.ReferenceIdeal.Gen Cert.ReferenceIdeal.Value
open Idealize.ShloMosaic Idealize.ShloMosaic.TcCoe Idealize.ShloMosaic.Tactic
open Idealize.SL.Sem
open Cert.KernelIdeal.Body (Data LP Ent Var nV entOf varOf lpOut dataOf tgt_at valid_of run_values)

section
variable {V0 : Valuation τ sig (Elt Ideal)} {D : Data}

/-- The reference's first result: the entropy. -/
theorem v19_eq (h : RefIn V0 D) (hD : D.Valid) :
    (Host.negf (Host.reduceAdd (mulf (res_main_v16 V0) (res_main_v15 V0)) (constant S_ .f32 0x00000000#32)
      reducesTo_S8x512x32000_S8x512_d2 h_S_) : FVec Ideal S8x512 .f32) = entOf D := by
  funext j
  obtain ⟨b, s, rfl⟩ : ∃ b s, j = ix2 b s := ⟨_, _, eq_ix2 j⟩
  exact ent_at (L := res_main_v15 V0) (z := D.z b s) fun v => v15_at (v14_at h hD) b s v

/-- Its second: the varentropy. -/
theorem v25_eq (h : RefIn V0 D) (hD : D.Valid) :
    (Host.reduceAdd (mulf (res_main_v16 V0) (mulf (res_main_v22 V0) (res_main_v22 V0))) (constant S_ .f32 0x00000000#32)
      reducesTo_S8x512x32000_S8x512_d2 h_S_ : FVec Ideal S8x512 .f32) = varOf D := by
  funext j
  obtain ⟨b, s, rfl⟩ : ∃ b s, j = ix2 b s := ⟨_, _, eq_ix2 j⟩
  exact var_at (L := res_main_v15 V0) (z := D.z b s) fun v => v15_at (v14_at h hD) b s v

/-- The lookup's last choice, where the range check passes. -/
theorem pick_at (M : IVec S8x512x7 1) (G : FVec Ideal S8x512x7 .f32) (b : Fin 8) (s : Fin 512) (n : Fin 7) (h : M (ix3 b s n) = 1#1) :
    (select M G (broadcastInDim S8x512x7 ![] bcast_S_S8x512x7 (constant S_ .f32 0x7FC00000#32)) : FVec Ideal S8x512x7 .f32) (ix3 b s n)
      = G (ix3 b s n) := by
  pointwise
  rw [h]
  rfl

/-- Its third: the targets' log-probabilities. -/
theorem v26_eq (h : RefIn V0 D) (hD : D.Valid) (T : IVec S8x512x7 32) (hT : V0 (Proc.devRef .tc main_arg4) = T)
    (ht : ∀ (b : Fin 8) (s : Fin 512) (n : Fin 7), T (ix3 b s n) = D.tgt (ix3 b ⟨n.val, Nat.lt_of_lt_of_le n.isLt (by decide)⟩ s)) :
    (select (Host.reduce IntOp.andi (andi
        (cmpi .sge (res_main_call1_v5 V0) (broadcastInDim S8x512x7x1 ![] bcast_S_S8x512x7x1 (constantI S_ 32 0#32)))
        (cmpi .sle (res_main_call1_v5 V0) (broadcastInDim S8x512x7x1 ![0, 1, 2, 3] bcast_S1x1x1x1_S8x512x7x1_0_1_2_3
          (broadcastInDim S1x1x1x1 ![3] bcast_S1_S1x1x1x1_3 (constantI S1 32 31999#32)))))
        (constantI S_ 1 1#1) reducesTo_S8x512x7x1_S8x512x7_d3 h_S_)
      (Host.gather gather_S8x512x32000_S8x512x7x1_S8x512x7_n_2_01_01_2_3_111 (res_main_v15 V0) (res_main_call1_v5 V0))
      (broadcastInDim S8x512x7 ![] bcast_S_S8x512x7 (constant S_ .f32 0x7FC00000#32)) : FVec Ideal S8x512x7 .f32) = lpOut D hD := by
  funext j
  obtain ⟨b, s, n, rfl⟩ : ∃ b s n, j = ix3 b s n := ⟨_, _, _, eq_ix3 j⟩
  have hlt : (T (ix3 b s n)).toNat < 32000 := by rw [ht]; exact hD.tgt _ _ _
  have hI : (res_main_call1_v5 V0 : IVec S8x512x7x1 32) (ix4 b s n 0) = T (ix3 b s n) := by
    unfold res_main_call1_v5
    rw [hT]
    exact index_at T b s n hlt
  have hlt' : ((res_main_call1_v5 V0 : IVec S8x512x7x1 32) (ix4 b s n 0)).toNat < 32000 := by rw [hI]; exact hlt
  refine (pick_at _ _ b s n (mask_at _ b s n hlt')).trans ?_
  refine (take_at _ _ b s n hlt').trans ?_
  rw [v15_at (v14_at h hD) b s]
  unfold lpOut
  refine congrArg (fun v : Fin nV => ((LP (D.z b s) v : ℝ) : EReal)) (Fin.ext ?_)
  have e : ((res_main_call1_v5 V0 : IVec S8x512x7x1 32) (ix4 b s n 0)).toNat
      = (D.tgt (ix3 b ⟨n.val, Nat.lt_of_lt_of_le n.isLt (by decide)⟩ s)).toNat := by rw [hI, ht]
  exact e

end

/-- The lines after the reference's product find the kernel's data. -/
theorem refIn (m : (ℓ : Loc Cert.KernelIdeal.nD Cert.KernelIdeal.τ Cert.KernelIdeal.sig) → Buf (Elt Ideal) ℓ)
    (m' : (ℓ : Loc nD τ sig) → Buf (Elt Ideal) ℓ) (c : Dev nD)
    (h0 : m' ((c.tc : Thread nD τ).loc main_arg0) = m ((c.tc : Thread Cert.KernelIdeal.nD Cert.KernelIdeal.τ).loc Cert.KernelIdeal.main_arg0))
    (h1 : m' ((c.tc : Thread nD τ).loc main_arg1) = m ((c.tc : Thread Cert.KernelIdeal.nD Cert.KernelIdeal.τ).loc Cert.KernelIdeal.main_arg1))
    (h2 : m' ((c.tc : Thread nD τ).loc main_arg2) = m ((c.tc : Thread Cert.KernelIdeal.nD Cert.KernelIdeal.τ).loc Cert.KernelIdeal.main_arg2))
    (h3 : m' ((c.tc : Thread nD τ).loc main_arg3) = m ((c.tc : Thread Cert.KernelIdeal.nD Cert.KernelIdeal.τ).loc Cert.KernelIdeal.main_arg3))
    (h5 : m' ((c.tc : Thread nD τ).loc main_arg5) = m ((c.tc : Thread Cert.KernelIdeal.nD Cert.KernelIdeal.τ).loc Cert.KernelIdeal.main_arg5)) :
    RefIn (exitV m' c) (dataOf m c) where
  v0 b s v := by
    rw [exit_main_v0]
    exact product_at m' (dataOf m c) c h0 h2 b s v
  xs := (exit_main_arg1 m' c).trans h1
  ws := (exit_main_arg3 m' c).trans h3
  temp := (exit_main_arg5 m' c).trans h5

end Cert.ReferenceIdeal.Body

namespace Cert.Proof

open Idealize.ShloMosaic Idealize.ShloMosaic.TcCoe Idealize.SL.Sem
open Cert.ReferenceIdeal.Body Cert.ReferenceIdeal.Value
open Cert.KernelIdeal.Body (Data entOf varOf lpOut dataOf tgt_at valid_of run_values)

/-- The idealized kernel and the idealized reference end with equal results. -/
theorem algebraic [hPre : Cert.Pre_valid.Facts] :
    algebraic_KernelIdeal_ReferenceIdeal_pre_valid (hKernelIdeal := Cert.KernelIdeal.Gen.facts)
      (hReferenceIdeal := Cert.ReferenceIdeal.Gen.facts) := by
  intro m g m' g' hpre hagree
  have hD := valid_of m hpre
  refine ⟨fun c => entOf (dataOf m c), fun c => varOf (dataOf m c), fun c => lpOut (dataOf m c) (hD c), run_values m g hD, ?_⟩
  refine (θ_run _ _ _).mono (fun r h c => ?_) (Cert.ReferenceIdeal.Value.run m' g')
  obtain ⟨r0, r1, r2, ra⟩ := h c
  obtain ⟨h0, h1, h2, h3, h4, h5⟩ := hagree c
  have hin := refIn m m' c h0 h1 h2 h3 h5
  refine ⟨r0.trans (v19_eq hin (hD c)), r1.trans (v25_eq hin (hD c)), r2.trans (v26_eq hin (hD c) _ ((exit_main_arg4 m' c).trans h4) ?_), ra⟩
  intro b s n
  rw [tgt_at, dif_pos n.isLt]

end Cert.Proof

end
-- ==== Proof.Twin.Body.lean ====
module

public import proofs.«01_k».proof.Proof.Gen.Kernel

@[expose] public section

set_option maxRecDepth 16384

/-!
# The kernel body, written once

The printed kernel body is unrolled: three copies of the epilogue, each over four column chunks, each over ten row
chunks, each over sixteen groups of eight rows. Here the same body is written with each of those repetitions as a
recursion (`upTo` for values, `runAll` for programs); `Printed` states that the printed text is this one.
-/

noncomputable section

namespace Cert.Kernel.Body

open Idealize.ShloMosaic Idealize.SL.Sem
open Cert.Kernel Cert.Kernel.Facts₀ Cert.Kernel.Facts

variable {F : FTy → Type} [FloatOps F]

/-- A kernel body's program. -/
abbrev P (F : FTy → Type) (α : Type) := Prog (TpuEff nD τ sig (Elt F) Λ₀ .tc) α

/-- `f 0`, …, `f (n-1)` applied in turn to `a`. -/
def upTo {α : Type} {N : Nat} (f : Fin N → α → α) : (n : Nat) → n ≤ N → α → α
  | 0, _, a => a
  | n + 1, h, a => f ⟨n, h⟩ (upTo f n (Nat.le_of_succ_le h) a)

/-- The programs `f i`, …, `f (i+k-1)` run in turn. -/
def runFrom {α : Type} {N : Nat} (f : Fin N → α → P F α) : (k i : Nat) → i + k ≤ N → α → P F α
  | 0, _, _, a => pure a
  | k + 1, i, h, a => f ⟨i, by omega⟩ a >>= fun b => runFrom f k (i + 1) (by omega) b

/-- The programs `f 0`, …, `f (N-1)` run in turn. -/
def runAll {α : Type} (N : Nat) (f : Fin N → α → P F α) (a : α) : P F α := runFrom f N 0 (by omega) a

/-- The buffers the body is called with. -/
structure Bufs where
  x : Memref sig .tc .vmem S8x512x4096 .fp8e4m3
  xs : Memref sig .tc .vmem S8x512 .f32
  w : Memref sig .tc .vmem S1280x4096 .fp8e4m3
  ws : Memref sig .tc .vmem S32000 .f32
  tgt : Memref sig .tc .vmem S8x8x512 .i32
  temp : Memref sig .tc .vmem S8x512 .f32
  ent : Memref sig .tc .vmem S8x512 .f32
  var : Memref sig .tc .vmem S8x512 .f32
  lp : Memref sig .tc .vmem S8x8x512 .f32
  accA : Memref sig .tc .vmem S1280x512 .f32
  accB : Memref sig .tc .vmem S1280x512 .f32
  wsb : Memref sig .tc .vmem S2x1280x128 .f32
  xss : Memref sig .tc .vmem S8x8x512 .f32
  tcs : Memref sig .tc .vmem S8x8x512 .f32
  m : Memref sig .tc .vmem S9x8x512 .f32
  s0 : Memref sig .tc .vmem S9x8x512 .f32
  s1 : Memref sig .tc .vmem S9x8x512 .f32
  s2 : Memref sig .tc .vmem S9x8x512 .f32
  tg : Memref sig .tc .vmem S9x8x512 .f32

theorem slices_q (q : Fin 16) : S16x8x128.Slices ![q.val, 0, 0] S1x8x128 := by
  revert q; decide

/-! ## Values -/

/-- The running statistics of an `8 × 128` strip: the maximum, the three moments and the picked scores. -/
structure Stats (F : FTy → Type) where
  m : FVec F S8x128 .f32
  s0 : FVec F S8x128 .f32
  s1 : FVec F S8x128 .f32
  s2 : FVec F S8x128 .f32
  tg : FVec F S8x128 .f32

/-- A sublane number as the gather takes it: negative ones counted from the end. -/
def wrap (lo : IVec S8x128 32) : IVec S8x128 32 :=
  shapeCast S8x128 (shapeCast S8x128x1
    (select (cmpi .slt lo (broadcast S8x128 (0#32))) (addi lo (broadcast S8x128 (8#32))) lo)
    shapeCasts_S8x128_S8x128x1) shapeCasts_S8x128x1_S8x128

/-- Group `q` of a chunk's scores picked into `tg` where the target's group is `g`. -/
def pick (t : FVec F S16x8x128 .f32) (lo hi : IVec S8x128 32) (r : Nat) (q : Fin 16) (tg : FVec F S8x128 .f32) :
    FVec F S8x128 .f32 :=
  select (cmpi .eq hi (broadcast S8x128 (BitVec.ofNat 32 (16 * r + q.val))))
    (dynamicGather 0 (shapeCast S8x128 (extractStridedSlice S1x8x128 ![q.val, 0, 0] t (slices_q q)) shapeCasts_S1x8x128_S8x128)
      (wrap lo)) tg

/-- The capped scores of a chunk. -/
def score (z : Vec F S128x128 .f32) (ws : Vec F S1x128x128 .f32) (xs : FVec F S8x128 .f32) : FVec F S16x8x128 .f32 :=
  tanh (mulf (mulf (shapeCast S16x8x128 z shapeCasts_S128x128_S16x8x128)
      (shapeCast S16x8x128 (shapeCast S128x128 ws shapeCasts_S1x128x128_S128x128) shapeCasts_S128x128_S16x8x128))
    (broadcastTo S16x8x128 (shapeCast S1x8x128 xs shapeCasts_S8x128_S1x8x128) broadcasts_S1x8x128_S16x8x128))

/-- One chunk folded into the statistics. -/
def fold (t : FVec F S16x8x128 .f32) (tc : FVec F S8x128 .f32) (lo hi : IVec S8x128 32) (r : Nat) (s : Stats F) : Stats F :=
  let u : FVec F S16x8x128 .f32 :=
    mulf t (broadcastTo S16x8x128 (shapeCast S1x8x128 tc shapeCasts_S8x128_S1x8x128) broadcasts_S1x8x128_S16x8x128)
  let m' : FVec F S8x128 .f32 :=
    maximumf s.m (multiReduction .maximumf [0] S8x128 u 0xFF800000#32 reduces_S16x8x128_S8x128 (.inl rfl) rfl)
  let d : FVec F S8x128 .f32 := subf s.m m'
  let a : FVec F S8x128 .f32 := exp2 d
  let w : FVec F S16x8x128 .f32 :=
    subf u (broadcastTo S16x8x128 (shapeCast S1x8x128 m' shapeCasts_S8x128_S1x8x128) broadcasts_S1x8x128_S16x8x128)
  let e : FVec F S16x8x128 .f32 := exp2 w
  let ew : FVec F S16x8x128 .f32 := mulf e w
  ⟨m',
   addf (mulf a s.s0) (multiReduction .add [0] S8x128 e 0x00000000#32 reduces_S16x8x128_S8x128 (.inl rfl) rfl),
   addf (mulf a (addf s.s1 (mulf d s.s0)))
     (multiReduction .add [0] S8x128 ew 0x00000000#32 reduces_S16x8x128_S8x128 (.inl rfl) rfl),
   addf (mulf a (addf s.s2 (mulf d (addf (mulf (broadcast S8x128 (Scalar.ofBits .f32 0x40000000#32)) s.s1) (mulf d s.s0)))))
     (multiReduction .add [0] S8x128 (mulf ew w) 0x00000000#32 reduces_S16x8x128_S8x128 (.inl rfl) rfl),
   upTo (pick t lo hi r) 16 (Nat.le_refl 16) s.tg⟩

/-! ## The epilogue -/

theorem inb_col9 {st : Nat} (h : st < 9) (c : Fin 4) :
    ∀ a, (![st, 0, 128 * c.val] : Fin 3 → Nat) a + S1x8x128.size a ≤ S9x8x512.size a := by
  intro a; fin_cases a <;> simp [S1x8x128, S9x8x512] <;> omega

theorem inb_col8 {ii : Nat} (h : ii < 8) (c : Fin 4) :
    ∀ a, (![ii, 0, 128 * c.val] : Fin 3 → Nat) a + S1x8x128.size a ≤ S8x8x512.size a := by
  intro a; fin_cases a <;> simp [S1x8x128, S8x8x512] <;> omega

theorem inb_acc (r : Fin 10) (c : Fin 4) :
    ∀ a, (![128 * r.val, 128 * c.val] : Fin 2 → Nat) a + S128x128.size a ≤ S1280x512.size a := by
  intro a; fin_cases a <;> simp [S128x128, S1280x512] <;> omega

theorem inb_wsb {k : Nat} (h : k < 2) (r : Fin 10) :
    ∀ a, (![k, 128 * r.val, 0] : Fin 3 → Nat) a + S1x128x128.size a ≤ S2x1280x128.size a := by
  intro a; fin_cases a <;> simp [S1x128x128, S2x1280x128] <;> omega

/-- The `8 × 128` strip of slot `st` at column chunk `c`, loaded. -/
def ldCol9 (b : Memref sig .tc .vmem S9x8x512 .f32) {st : Nat} (h : st < 9) (c : Fin 4) : P F (Vec F S1x8x128 .f32) :=
  Prog.lift (.load b (Rect.unit (s := S9x8x512) ![st, 0, 128 * c.val] S1x8x128.size (inb_col9 h c)).toLoadRect
    (View.loadsAt_vmem h_S1x8x128))

/-- And stored, after a load of the same strip that nothing reads. -/
def stCol9 (b : Memref sig .tc .vmem S9x8x512 .f32) {st : Nat} (h : st < 9) (c : Fin 4) (v : FVec F S8x128 .f32) : P F PUnit :=
  ldCol9 b h c >>= fun _ =>
  Prog.lift (.store b (Rect.unit (s := S9x8x512) ![st, 0, 128 * c.val] S1x8x128.size (inb_col9 h c))
    (shapeCast S1x8x128 v shapeCasts_S8x128_S1x8x128) Finset.univ (View.stores_vmem_bits_univ h_S1x8x128 rfl) (.inl rfl))

/-- A strip of block `ii` of an `8 × 8 × 512` buffer, loaded. -/
def ldCol8 {e : EltTy} (b : Memref sig .tc .vmem S8x8x512 e) {ii : Nat} (h : ii < 8) (c : Fin 4) : P F (Vec F S1x8x128 e) :=
  Prog.lift (.load b (Rect.unit (s := S8x8x512) ![ii, 0, 128 * c.val] S1x8x128.size (inb_col8 h c)).toLoadRect
    (View.loadsAt_vmem h_S1x8x128))

/-- One row chunk of the epilogue. -/
def epiRow (B : Bufs) (acc : Memref sig .tc .vmem S1280x512 .f32) {k : Nat} (hk : k < 2) (c : Fin 4)
    (xs tc : FVec F S8x128 .f32) (lo hi : IVec S8x128 32) (r : Fin 10) (s : Stats F) : P F (Stats F) :=
  (Prog.lift (.load acc (Rect.unit (s := S1280x512) ![128 * r.val, 128 * c.val] S128x128.size (inb_acc r c)).toLoadRect
    (View.loadsAt_vmem h_S128x128)) : P F (Vec F S128x128 .f32)) >>= fun z =>
  (Prog.lift (.load B.wsb (Rect.unit (s := S2x1280x128) ![k, 128 * r.val, 0] S1x128x128.size (inb_wsb hk r)).toLoadRect
    (View.loadsAt_vmem h_S1x128x128)) : P F (Vec F S1x128x128 .f32)) >>= fun ws =>
  pure (fold (score z ws xs) tc lo hi r.val s)

/-- One column chunk of the epilogue: block `ii` of vocabulary tile `jj`, its scores in `acc`, folded into slot `st`. -/
def epiCol (B : Bufs) (acc : Memref sig .tc .vmem S1280x512 .f32) (jj : BitVec 32) {ii st k : Nat}
    (hi8 : ii < 8) (hst : st < 9) (hk : k < 2) (c : Fin 4) (_ : PUnit) : P F PUnit :=
  ldCol8 B.xss hi8 c >>= fun vxs =>
  ldCol8 B.tcs hi8 c >>= fun vtc =>
  ldCol8 B.tgt hi8 c >>= fun vtg =>
  ldCol9 B.m hst c >>= fun vm =>
  ldCol9 B.s0 hst c >>= fun v0 =>
  ldCol9 B.s1 hst c >>= fun v1 =>
  ldCol9 B.s2 hst c >>= fun v2 =>
  ldCol9 B.tg hst c >>= fun vg =>
  let xs : FVec F S8x128 .f32 := shapeCast S8x128 vxs shapeCasts_S1x8x128_S8x128
  let tc : FVec F S8x128 .f32 := shapeCast S8x128 vtc shapeCasts_S1x8x128_S8x128
  let idx : IVec S8x128 32 := subi (shapeCast S8x128 vtg shapeCasts_S1x8x128_S8x128) (broadcast S8x128 (Scalar.muli jj 1280#32))
  let lo : IVec S8x128 32 := andi idx (broadcast S8x128 (7#32))
  let hi : IVec S8x128 32 := shrsi idx (broadcast S8x128 (3#32))
  runAll 10 (epiRow B acc hk c xs tc lo hi)
    ⟨shapeCast S8x128 vm shapeCasts_S1x8x128_S8x128, shapeCast S8x128 v0 shapeCasts_S1x8x128_S8x128,
      shapeCast S8x128 v1 shapeCasts_S1x8x128_S8x128, shapeCast S8x128 v2 shapeCasts_S1x8x128_S8x128,
      shapeCast S8x128 vg shapeCasts_S1x8x128_S8x128⟩ >>= fun s =>
  stCol9 B.m hst c s.m >>= fun _ =>
  stCol9 B.s0 hst c s.s0 >>= fun _ =>
  stCol9 B.s1 hst c s.s1 >>= fun _ =>
  stCol9 B.s2 hst c s.s2 >>= fun _ =>
  stCol9 B.tg hst c s.tg

/-- The epilogue: the four column chunks in turn. -/
def epilogue (B : Bufs) (acc : Memref sig .tc .vmem S1280x512 .f32) (jj : BitVec 32) {ii st k : Nat}
    (hi8 : ii < 8) (hst : st < 9) (hk : k < 2) : P F PUnit :=
  runAll 4 (epiCol B acc jj hi8 hst hk) ⟨⟩

/-! ## One pair of blocks -/

theorem inb_x {i : Nat} (h : i < 8) : ∀ a, (![i, 0, 0] : Fin 3 → Nat) a + S1x512x4096.size a ≤ S8x512x4096.size a := by
  intro a; fin_cases a <;> simp [S1x512x4096, S8x512x4096] <;> omega

/-- Block `i`'s scores against the vocabulary tile, into `acc`. -/
def gemm (B : Bufs) (acc : Memref sig .tc .vmem S1280x512 .f32) {i : Nat} (h : i < 8) : P F PUnit :=
  (Prog.lift (.load B.w (Rect.unit (s := S1280x4096) ![0, 0] S1280x4096.size inb_S1280x4096_S1280x4096_0_0).toLoadRect
    (View.loadsAt_vmem h_S1280x4096)) : P F (Vec F S1280x4096 .fp8e4m3)) >>= fun w =>
  (Prog.lift (.load B.x (Rect.unit (s := S8x512x4096) ![i, 0, 0] S1x512x4096.size (inb_x h)).toLoadRect
    (View.loadsAt_vmem h_S1x512x4096)) : P F (Vec F S1x512x4096 .fp8e4m3)) >>= fun x =>
  (Prog.lift (.load acc (Rect.unit (s := S1280x512) ![0, 0] S1280x512.size inb_S1280x512_S1280x512_0_0).toLoadRect
    (View.loadsAt_vmem h_S1280x512)) : P F (Vec F S1280x512 .f32)) >>= fun _ =>
  Prog.lift (.store acc (Rect.unit (s := S1280x512) ![0, 0] S1280x512.size inb_S1280x512_S1280x512_0_0)
    (shapeCast S1280x512 (matmul dot_S1280x4096_S512x4096_S1280x512_1_1_0_0_n_n none w
      (shapeCast S512x4096 x shapeCasts_S1x512x4096_S512x4096) (constant S1280x512 .f32 0x00000000#32)) shapeCasts_S1280x512_S1280x512)
    Finset.univ (View.stores_vmem_bits_univ h_S1280x512 rfl) (.inl rfl))

/-! ## The grid point's pieces -/

/-- The slot of the row scales the pair's first epilogue reads is in range, and so are the other indices. -/
theorem xLt (t : Fin k0_t1_loop.trips) : k0_off12 t 0 < 8 := by revert t; decide +kernel
theorem iiLt (t : Fin k0_t1_loop.trips) : k0_off13 t 0 < 8 := by revert t; decide +kernel
theorem stLt (i : grid0.Coords) (t : Fin k0_t1_loop.trips) : k0_off14 i t 0 < 9 := by revert i t; decide +kernel
theorem wLt (i : grid0.Coords) (t : Fin k0_t1_loop.trips) : k0_off15 i t 0 < 2 := by revert i t; decide +kernel
theorem xLt' (t : Fin k0_t1_loop.trips) : k0_off31 t 0 < 8 := by revert t; decide +kernel
theorem iiLt' (t : Fin k0_t1_loop.trips) : k0_off32 t 0 < 8 := by revert t; decide +kernel
theorem stLt' (t : Fin k0_t1_loop.trips) : k0_off33 t 0 < 9 := by revert t; decide +kernel
theorem wLt' (i : grid0.Coords) : k0_off34 i 0 < 2 := by revert i; decide +kernel
theorem slotLt (i : grid0.Coords) : k0_off2 i 0 < 2 := by revert i; decide +kernel

/-- The vocabulary tile the pair's first epilogue folds: the previous one at the first pair. -/
def tileOf (arg0 : BitVec 32) (t : Fin k0_t1_loop.trips) : BitVec 32 :=
  Scalar.select (Scalar.cmpi .eq (Scf.iv 0#32 1#32 t) 0#32) (Scalar.subi arg0 1#32) arg0

/-- One pair of blocks: each block's scores formed while the block before it is folded. -/
def pairBody (i : grid0.Coords) (B : Bufs) (t : Fin k0_t1_loop.trips) : P F PUnit :=
  gemm B B.accA (xLt t) >>= fun _ =>
  epilogue B B.accB (tileOf (BitVec.ofNat 32 (i 0).val) t) (iiLt t) (stLt i t) (wLt i t) >>= fun _ =>
  gemm B B.accB (xLt' t) >>= fun _ =>
  epilogue B B.accA (BitVec.ofNat 32 (i 0).val) (iiLt' t) (stLt' t) (wLt' i)

theorem inb_ws (i : grid0.Coords) (r : Fin 10) :
    ∀ a, (![k0_off1 i (BitVec.ofNat 32 (128 * r.val)) 0] : Fin 1 → Nat) a + S128.size a ≤ S32000.size a := by
  revert i r; decide +kernel

/-- One chunk of the tile's vocabulary scales, spread along the lanes. -/
def wsStep (i : grid0.Coords) (B : Bufs) (r : Fin 10) (_ : PUnit) : P F PUnit :=
  (Prog.lift (.load B.ws (Rect.unit (s := S32000) ![k0_off1 i (BitVec.ofNat 32 (128 * r.val)) 0] S128.size (inb_ws i r)).toLoadRect
    (View.loadsAt_vmem h_S128)) : P F (Vec F S128 .f32)) >>= fun v =>
  (Prog.lift (.load B.wsb (Rect.unit (s := S2x1280x128) ![k0_off2 i 0, 128 * r.val, 0] S1x128x128.size (inb_wsb (slotLt i) r)).toLoadRect
    (View.loadsAt_vmem h_S1x128x128)) : P F (Vec F S1x128x128 .f32)) >>= fun _ =>
  Prog.lift (.store B.wsb (Rect.unit (s := S2x1280x128) ![k0_off2 i 0, 128 * r.val, 0] S1x128x128.size (inb_wsb (slotLt i) r))
    (shapeCast S1x128x128 (transpose S128x128 [1, 0] (broadcastTo S128x128 (shapeCast S1x128 (shapeCast S1x128 v shapeCasts_S128_S1x128)
      shapeCasts_S1x128_S1x128) broadcasts_S1x128_S128x128) transposes_S128x128_p1_0_S128x128) shapeCasts_S128x128_S1x128x128)
    Finset.univ (View.stores_vmem_bits_univ h_S1x128x128 rfl) (.inl rfl))

/-- A whole nine-slot buffer set to one value. -/
def fill9 (b : Memref sig .tc .vmem S9x8x512 .f32) (v : BitVec 32) : P F PUnit :=
  (Prog.lift (.load b (Rect.unit (s := S9x8x512) ![0, 0, 0] S9x8x512.size inb_S9x8x512_S9x8x512_0_0_0).toLoadRect
    (View.loadsAt_vmem h_S9x8x512)) : P F (Vec F S9x8x512 .f32)) >>= fun _ =>
  Prog.lift (.store b (Rect.unit (s := S9x8x512) ![0, 0, 0] S9x8x512.size inb_S9x8x512_S9x8x512_0_0_0)
    (shapeCast S9x8x512 (broadcast S9x8x512 (Scalar.ofBits .f32 v : F .f32)) shapeCasts_S9x8x512_S9x8x512)
    Finset.univ (View.stores_vmem_bits_univ h_S9x8x512 rfl) (.inl rfl))

theorem inb_row8 (i : Fin 8) : ∀ a, (![i.val, 0] : Fin 2 → Nat) a + S1x512.size a ≤ S8x512.size a := by
  intro a; fin_cases a <;> simp [S1x512, S8x512] <;> omega
theorem inb_blk8 (i : Fin 8) : ∀ a, (![i.val, 0, 0] : Fin 3 → Nat) a + S1x8x512.size a ≤ S8x8x512.size a := by
  intro a; fin_cases a <;> simp [S1x8x512, S8x8x512] <;> omega
theorem inb_blk9 (i : Fin 8) : ∀ a, (![i.val, 0, 0] : Fin 3 → Nat) a + S1x8x512.size a ≤ S9x8x512.size a := by
  intro a; fin_cases a <;> simp [S1x8x512, S9x8x512] <;> omega

/-- Row `i` of an `8 × 512` buffer, loaded. -/
def ldRow (b : Memref sig .tc .vmem S8x512 .f32) (i : Fin 8) : P F (Vec F S1x512 .f32) :=
  Prog.lift (.load b (Rect.unit (s := S8x512) ![i.val, 0] S1x512.size (inb_row8 i)).toLoadRect (View.loadsAt_vmem h_S1x512))
/-- And stored. -/
def stRow (b : Memref sig .tc .vmem S8x512 .f32) (i : Fin 8) (v : FVec F S1x512 .f32) : P F PUnit :=
  ldRow b i >>= fun _ =>
  Prog.lift (.store b (Rect.unit (s := S8x512) ![i.val, 0] S1x512.size (inb_row8 i)) v
    Finset.univ (View.stores_vmem_bits_univ h_S1x512 rfl) (.inl rfl))
/-- Block `i` of an `8 × 8 × 512` buffer, stored. -/
def stBlk (b : Memref sig .tc .vmem S8x8x512 .f32) (i : Fin 8) (v : FVec F S8x512 .f32) : P F PUnit :=
  (Prog.lift (.load b (Rect.unit (s := S8x8x512) ![i.val, 0, 0] S1x8x512.size (inb_blk8 i)).toLoadRect
    (View.loadsAt_vmem h_S1x8x512)) : P F (Vec F S1x8x512 .f32)) >>= fun _ =>
  Prog.lift (.store b (Rect.unit (s := S8x8x512) ![i.val, 0, 0] S1x8x512.size (inb_blk8 i))
    (shapeCast S1x8x512 v shapeCasts_S8x512_S1x8x512)
    Finset.univ (View.stores_vmem_bits_univ h_S1x8x512 rfl) (.inl rfl))
/-- Slot `i` of a nine-slot buffer, loaded. -/
def ldSlot (b : Memref sig .tc .vmem S9x8x512 .f32) (i : Fin 8) : P F (Vec F S1x8x512 .f32) :=
  Prog.lift (.load b (Rect.unit (s := S9x8x512) ![i.val, 0, 0] S1x8x512.size (inb_blk9 i)).toLoadRect (View.loadsAt_vmem h_S1x8x512))

/-- The row scale over the cap, and the cap over the temperature in base two, spread along the sublanes. -/
def scaleStep (B : Bufs) (i : Fin 8) (_ : PUnit) : P F PUnit :=
  ldRow B.xs i >>= fun vx =>
  ldRow B.temp i >>= fun vt =>
  stBlk B.xss i (broadcastTo S8x512 (shapeCast S1x512 (mulf vx (broadcast S1x512 (Scalar.ofBits .f32 0x3D088889#32 : F .f32)))
    shapeCasts_S1x512_S1x512) broadcasts_S1x512_S8x512) >>= fun _ =>
  stBlk B.tcs i (broadcastTo S8x512 (shapeCast S1x512 (divf (broadcast S1x512 (Scalar.ofBits .f32 0x422D1F97#32 : F .f32)) vt)
    shapeCasts_S1x512_S1x512) broadcasts_S1x512_S8x512)

/-- The first grid point's preparation. -/
def initBody (B : Bufs) : P F PUnit :=
  fill9 B.m 0xDD5E0B6B#32 >>= fun _ =>
  fill9 B.s0 0x00000000#32 >>= fun _ =>
  fill9 B.s1 0x00000000#32 >>= fun _ =>
  fill9 B.s2 0x00000000#32 >>= fun _ =>
  fill9 B.tg 0x00000000#32 >>= fun _ =>
  (Prog.lift (.load B.wsb (Rect.unit (s := S2x1280x128) ![0, 0, 0] S2x1280x128.size inb_S2x1280x128_S2x1280x128_0_0_0).toLoadRect
    (View.loadsAt_vmem h_S2x1280x128)) : P F (Vec F S2x1280x128 .f32)) >>= fun _ =>
  (Prog.lift (.store B.wsb (Rect.unit (s := S2x1280x128) ![0, 0, 0] S2x1280x128.size inb_S2x1280x128_S2x1280x128_0_0_0)
    (shapeCast S2x1280x128 (broadcast S2x1280x128 (Scalar.ofBits .f32 0x00000000#32 : F .f32)) shapeCasts_S2x1280x128_S2x1280x128)
    Finset.univ (View.stores_vmem_bits_univ h_S2x1280x128 rfl) (.inl rfl)) : P F PUnit) >>= fun _ =>
  (Prog.lift (.load B.accB (Rect.unit (s := S1280x512) ![0, 0] S1280x512.size inb_S1280x512_S1280x512_0_0).toLoadRect
    (View.loadsAt_vmem h_S1280x512)) : P F (Vec F S1280x512 .f32)) >>= fun _ =>
  (Prog.lift (.store B.accB (Rect.unit (s := S1280x512) ![0, 0] S1280x512.size inb_S1280x512_S1280x512_0_0)
    (shapeCast S1280x512 (broadcast S1280x512 (Scalar.ofBits .f32 0x00000000#32 : F .f32)) shapeCasts_S1280x512_S1280x512)
    Finset.univ (View.stores_vmem_bits_univ h_S1280x512 rfl) (.inl rfl)) : P F PUnit) >>= fun _ =>
  runAll 8 (scaleStep B) ⟨⟩

/-- Block `i`'s eight sublanes' statistics combined, and its three results stored. -/
def finStep (B : Bufs) (i : Fin 8) (_ : PUnit) : P F PUnit :=
  ldSlot B.m i >>= fun vm =>
  ldSlot B.s0 i >>= fun v0 =>
  ldSlot B.s1 i >>= fun v1 =>
  ldSlot B.s2 i >>= fun v2 =>
  let m : FVec F S8x512 .f32 := shapeCast S8x512 vm shapeCasts_S1x8x512_S8x512
  let s0 : FVec F S8x512 .f32 := shapeCast S8x512 v0 shapeCasts_S1x8x512_S8x512
  let s1 : FVec F S8x512 .f32 := shapeCast S8x512 v1 shapeCasts_S1x8x512_S8x512
  let s2 : FVec F S8x512 .f32 := shapeCast S8x512 v2 shapeCasts_S1x8x512_S8x512
  let mx : FVec F S1x512 .f32 := shapeCast S1x512
    (multiReduction .maximumf [0] S512 m 0xFF800000#32 reduces_S8x512_S512 (.inl rfl) rfl) shapeCasts_S512_S1x512
  let d : FVec F S8x512 .f32 := subf m (broadcastTo S8x512 mx broadcasts_S1x512_S8x512)
  let a : FVec F S8x512 .f32 := exp2 d
  let t2 : FVec F S8x512 .f32 :=
    mulf a (addf s2 (mulf d (addf (mulf (broadcast S8x512 (Scalar.ofBits .f32 0x40000000#32 : F .f32)) s1) (mulf d s0))))
  let t1 : FVec F S8x512 .f32 := mulf a (addf s1 (mulf d s0))
  let t0 : FVec F S8x512 .f32 := mulf a s0
  let r0 : FVec F S1x512 .f32 := shapeCast S1x512
    (multiReduction .add [0] S512 t0 0x00000000#32 reduces_S8x512_S512 (.inl rfl) rfl) shapeCasts_S512_S1x512
  let r1 : FVec F S1x512 .f32 := shapeCast S1x512
    (multiReduction .add [0] S512 t1 0x00000000#32 reduces_S8x512_S512 (.inl rfl) rfl) shapeCasts_S512_S1x512
  let r2 : FVec F S1x512 .f32 := shapeCast S1x512
    (multiReduction .add [0] S512 t2 0x00000000#32 reduces_S8x512_S512 (.inl rfl) rfl) shapeCasts_S512_S1x512
  let ls : FVec F S1x512 .f32 := log r0
  let mean : FVec F S1x512 .f32 := divf r1 r0
  stRow B.ent i (subf ls (mulf (broadcast S1x512 (Scalar.ofBits .f32 0x3F317218#32 : F .f32)) mean)) >>= fun _ =>
  stRow B.var i (mulf (broadcast S1x512 (Scalar.ofBits .f32 0x3EF5FDF0#32 : F .f32)) (subf (divf r2 r0) (mulf mean mean))) >>= fun _ =>
  ldSlot B.tg i >>= fun vg =>
  ldRow B.temp i >>= fun vt =>
  stBlk B.lp i (subf (subf (mulf (shapeCast S8x512 vg shapeCasts_S1x8x512_S8x512)
      (broadcastTo S8x512 (divf (broadcast S1x512 (Scalar.ofBits .f32 0x41F00000#32 : F .f32)) vt) broadcasts_S1x512_S8x512))
      (broadcastTo S8x512 (mulf (broadcast S1x512 (Scalar.ofBits .f32 0x3F317218#32 : F .f32)) mx) broadcasts_S1x512_S8x512))
    (broadcastTo S8x512 ls broadcasts_S1x512_S8x512))

/-- The last grid point's end: the last block of the last tile folded, then the results. -/
def finBody (i : grid0.Coords) (B : Bufs) : P F PUnit :=
  epilogue B B.accB (BitVec.ofNat 32 (i 0).val) (ii := 7) (st := 7) (by decide) (by decide) (wLt' i) >>= fun _ =>
  runAll 8 (finStep B) ⟨⟩

/-- The kernel body at grid point `i`. -/
def body (i : grid0.Coords) (B : Bufs) : P F PUnit := do
  if _h : Scalar.cmpi .ne (Scalar.extui (Scalar.cmpi .eq (BitVec.ofNat 32 (i 0).val) 0#32) : BitVec 32) 0#32 = 1#1 then do
    initBody B
  else do
    pure ⟨⟩
  runAll 10 (wsStep i B) ⟨⟩
  Scf.Loop.for k0_t1_loop k0_t1_ok ⟨⟩ fun t _ => pairBody i B t
  if _h : k0_cond2 i = 1#1 then do
    finBody i B
  else do
    pure ⟨⟩
  pure ⟨⟩

end Cert.Kernel.Body

end
-- ==== Proof.Twin.State.lean ====
module

public import proofs.«01_k».proof.Proof.Twin.Body
public import proofs.«01_k».proof.Proof.Gen.Kernel.Frame

@[expose] public section

/-!
# Running the body on the contents of its buffers

The body's nineteen buffers are named, `St` gives each its contents, and `W` says that a program, started with the
buffers at `σ`, ends with a result and contents that meet a predicate. The rules below take a program apart; nothing
after this file speaks of ownership until the launch.
-/

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

/-- The buffers' names. -/
inductive Nm where
  | x | xs | w | ws | tgt | temp | ent | var | lp | accA | accB | wsb | xss | tcs | m | s0 | s1 | s2 | tg
  deriving DecidableEq

instance : Fintype Nm :=
  ⟨{.x, .xs, .w, .ws, .tgt, .temp, .ent, .var, .lp, .accA, .accB, .wsb, .xss, .tcs, .m, .s0, .s1, .s2, .tg},
    by intro n; cases n <;> decide⟩

/-- Each buffer's shape. -/
abbrev Nm.sh : Nm → Shape
  | .x => S8x512x4096 | .xs => S8x512 | .w => S1280x4096 | .ws => S32000 | .tgt => S8x8x512 | .temp => S8x512
  | .ent => S8x512 | .var => S8x512 | .lp => S8x8x512 | .accA => S1280x512 | .accB => S1280x512 | .wsb => S2x1280x128
  | .xss => S8x8x512 | .tcs => S8x8x512 | .m => S9x8x512 | .s0 => S9x8x512 | .s1 => S9x8x512 | .s2 => S9x8x512
  | .tg => S9x8x512

/-- Each buffer's element type. -/
abbrev Nm.el : Nm → EltTy
  | .x => .fp8e4m3 | .w => .fp8e4m3 | .tgt => .i32 | _ => .f32

/-- The buffer of a name. -/
abbrev Bufs.at (B : Bufs) : (n : Nm) → Memref sig .tc .vmem n.sh n.el
  | .x => B.x | .xs => B.xs | .w => B.w | .ws => B.ws | .tgt => B.tgt | .temp => B.temp
  | .ent => B.ent | .var => B.var | .lp => B.lp | .accA => B.accA | .accB => B.accB | .wsb => B.wsb
  | .xss => B.xss | .tcs => B.tcs | .m => B.m | .s0 => B.s0 | .s1 => B.s1 | .s2 => B.s2 | .tg => B.tg

/-- The contents of the buffers. -/
abbrev St (F : FTy → Type) := (n : Nm) → n.sh.Idx → Elt F n.el

/-- Contents with one buffer's replaced. -/
def St.set (σ : St F) (n : Nm) (X : n.sh.Idx → Elt F n.el) : St F := Function.update σ n X

omit [FloatOps F] in
theorem St.set_same (σ : St F) (n : Nm) (X : n.sh.Idx → Elt F n.el) : σ.set n X n = X := Function.update_self ..
omit [FloatOps F] in
theorem St.set_ne (σ : St F) {n n' : Nm} (h : n' ≠ n) (X : n.sh.Idx → Elt F n.el) : σ.set n X n' = σ n' :=
  Function.update_of_ne h ..

/-- Core `c` owns the buffers, at the contents `σ`. -/
def Own (c : Dev nD) (B : Bufs) (σ : St F) : sProp 𝕄 :=
  bigSep Finset.univ fun n : Nm => owns (c : Thread nD τ) (B.at n) fullShare (σ n)

/-- Started with the buffers at `σ`, the program ends with a result and contents that meet `Q`. -/
def W (c : Dev nD) (B : Bufs) {α : Type} (p : P F α) (σ : St F) (Q : α → St F → Prop) : Prop :=
  Own c B σ ⊢ wp frame (wpE defs₀ Variants.none (c : Thread nD τ) none) Set.univ p
    (fun a => iprop(∃ σ', ⌜Q a σ'⌝ ∗ Own c B σ'))

variable {c : Dev nD} {B : Bufs}

omit [FloatOps F] in
/-- One buffer taken out of the rest. -/
theorem Own_split (n : Nm) (σ : St F) :
    Own c B σ = iprop((∃ f, ⌜(B.at n).view.read (Elt F) f = σ n⌝ ∗ ((B.at n).view.loc (c : Thread nD τ) ↦[(B.at n).view.set]{fullShare} f))
      ∗ bigSep (Finset.univ.erase n) fun n' : Nm => owns (c : Thread nD τ) (B.at n') fullShare (σ n')) :=
  bigSep_univ_split n

theorem W.pure {α : Type} {a : α} {σ : St F} {Q : α → St F → Prop} (h : Q a σ) : W c B (Pure.pure a) σ Q := by
  unfold W; rw [wp_pure]
  iintro H; imodintro; iexists σ; isplitr
  · ipureintro; exact h
  · iexact H

theorem W.mono {α : Type} {p : P F α} {σ : St F} {Q Q' : α → St F → Prop} (h : W c B p σ Q)
    (hQ : ∀ a σ', Q a σ' → Q' a σ') : W c B p σ Q' :=
  BIBase.Entails.trans h (wp_mono _ _ _ fun a => by
    iintro ⟨%σ', %hq, H⟩; iexists σ'; isplitr
    · ipureintro; exact hQ _ _ hq
    · iexact H)

theorem W.bind {α β : Type} {p : P F α} {k : α → P F β} {σ : St F} {Q : β → St F → Prop}
    (h : W c B p σ fun a σ' => W c B (k a) σ' Q) : W c B (p >>= k) σ Q := by
  unfold W; rw [wp_bind]
  refine BIBase.Entails.trans h (wp_mono _ _ _ fun a => ?_)
  iintro ⟨%σ', %hq, H⟩
  ihave H := (show Own c B σ' ⊢ _ from hq) $$ H
  iexact H

/-- A load through a rectangle of the buffer `n` hands on what the contents hold there. -/
theorem W.load (n : Nm) {r : Rect n.sh} {hl : (B.at n).view.LoadsAt r} {σ : St F}
    {Q : (r.shape.Idx → Elt F n.el) → St F → Prop} (h : Q (fun j => σ n (r.emb j)) σ) :
    W c B (Prog.lift (.load (B.at n) r.toLoadRect hl)) σ Q := by
  unfold W
  rw [Own_split n]
  iintro ⟨⟨%f, %hf, Hn⟩, Hr⟩
  iapply (wp_load_rect (defs := defs₀) Variants.none (c : Thread nD τ) none Set.univ (m := B.at n) (r := r) (hl := hl) (q := fullShare) (f := f)
    (k := Prog.ret) (S := (B.at n).view.set) ((B.at n).view.set_slice_subset r)) $$ Hn
  iintro Hn
  rw [wp_ret]
  imodintro
  iexists σ
  isplitr
  · ipureintro
    have : ((B.at n).access r).read (Elt F) f = fun j => σ n (r.emb j) := by
      rw [← hf]; rfl
    rw [this]; exact h
  · rw [Own_split n]
    isplitl [Hn]
    · iexists f; isplitr
      · ipureintro; exact hf
      · iexact Hn
    · iexact Hr

/-- A store through a rectangle of the buffer `n` replaces its contents there. -/
theorem W.store (n : Nm) {r : Rect n.sh} {w : r.shape.Idx → Elt F n.el} {hx : ((B.at n).access r).Stores Finset.univ}
    {hm : (Finset.univ : Finset r.shape.Idx) = Finset.univ ∨ ∀ a, r.stride a = 1} {σ : St F}
    {Q : PUnit → St F → Prop} (h : Q ⟨⟩ (σ.set n (r.overlay (σ n) w))) :
    W c B (Prog.lift (.store (B.at n) r w Finset.univ hx hm)) σ Q := by
  unfold W
  rw [Own_split n]
  iintro ⟨⟨%f, %hf, Hn⟩, Hr⟩
  iapply (wp_store (defs := defs₀) Variants.none (c : Thread nD τ) none Set.univ (m := B.at n) (r := r) (w := w) (hx := hx) (hm := hm) (f := f)
    (k := Prog.ret) (S := (B.at n).view.set) ((B.at n).setOn_access_subset r _)) $$ Hn
  iintro Hn
  rw [wp_ret]
  imodintro
  iexists σ.set n (r.overlay (σ n) w)
  isplitr
  · ipureintro; exact h
  · rw [Own_split n]
    isplitl [Hn]
    · iexists _; isplitr; swap
      · iexact Hn
      · ipureintro
        rw [St.set_same]
        rw [← hf]
        funext j
        by_cases hj : j ∈ r.set
        · obtain ⟨i, rfl⟩ := r.exists_idx_of_mem hj
          change _ = r.overlay _ w (r.emb i)
          rw [Rect.overlay_emb]
          exact View.read_writes_cons_emb (B.at n).view f r w [] i
        · rw [Rect.overlay_of_not_mem _ _ _ hj]
          exact View.read_writes_cons_miss (B.at n).view f ⟨r, w⟩ [] j hj
    · rw [bigSep_congr (s := Finset.univ.erase n) (Φ := fun n' => owns (c : Thread nD τ) (B.at n') fullShare (σ.set n (r.overlay (σ n) w) n'))
        (Ψ := fun n' => owns (c : Thread nD τ) (B.at n') fullShare (σ n'))
        (fun n' hn' => by rw [St.set_ne _ (Finset.ne_of_mem_erase hn')])]
      iexact Hr

/-- Programs run in turn: an invariant that each carries to the next. -/
theorem W.runAll {α : Type} {N : Nat} {f : Fin N → α → P F α} (I : Nat → α → St F → Prop) {a : α} {σ : St F}
    {Q : α → St F → Prop} (h0 : I 0 a σ)
    (hstep : ∀ (i : Fin N) (b : α) (σ' : St F), I i.val b σ' → W c B (f i b) σ' (I (i.val + 1)))
    (hQ : ∀ b σ', I N b σ' → Q b σ') : W c B (runAll N f a) σ Q := by
  unfold Body.runAll
  suffices H : ∀ (k i : Nat) (h : i + k ≤ N) (b : α) (σ' : St F), i + k = N → I i b σ' → W c B (runFrom f k i h b) σ' Q from
    H N 0 _ a σ (by omega) h0
  intro k
  induction k with
  | zero => intro i h b σ' hk hI; obtain rfl : i = N := by omega
            exact W.pure (hQ _ _ hI)
  | succ k ih => intro i h b σ' hk hI
                 exact W.bind ((hstep ⟨i, by omega⟩ b σ' hI).mono fun b' σ'' h' => ih (i + 1) (by omega) b' σ'' (by omega) h')

/-- A counted loop: an invariant that each trip carries to the next. -/
theorem W.for {w : Nat} {α : Type} {l : Scf.Loop w} {hok : l.OK} {f : Fin l.trips → α → P F α} (I : Nat → α → St F → Prop)
    {a : α} {σ : St F} {Q : α → St F → Prop} (h0 : I 0 a σ)
    (hstep : ∀ (i : Fin l.trips) (b : α) (σ' : St F), I i.val b σ' → W c B (f i b) σ' (I (i.val + 1)))
    (hQ : ∀ b σ', I l.trips b σ' → Q b σ') : W c B (Scf.Loop.for l hok a f) σ Q := by
  unfold W
  iintro H
  iapply (Scf.wp_for _ _ _ l.lb l.ub l.st hok a f (fun k b => iprop(∃ σ', ⌜I k b σ'⌝ ∗ Own c B σ')) (fun k b => by
    iintro ⟨%σ', %hI, H⟩
    ihave H := (show Own c B σ' ⊢ _ from hstep k b σ' hI) $$ H
    iexact H))
  isplitl [H]
  · iexists σ; isplitr
    · ipureintro; exact h0
    · iexact H
  · iintro %b
    iintro ⟨%σ', %hI, H⟩
    iexists σ'; isplitr
    · ipureintro; exact hQ _ _ hI
    · iexact H

/-! ## Programs that leave the inputs alone -/

/-- The buffers the body only reads. -/
def Nm.isIn : Nm → Bool
  | .x => true | .xs => true | .w => true | .ws => true | .tgt => true | .temp => true | _ => false

/-- The program runs from any contents and leaves the inputs as they were. -/
def Fr (c : Dev nD) (B : Bufs) {α : Type} (p : P F α) : Prop :=
  ∀ σ : St F, W c B p σ fun _ σ' => ∀ n : Nm, n.isIn = true → σ' n = σ n

theorem Fr.pure {α : Type} (a : α) : Fr (F := F) c B (Pure.pure a) := fun _ => W.pure fun _ _ => rfl

theorem Fr.bind {α β : Type} {p : P F α} {k : α → P F β} (hp : Fr c B p) (hk : ∀ a, Fr c B (k a)) : Fr c B (p >>= k) :=
  fun σ => W.bind ((hp σ).mono fun a σ' h => (hk a σ').mono fun _ _ h' n hn => (h' n hn).trans (h n hn))

theorem Fr.load (n : Nm) {r : Rect n.sh} {hl : (B.at n).view.LoadsAt r} :
    Fr (F := F) c B (Prog.lift (.load (B.at n) r.toLoadRect hl)) := fun _ => W.load n fun _ _ => rfl

theorem Fr.store (n : Nm) (hn : n.isIn = false) {r : Rect n.sh} {w : r.shape.Idx → Elt F n.el}
    {hx : ((B.at n).access r).Stores Finset.univ} {hm : (Finset.univ : Finset r.shape.Idx) = Finset.univ ∨ ∀ a, r.stride a = 1} :
    Fr c B (Prog.lift (.store (B.at n) r w Finset.univ hx hm)) := fun _ => W.store n fun n' hn' =>
  St.set_ne _ (by rintro rfl; rw [hn] at hn'; exact Bool.noConfusion hn') _

theorem Fr.runAll {α : Type} {N : Nat} {f : Fin N → α → P F α} (h : ∀ i b, Fr c B (f i b)) (a : α) : Fr c B (runAll N f a) :=
  fun σ => W.runAll (fun _ _ σ' => ∀ n : Nm, n.isIn = true → σ' n = σ n) (fun _ _ => rfl)
    (fun i b σ' hI => (h i b σ').mono fun _ _ h' n hn => (h' n hn).trans (hI n hn)) fun _ _ h => h

theorem Fr.for {w : Nat} {α : Type} {l : Scf.Loop w} {hok : l.OK} {f : Fin l.trips → α → P F α} (h : ∀ i b, Fr c B (f i b)) (a : α) :
    Fr c B (Scf.Loop.for l hok a f) :=
  fun σ => W.for (fun _ _ σ' => ∀ n : Nm, n.isIn = true → σ' n = σ n) (fun _ _ => rfl)
    (fun i b σ' hI => (h i b σ').mono fun _ _ h' n hn => (h' n hn).trans (hI n hn)) fun _ _ h => h

end Cert.Kernel.Body

end
-- ==== Proof.Twin.Inputs.lean ====
module

public import proofs.«01_k».proof.Proof.Twin.State

@[expose] public section

/-!
# The body leaves its inputs alone
-/

noncomputable section

namespace Cert.Kernel.Body

open Idealize.ShloMosaic Idealize.SL.Sem
open Cert.Kernel Cert.Kernel.Facts₀ Cert.Kernel.Facts Cert.Kernel.Gen

variable {F : FTy → Type} [FloatOps F]
variable {c : Dev nD} {B : Bufs}

theorem fr_epilogue_m {st : Nat} (h : st < 9) (k : Fin 4) (v : FVec F S8x128 .f32) : Fr c B (stCol9 B.m h k v) :=
  Fr.bind (Fr.load .m) fun _ => Fr.store .m rfl
theorem fr_epilogue_s0 {st : Nat} (h : st < 9) (k : Fin 4) (v : FVec F S8x128 .f32) : Fr c B (stCol9 B.s0 h k v) :=
  Fr.bind (Fr.load .s0) fun _ => Fr.store .s0 rfl
theorem fr_epilogue_s1 {st : Nat} (h : st < 9) (k : Fin 4) (v : FVec F S8x128 .f32) : Fr c B (stCol9 B.s1 h k v) :=
  Fr.bind (Fr.load .s1) fun _ => Fr.store .s1 rfl
theorem fr_epilogue_s2 {st : Nat} (h : st < 9) (k : Fin 4) (v : FVec F S8x128 .f32) : Fr c B (stCol9 B.s2 h k v) :=
  Fr.bind (Fr.load .s2) fun _ => Fr.store .s2 rfl
theorem fr_epilogue_tg {st : Nat} (h : st < 9) (k : Fin 4) (v : FVec F S8x128 .f32) : Fr c B (stCol9 B.tg h k v) :=
  Fr.bind (Fr.load .tg) fun _ => Fr.store .tg rfl

/-- The two accumulators. -/
abbrev Bufs.acc (B : Bufs) (a : Bool) : Memref sig .tc .vmem S1280x512 .f32 := if a then B.accA else B.accB

theorem fr_epiRow (a : Bool) {k : Nat} (hk : k < 2) (q : Fin 4) (xs tc : FVec F S8x128 .f32) (lo hi : IVec S8x128 32) (r : Fin 10)
    (s : Stats F) : Fr c B (epiRow B (B.acc a) hk q xs tc lo hi r s) := by
  cases a
  · exact Fr.bind (Fr.load .accB) fun _ => Fr.bind (Fr.load .wsb) fun _ => Fr.pure _
  · exact Fr.bind (Fr.load .accA) fun _ => Fr.bind (Fr.load .wsb) fun _ => Fr.pure _

theorem fr_epilogue (a : Bool) (jj : BitVec 32) {ii st k : Nat} (hi8 : ii < 8) (hst : st < 9) (hk : k < 2) :
    Fr (F := F) c B (epilogue B (B.acc a) jj hi8 hst hk) :=
  Fr.runAll (fun q _ =>
    Fr.bind (Fr.load .xss) fun _ => Fr.bind (Fr.load .tcs) fun _ => Fr.bind (Fr.load .tgt) fun _ =>
    Fr.bind (Fr.load .m) fun _ => Fr.bind (Fr.load .s0) fun _ => Fr.bind (Fr.load .s1) fun _ => Fr.bind (Fr.load .s2) fun _ =>
    Fr.bind (Fr.load .tg) fun _ =>
    Fr.bind (Fr.runAll (fun r s => fr_epiRow a hk q _ _ _ _ r s) _) fun s =>
    Fr.bind (fr_epilogue_m hst q s.m) fun _ => Fr.bind (fr_epilogue_s0 hst q s.s0) fun _ =>
    Fr.bind (fr_epilogue_s1 hst q s.s1) fun _ => Fr.bind (fr_epilogue_s2 hst q s.s2) fun _ => fr_epilogue_tg hst q s.tg) _

theorem fr_gemm (a : Bool) {i : Nat} (h : i < 8) : Fr (F := F) c B (gemm B (B.acc a) h) := by
  cases a
  · exact Fr.bind (Fr.load .w) fun _ => Fr.bind (Fr.load .x) fun _ => Fr.bind (Fr.load .accB) fun _ => Fr.store .accB rfl
  · exact Fr.bind (Fr.load .w) fun _ => Fr.bind (Fr.load .x) fun _ => Fr.bind (Fr.load .accA) fun _ => Fr.store .accA rfl

theorem fr_pairBody (i : grid0.Coords) (t : Fin k0_t1_loop.trips) : Fr (F := F) c B (pairBody i B t) :=
  Fr.bind (fr_gemm true (xLt t)) fun _ => Fr.bind (fr_epilogue false _ (iiLt t) (stLt i t) (wLt i t)) fun _ =>
  Fr.bind (fr_gemm false (xLt' t)) fun _ => fr_epilogue true _ (iiLt' t) (stLt' t) (wLt' i)

theorem fr_wsStep (i : grid0.Coords) (r : Fin 10) (u : PUnit) : Fr (F := F) c B (wsStep i B r u) :=
  Fr.bind (Fr.load .ws) fun _ => Fr.bind (Fr.load .wsb) fun _ => Fr.store .wsb rfl

theorem fr_scaleStep (i : Fin 8) (u : PUnit) : Fr (F := F) c B (scaleStep B i u) :=
  Fr.bind (Fr.load .xs) fun _ => Fr.bind (Fr.load .temp) fun _ =>
  Fr.bind (Fr.bind (Fr.load .xss) fun _ => Fr.store .xss rfl) fun _ => Fr.bind (Fr.load .tcs) fun _ => Fr.store .tcs rfl

theorem fr_initBody : Fr (F := F) c B (initBody (F := F) B) :=
  Fr.bind (Fr.bind (Fr.load .m) fun _ => Fr.store .m rfl) fun _ =>
  Fr.bind (Fr.bind (Fr.load .s0) fun _ => Fr.store .s0 rfl) fun _ =>
  Fr.bind (Fr.bind (Fr.load .s1) fun _ => Fr.store .s1 rfl) fun _ =>
  Fr.bind (Fr.bind (Fr.load .s2) fun _ => Fr.store .s2 rfl) fun _ =>
  Fr.bind (Fr.bind (Fr.load .tg) fun _ => Fr.store .tg rfl) fun _ =>
  Fr.bind (Fr.load .wsb) fun _ => Fr.bind (Fr.store .wsb rfl) fun _ =>
  Fr.bind (Fr.load .accB) fun _ => Fr.bind (Fr.store .accB rfl) fun _ =>
  Fr.runAll (fun i u => fr_scaleStep i u) _

theorem fr_finStep (i : Fin 8) (u : PUnit) : Fr (F := F) c B (finStep B i u) :=
  Fr.bind (Fr.load .m) fun _ => Fr.bind (Fr.load .s0) fun _ => Fr.bind (Fr.load .s1) fun _ => Fr.bind (Fr.load .s2) fun _ =>
  Fr.bind (Fr.bind (Fr.load .ent) fun _ => Fr.store .ent rfl) fun _ =>
  Fr.bind (Fr.bind (Fr.load .var) fun _ => Fr.store .var rfl) fun _ =>
  Fr.bind (Fr.load .tg) fun _ => Fr.bind (Fr.load .temp) fun _ =>
  Fr.bind (Fr.load .lp) fun _ => Fr.store .lp rfl

theorem fr_finBody (i : grid0.Coords) : Fr (F := F) c B (finBody i B) :=
  Fr.bind (fr_epilogue false _ _ _ (wLt' i)) fun _ => Fr.runAll (fun i u => fr_finStep i u) _

/-- What the body does after its first point's preparation. -/
theorem fr_rest (i : grid0.Coords) :
    Fr (F := F) c B (runAll 10 (wsStep i B) PUnit.unit >>= fun _ =>
      Scf.Loop.for k0_t1_loop Gen.k0_t1_ok PUnit.unit (fun t _ => pairBody i B t) >>= fun _ =>
      if _h : k0_cond2 i = 1#1 then finBody i B >>= fun _ => Pure.pure PUnit.unit else Pure.pure PUnit.unit) :=
  Fr.bind (Fr.runAll (fun r u => fr_wsStep i r u) _) fun _ => Fr.bind (Fr.for (fun t _ => fr_pairBody i t) _) fun _ => by
    split
    · exact Fr.bind (fr_finBody i) fun _ => Fr.pure _
    · exact Fr.pure _

/-- The body, from any contents, leaves its inputs as they were. -/
theorem fr_body (i : grid0.Coords) : Fr (F := F) c B (body i B) := by
  unfold body
  extract_lets jp
  split
  · exact Fr.bind fr_initBody fun _ => fr_rest i
  · exact fr_rest i

end Cert.Kernel.Body

end
-- ==== Proof.Twin.Printed.lean ====
module

public import proofs.«01_k».proof.Proof.Twin.Body

/-! # The printed body, as the short program

The printed kernel writes every statement of the unrolled loops out.  Both programs are the same tree of
loads and stores.  `run` and `run'` are two names for walking such a tree from its root; comparing the walk of one
program with the walk of the other goes step by step, which is how the equations below are checked. -/

@[expose] public section

open Idealize.ShloMosaic Idealize.SL.Sem

namespace Cert.Kernel.Body

open Cert.Kernel Cert.Kernel.Facts₀ Cert.Kernel.Facts

variable {F : FTy → Type} [FloatOps F]

set_option maxRecDepth 65536
set_option maxHeartbeats 0

/-- A program rebuilt from its root. -/
def run {α : Type} : P F α → P F α
  | .ret a => .ret a
  | .op e k => .op e (fun x => run (k x))
/-- The same, under another name. -/
def run' {α : Type} : P F α → P F α
  | .ret a => .ret a
  | .op e k => .op e (fun x => run' (k x))
theorem run_eq {α : Type} (p : P F α) : run p = p := by
  induction p with
  | ret a => rfl
  | op e k ih => exact congrArg (Prog.op e) (funext ih)
theorem run'_eq {α : Type} (p : P F α) : run' p = p := by
  induction p with
  | ret a => rfl
  | op e k ih => exact congrArg (Prog.op e) (funext ih)
/-- Two programs whose walks agree are equal. -/
theorem eq_of_run {α : Type} {p q : P F α} (h : run p = run' q) : p = q :=
  (run_eq p).symm.trans (h.trans (run'_eq q))

/-- The loop's printed region, over the values it takes from the statements before it. -/
noncomputable def loopText (i : grid0.Coords) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) (arg0 v3 c0_i32_21 c1_i32 : BitVec 32) (k0_t1 : Fin k0_t1_loop.trips) : P F PUnit := do
    let ⟨v138, v141, v143, v146, v156, v2700, v2703, v2711, v2713, v2952, v2972, v2974, v2977, v2988, v3014, v3024, v3026⟩ : Σ' (v138 : BitVec 32) (v141 : BitVec 32) (v143 : BitVec 32) (v146 : BitVec 32) (v156 : BitVec 32) (v2700 : FVec F S8x128 .f32) (v2703 : FVec F S8x128 .f32) (v2711 : IVec S8x128 32) (v2713 : IVec S8x128 32) (v2952 : FVec F S8x128 .f32) (v2972 : FVec F S8x128 .f32) (v2974 : FVec F S8x128 .f32) (v2977 : FVec F S8x128 .f32) (v2988 : FVec F S16x8x128 .f32) (v3014 : FVec F S8x128 .f32) (v3024 : FVec F S8x128 .f32), IVec S8x128 1 ← k0_part426 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 c0_i32_21 c1_i32 k0_t1
    let ⟨v5241, v5244, v5252, v5254, v5742, v5762, v5764, v5767, v5778, v5934, v5936, v5937⟩ : Σ' (v5241 : FVec F S8x128 .f32) (v5244 : FVec F S8x128 .f32) (v5252 : IVec S8x128 32) (v5254 : IVec S8x128 32) (v5742 : FVec F S8x128 .f32) (v5762 : FVec F S8x128 .f32) (v5764 : FVec F S8x128 .f32) (v5767 : FVec F S8x128 .f32) (v5778 : FVec F S16x8x128 .f32) (v5934 : FVec F S8x128 .f32) (v5936 : FVec F S8x128 .f32), IVec S8x128 32 ← k0_part427 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v141 v143 v146 v156 v2700 v2703 v2711 v2713 v2952 v2972 v2974 v2977 v2988 v3014 v3024 v3026
    let ⟨v7782, v7785, v7793, v7795, v8781, v8801, v8803, v8806, v8817, v8843, v8845, v8847, v8848⟩ : Σ' (v7782 : FVec F S8x128 .f32) (v7785 : FVec F S8x128 .f32) (v7793 : IVec S8x128 32) (v7795 : IVec S8x128 32) (v8781 : FVec F S8x128 .f32) (v8801 : FVec F S8x128 .f32) (v8803 : FVec F S8x128 .f32) (v8806 : FVec F S8x128 .f32) (v8817 : FVec F S16x8x128 .f32) (v8843 : FVec F S8x128 .f32) (v8845 : FVec F S8x128 .f32) (v8847 : IVec S8x128 1), IVec S8x128 32 ← k0_part428 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t1 v141 v143 v146 v156 v5241 v5244 v5252 v5254 v5742 v5762 v5764 v5767 v5778 v5934 v5936 v5937
    let ⟨v10331, v10334, v10337, v10345, v10347, v11582, v11602, v11604, v11607, v11618, v11748, v11750, v11752, c8_i32_2630⟩ : Σ' (v10331 : BitVec 32) (v10334 : FVec F S8x128 .f32) (v10337 : FVec F S8x128 .f32) (v10345 : IVec S8x128 32) (v10347 : IVec S8x128 32) (v11582 : FVec F S8x128 .f32) (v11602 : FVec F S8x128 .f32) (v11604 : FVec F S8x128 .f32) (v11607 : FVec F S8x128 .f32) (v11618 : FVec F S16x8x128 .f32) (v11748 : FVec F S8x128 .f32) (v11750 : FVec F S8x128 .f32) (v11752 : IVec S8x128 1), BitVec 32 ← k0_part429 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_t1 v138 v146 v156 v7782 v7785 v7793 v7795 v8781 v8801 v8803 v8806 v8817 v8843 v8845 v8847 v8848
    let ⟨v12875, v12878, v12886, v12888, v14616, v14621, v14641, v14643, v14646, v14657, v14659, v14664⟩ : Σ' (v12875 : FVec F S8x128 .f32) (v12878 : FVec F S8x128 .f32) (v12886 : IVec S8x128 32) (v12888 : IVec S8x128 32) (v14616 : FVec F S8x128 .f32) (v14621 : FVec F S8x128 .f32) (v14641 : FVec F S8x128 .f32) (v14643 : FVec F S8x128 .f32) (v14646 : FVec F S8x128 .f32) (v14657 : FVec F S16x8x128 .f32) (v14659 : FVec F S8x128 .f32), IVec S8x128 32 ← k0_part430 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_t1 v138 v10331 v10334 v10337 v10345 v10347 v11582 v11602 v11604 v11607 v11618 v11748 v11750 v11752 c8_i32_2630
    let ⟨v15416, v15419, v15427, v15429, v17411, v17431, v17433, v17436, v17447, v17564, v17574, v17575⟩ : Σ' (v15416 : FVec F S8x128 .f32) (v15419 : FVec F S8x128 .f32) (v15427 : IVec S8x128 32) (v15429 : IVec S8x128 32) (v17411 : FVec F S8x128 .f32) (v17431 : FVec F S8x128 .f32) (v17433 : FVec F S8x128 .f32) (v17436 : FVec F S8x128 .f32) (v17447 : FVec F S16x8x128 .f32) (v17564 : FVec F S8x128 .f32) (v17574 : FVec F S8x128 .f32), IVec S8x128 32 ← k0_part431 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_t1 v138 v10331 v12875 v12878 v12886 v12888 v14616 v14621 v14641 v14643 v14646 v14657 v14659 v14664
    let ⟨v20445, v20472, v20475⟩ : Σ' (v20445 : FVec F S8x128 .f32) (v20472 : FVec F S8x128 .f32), FVec F S8x128 .f32 ← k0_part432 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_t1 v138 v10331 v15416 v15419 v15427 v15429 v17411 v17431 v17433 v17436 v17447 v17564 v17574 v17575
    let c384_4682 : Index := 384#32
    let v20485 : Vec F S1x8x128 .f32 ← Prog.lift (.load arg17 (Rect.unit (s := S9x8x512) (k0_off49 k0_t1) S1x8x128.size (k0_off49_inb k0_t1)).toLoadRect (View.loadsAt_vmem h_S1x8x128))
    have v20486 : FVec F S8x128 .f32 := shapeCast S8x128 v20485 shapeCasts_S1x8x128_S8x128
    have v20487 : FVec F S1x8x128 .f32 := shapeCast S1x8x128 v20472 shapeCasts_S8x128_S1x8x128
    Prog.lift (.store arg17 (Rect.unit (s := S9x8x512) (k0_off49 k0_t1) S1x8x128.size (k0_off49_inb k0_t1)) v20487 Finset.univ (View.stores_vmem_bits_univ h_S1x8x128 rfl) (.inl rfl))
    let v20488 : Index := Scalar.indexCast v138
    let c0_4683 : Index := 0#32
    let c384_4684 : Index := 384#32
    let v20489 : Vec F S1x8x128 .f32 ← Prog.lift (.load arg18 (Rect.unit (s := S9x8x512) (k0_off49 k0_t1) S1x8x128.size (k0_off49_inb k0_t1)).toLoadRect (View.loadsAt_vmem h_S1x8x128))
    have v20490 : FVec F S8x128 .f32 := shapeCast S8x128 v20489 shapeCasts_S1x8x128_S8x128
    have v20491 : FVec F S1x8x128 .f32 := shapeCast S1x8x128 v20475 shapeCasts_S8x128_S1x8x128
    Prog.lift (.store arg18 (Rect.unit (s := S9x8x512) (k0_off49 k0_t1) S1x8x128.size (k0_off49_inb k0_t1)) v20491 Finset.univ (View.stores_vmem_bits_univ h_S1x8x128 rfl) (.inl rfl))
    let v20492 : Index := Scalar.indexCast v138
    let c0_4685 : Index := 0#32
    let c384_4686 : Index := 384#32
    let v20493 : Vec F S1x8x128 .f32 ← Prog.lift (.load arg19 (Rect.unit (s := S9x8x512) (k0_off49 k0_t1) S1x8x128.size (k0_off49_inb k0_t1)).toLoadRect (View.loadsAt_vmem h_S1x8x128))
    have v20494 : FVec F S8x128 .f32 := shapeCast S8x128 v20493 shapeCasts_S1x8x128_S8x128
    have v20495 : FVec F S1x8x128 .f32 := shapeCast S1x8x128 v20445 shapeCasts_S8x128_S1x8x128
    Prog.lift (.store arg19 (Rect.unit (s := S9x8x512) (k0_off49 k0_t1) S1x8x128.size (k0_off49_inb k0_t1)) v20495 Finset.univ (View.stores_vmem_bits_univ h_S1x8x128 rfl) (.inl rfl))
    pure ⟨⟩

/-- The loop's region is the pair of blocks. -/
theorem loopText_eq (i : grid0.Coords) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) (k0_t1 : Fin k0_t1_loop.trips) :
    loopText (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) (Scalar.remsi (BitVec.ofNat 32 (i 0).val) 2#32) 0#32 1#32 k0_t1 = pairBody i ⟨arg1, arg2, arg3, arg4, arg5, arg6, arg7, arg8, arg9, arg10, arg11, arg12, arg13, arg14, arg15, arg16, arg17, arg18, arg19⟩ k0_t1 :=
  eq_of_run (rfl)

/-- The printed statements of the last grid point's branch. -/
noncomputable def finText (i : grid0.Coords) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) (arg0 v3 : BitVec 32) (k0_h2 : k0_cond2 i = 1#1) : P F PUnit := do
    let v10715 : FVec F S1x8x512 .f32 ← k0_part658 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_h2
    Prog.lift (.store arg9 (Rect.unit (s := S8x8x512) ![7, 0, 0] S1x8x512.size inb_S8x8x512_S1x8x512_7_0_0) v10715 Finset.univ (View.stores_vmem_bits_univ h_S1x8x512 rfl) (.inl rfl))
    pure ⟨⟩

/-- They are the last block's fold and the results. -/
theorem finText_eq (i : grid0.Coords) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) (h : k0_cond2 i = 1#1) :
    finText (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) (Scalar.remsi (BitVec.ofNat 32 (i 0).val) 2#32) h = finBody i ⟨arg1, arg2, arg3, arg4, arg5, arg6, arg7, arg8, arg9, arg10, arg11, arg12, arg13, arg14, arg15, arg16, arg17, arg18, arg19⟩ :=
  eq_of_run (rfl)

/-- The printed statements before the loop. -/
noncomputable def headText (i : grid0.Coords) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) : P F (Σ' (_ : BitVec 32) (_ : BitVec 32) (_ : BitVec 32), BitVec 32) := do
  let ⟨arg0, v3, v38, v40⟩ : Σ' (arg0 : BitVec 32) (v3 : BitVec 32) (v38 : FVec F S128x128 .f32), Vec F S1x128x128 .f32 ← k0_part659 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
  let ⟨v82, c768_i32⟩ : Σ' (v82 : BitVec 32), BitVec 32 ← k0_part660 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v3 v38 v40
  let v127 : FVec F S1x128 .f32 ← k0_part661 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v3 v82 c768_i32
  have v128 : FVec F S128x128 .f32 := broadcastTo S128x128 v127 broadcasts_S1x128_S128x128
  have v129 : FVec F S128x128 .f32 := transpose S128x128 [1, 0] v128 transposes_S128x128_p1_0_S128x128
  let v130 : Index := Scalar.indexCast v3
  let c1152 : Index := 1152#32
  let c0_20 : Index := 0#32
  let v131 : Vec F S1x128x128 .f32 ← Prog.lift (.load arg12 (Rect.unit (s := S2x1280x128) (k0_off11 i) S1x128x128.size (k0_off11_inb i)).toLoadRect (View.loadsAt_vmem h_S1x128x128))
  have v132 : FVec F S128x128 .f32 := shapeCast S128x128 v131 shapeCasts_S1x128x128_S128x128
  have v133 : FVec F S1x128x128 .f32 := shapeCast S1x128x128 v129 shapeCasts_S128x128_S1x128x128
  Prog.lift (.store arg12 (Rect.unit (s := S2x1280x128) (k0_off11 i) S1x128x128.size (k0_off11_inb i)) v133 Finset.univ (View.stores_vmem_bits_univ h_S1x128x128 rfl) (.inl rfl))
  let c0_i32_21 : BitVec 32 := 0#32
  let c4_i32 : BitVec 32 := 4#32
  let v134 : BitVec 32 := Scalar.addi c0_i32_21 c4_i32
  let c1_i32 : BitVec 32 := 1#32
  pure ⟨arg0, v3, c0_i32_21, c1_i32⟩

/-- The condition under which the first grid point's preparation runs. -/
abbrev isFirst (i : grid0.Coords) : Prop :=
  Scalar.cmpi .ne (Scalar.extui (Scalar.cmpi .eq (BitVec.ofNat 32 (i 0).val) 0#32) : BitVec 32) 0#32 = 1#1

/-- At the first point: the preparation, then the tile's scales. -/
theorem headText_pos (i : grid0.Coords) (h : isFirst i) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) :
    headText (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 =
      (initBody ⟨arg1, arg2, arg3, arg4, arg5, arg6, arg7, arg8, arg9, arg10, arg11, arg12, arg13, arg14, arg15, arg16, arg17, arg18, arg19⟩ >>= fun _ => runAll 10 (wsStep i ⟨arg1, arg2, arg3, arg4, arg5, arg6, arg7, arg8, arg9, arg10, arg11, arg12, arg13, arg14, arg15, arg16, arg17, arg18, arg19⟩) ⟨⟩ >>= fun _ =>
        pure ⟨BitVec.ofNat 32 (i 0).val, Scalar.remsi (BitVec.ofNat 32 (i 0).val) 2#32, 0#32, 1#32⟩) := by
  unfold headText
  rw [show k0_part659 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = _ from dif_pos h]
  exact eq_of_run (rfl)

/-- At a later point: the tile's scales alone. -/
theorem headText_neg (i : grid0.Coords) (h : ¬ isFirst i) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) :
    headText (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 =
      (runAll 10 (wsStep i ⟨arg1, arg2, arg3, arg4, arg5, arg6, arg7, arg8, arg9, arg10, arg11, arg12, arg13, arg14, arg15, arg16, arg17, arg18, arg19⟩) ⟨⟩ >>= fun _ =>
        pure ⟨BitVec.ofNat 32 (i 0).val, Scalar.remsi (BitVec.ofNat 32 (i 0).val) 2#32, 0#32, 1#32⟩) := by
  unfold headText
  rw [show k0_part659 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = _ from dif_neg h]
  exact eq_of_run (rfl)

/-- The printed statements from the loop on. -/
noncomputable def restText (i : grid0.Coords) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) (arg0 v3 c0_i32_21 c1_i32 : BitVec 32) : P F PUnit := do
  Scf.Loop.for k0_t1_loop k0_t1_ok ⟨⟩ fun k0_t1 _ => loopText i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v3 c0_i32_21 c1_i32 k0_t1
  if k0_h2 : k0_cond2 i = 1#1 then do
    finText i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v3 k0_h2
  else do
    pure ⟨⟩
  pure ⟨⟩

/-- The printed body is its statements before the loop and those from the loop on. -/
theorem cc0_eq (i : grid0.Coords) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) :
    cc0_lm_head_stats (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 =
      headText i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 >>= fun v => restText i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v.1 v.2.1 v.2.2.1 v.2.2.2 := by
  unfold cc0_lm_head_stats headText
  refine Eq.trans ?_ (Prog.bind_assoc _ _ _).symm; refine bind_congr fun ⟨arg0, v3, v38, v40⟩ => ?_
  refine Eq.trans ?_ (Prog.bind_assoc _ _ _).symm; refine bind_congr fun ⟨v82, c768⟩ => ?_
  refine Eq.trans ?_ (Prog.bind_assoc _ _ _).symm; refine bind_congr fun v127 => ?_
  refine Eq.trans ?_ (Prog.bind_assoc _ _ _).symm; refine bind_congr fun v131 => ?_
  refine Eq.trans ?_ (Prog.bind_assoc _ _ _).symm; refine bind_congr fun _ => ?_
  unfold restText
  refine bind_congr fun _ => ?_
  by_cases h : k0_cond2 i = 1#1
  · refine (dif_pos h).trans (Eq.trans ?_ (dif_pos h).symm)
    unfold finText
    refine Eq.trans ?_ (Prog.bind_assoc _ _ _).symm; refine bind_congr fun v => ?_
    refine Eq.trans ?_ (Prog.bind_assoc _ _ _).symm; refine bind_congr fun _ => ?_
    rfl
  · refine (dif_neg h).trans (Eq.trans ?_ (dif_neg h).symm)
    rfl

/-- From the loop on: the four pairs, then at the last point the last fold and the results. -/
theorem restText_eq (i : grid0.Coords) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) :
    restText (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) (Scalar.remsi (BitVec.ofNat 32 (i 0).val) 2#32) 0#32 1#32 = (do
      Scf.Loop.for k0_t1_loop k0_t1_ok ⟨⟩ fun t _ => pairBody i ⟨arg1, arg2, arg3, arg4, arg5, arg6, arg7, arg8, arg9, arg10, arg11, arg12, arg13, arg14, arg15, arg16, arg17, arg18, arg19⟩ t
      if _h : k0_cond2 i = 1#1 then do
        finBody i ⟨arg1, arg2, arg3, arg4, arg5, arg6, arg7, arg8, arg9, arg10, arg11, arg12, arg13, arg14, arg15, arg16, arg17, arg18, arg19⟩
      else do
        pure ⟨⟩
      pure ⟨⟩) := by
  unfold restText
  simp only [loopText_eq, finText_eq]

/-- The printed body at grid point `i` is the short program over the same buffers. -/
theorem printed (i : grid0.Coords) (arg1 : Memref sig .tc .vmem S8x512x4096 .fp8e4m3) (harg1 : arg1.IsWhole) (arg2 : Memref sig .tc .vmem S8x512 .f32) (harg2 : arg2.IsWhole) (arg3 : Memref sig .tc .vmem S1280x4096 .fp8e4m3) (harg3 : arg3.IsWhole) (arg4 : Memref sig .tc .vmem S32000 .f32) (harg4 : arg4.IsWhole) (arg5 : Memref sig .tc .vmem S8x8x512 .i32) (harg5 : arg5.IsWhole) (arg6 : Memref sig .tc .vmem S8x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S8x8x512 .f32) (harg9 : arg9.IsWhole) (arg10 : Memref sig .tc .vmem S1280x512 .f32) (harg10 : arg10.IsWhole) (arg11 : Memref sig .tc .vmem S1280x512 .f32) (harg11 : arg11.IsWhole) (arg12 : Memref sig .tc .vmem S2x1280x128 .f32) (harg12 : arg12.IsWhole) (arg13 : Memref sig .tc .vmem S8x8x512 .f32) (harg13 : arg13.IsWhole) (arg14 : Memref sig .tc .vmem S8x8x512 .f32) (harg14 : arg14.IsWhole) (arg15 : Memref sig .tc .vmem S9x8x512 .f32) (harg15 : arg15.IsWhole) (arg16 : Memref sig .tc .vmem S9x8x512 .f32) (harg16 : arg16.IsWhole) (arg17 : Memref sig .tc .vmem S9x8x512 .f32) (harg17 : arg17.IsWhole) (arg18 : Memref sig .tc .vmem S9x8x512 .f32) (harg18 : arg18.IsWhole) (arg19 : Memref sig .tc .vmem S9x8x512 .f32) (harg19 : arg19.IsWhole) :
    cc0_lm_head_stats (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 = body i ⟨arg1, arg2, arg3, arg4, arg5, arg6, arg7, arg8, arg9, arg10, arg11, arg12, arg13, arg14, arg15, arg16, arg17, arg18, arg19⟩ := by
  rw [cc0_eq]
  unfold body
  by_cases h : isFirst i
  · rw [headText_pos i h, dif_pos h, bind_assoc, bind_assoc]
    refine congrArg (Bind.bind _) (funext fun _ => ?_)
    refine congrArg (Bind.bind _) (funext fun _ => ?_)
    exact restText_eq ..
  · rw [headText_neg i h, dif_neg h, bind_assoc]
    refine congrArg (Bind.bind _) (funext fun _ => ?_)
    exact restText_eq ..

end Cert.Kernel.Body

end
-- ==== Proof.Twin.Frame.lean ====
/-
  The kernel's frame, at any values: @main terminates with nothing faulting, its arguments unchanged, every counter at zero.

  The pipeline's proof data keeps each input's block and names nothing of the three results; the body obligation is
  `fr_body` (Inputs.lean), the 19 buffers gathered from the windows' staging buffers and the scratch (`Own_eq`).
-/
module

public import proofs.«01_k».proof.Proof.Twin.Inputs
public import proofs.«01_k».proof.Proof.Twin.Printed

@[expose] public section

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Kernel.Gen

variable {F : FTy → Type} [FloatOps F]

local notation "𝕄" => MT nD τ sig Unit (Elt F) ℕ (UR sig nD τ) ℕ

/-! ## The buffers the pipeline calls the body on -/

/-- The windows' staging buffers at point `t`, and the scratch. -/
abbrev Bt (t : Fin cfg0.N) : Bufs :=
  ⟨st0_0 t, st0_1 t, st0_2 t, st0_3 t, st0_4 t, st0_5 t, st0_6 t, st0_7 t, st0_8 t,
    Memref.whole cc0_scratch0, Memref.whole cc0_scratch1, Memref.whole cc0_scratch2, Memref.whole cc0_scratch3,
    Memref.whole cc0_scratch4, Memref.whole cc0_scratch5, Memref.whole cc0_scratch6, Memref.whole cc0_scratch7,
    Memref.whole cc0_scratch8, Memref.whole cc0_scratch9⟩

/-- The scratch buffers owned at the contents `σ`. -/
def Scr (c : Dev nD) (σ : St F) : sProp 𝕄 :=
  iprop(owns (c : Thread nD τ) (Memref.whole cc0_scratch0) fullShare (σ .accA)
    ∗ owns (c : Thread nD τ) (Memref.whole cc0_scratch1) fullShare (σ .accB)
    ∗ owns (c : Thread nD τ) (Memref.whole cc0_scratch2) fullShare (σ .wsb)
    ∗ owns (c : Thread nD τ) (Memref.whole cc0_scratch3) fullShare (σ .xss)
    ∗ owns (c : Thread nD τ) (Memref.whole cc0_scratch4) fullShare (σ .tcs)
    ∗ owns (c : Thread nD τ) (Memref.whole cc0_scratch5) fullShare (σ .m)
    ∗ owns (c : Thread nD τ) (Memref.whole cc0_scratch6) fullShare (σ .s0)
    ∗ owns (c : Thread nD τ) (Memref.whole cc0_scratch7) fullShare (σ .s1)
    ∗ owns (c : Thread nD τ) (Memref.whole cc0_scratch8) fullShare (σ .s2)
    ∗ owns (c : Thread nD τ) (Memref.whole cc0_scratch9) fullShare (σ .tg))

/-- The windows' staging buffers at point `t` owned at the contents `σ`. -/
def Win (c : Dev nD) (t : Fin cfg0.N) (σ : St F) : sProp 𝕄 :=
  iprop(owns (c : Thread nD τ) (st0_0 t) fullShare (σ .x)
    ∗ owns (c : Thread nD τ) (st0_1 t) fullShare (σ .xs)
    ∗ owns (c : Thread nD τ) (st0_2 t) fullShare (σ .w)
    ∗ owns (c : Thread nD τ) (st0_3 t) fullShare (σ .ws)
    ∗ owns (c : Thread nD τ) (st0_4 t) fullShare (σ .tgt)
    ∗ owns (c : Thread nD τ) (st0_5 t) fullShare (σ .temp)
    ∗ owns (c : Thread nD τ) (st0_6 t) fullShare (σ .ent)
    ∗ owns (c : Thread nD τ) (st0_7 t) fullShare (σ .var)
    ∗ owns (c : Thread nD τ) (st0_8 t) fullShare (σ .lp))

/-- All 19 buffers, one after the other. -/
theorem Own_chain (c : Dev nD) (B : Bufs) (σ : St F) : Own c B σ = iprop(
    owns (c : Thread nD τ) (B.at .x) fullShare (σ .x) ∗ owns (c : Thread nD τ) (B.at .xs) fullShare (σ .xs)
    ∗ owns (c : Thread nD τ) (B.at .w) fullShare (σ .w) ∗ owns (c : Thread nD τ) (B.at .ws) fullShare (σ .ws)
    ∗ owns (c : Thread nD τ) (B.at .tgt) fullShare (σ .tgt) ∗ owns (c : Thread nD τ) (B.at .temp) fullShare (σ .temp)
    ∗ owns (c : Thread nD τ) (B.at .ent) fullShare (σ .ent) ∗ owns (c : Thread nD τ) (B.at .var) fullShare (σ .var)
    ∗ owns (c : Thread nD τ) (B.at .lp) fullShare (σ .lp) ∗ owns (c : Thread nD τ) (B.at .accA) fullShare (σ .accA)
    ∗ owns (c : Thread nD τ) (B.at .accB) fullShare (σ .accB) ∗ owns (c : Thread nD τ) (B.at .wsb) fullShare (σ .wsb)
    ∗ owns (c : Thread nD τ) (B.at .xss) fullShare (σ .xss) ∗ owns (c : Thread nD τ) (B.at .tcs) fullShare (σ .tcs)
    ∗ owns (c : Thread nD τ) (B.at .m) fullShare (σ .m) ∗ owns (c : Thread nD τ) (B.at .s0) fullShare (σ .s0)
    ∗ owns (c : Thread nD τ) (B.at .s1) fullShare (σ .s1) ∗ owns (c : Thread nD τ) (B.at .s2) fullShare (σ .s2)
    ∗ owns (c : Thread nD τ) (B.at .tg) fullShare (σ .tg)) :=
  bigSep_univ_eq_bigSepL [Nm.x, .xs, .w, .ws, .tgt, .temp, .ent, .var, .lp, .accA, .accB, .wsb, .xss, .tcs, .m, .s0, .s1, .s2, .tg]
    (by decide) (by decide) _

/-- The windows and the scratch, together. -/
theorem Own_in (c : Dev nD) (t : Fin cfg0.N) (σ : St F) : iprop(Win c t σ ∗ Scr c σ) ⊢ Own c (Bt t) σ := by
  rw [Own_chain]
  unfold Win Scr
  iintro ⟨⟨H0, H1, H2, H3, H4, H5, H6, H7, H8⟩, S0, S1, S2, S3, S4, S5, S6, S7, S8, S9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact S9

/-- The windows and the scratch, apart. -/
theorem Own_out (c : Dev nD) (t : Fin cfg0.N) (σ : St F) : Own c (Bt t) σ ⊢ iprop(Win c t σ ∗ Scr c σ) := by
  rw [Own_chain]
  unfold Win Scr
  iintro ⟨H0, H1, H2, H3, H4, H5, H6, H7, H8, S0, S1, S2, S3, S4, S5, S6, S7, S8, S9⟩
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact S9

/-- Contents given one by one. -/
def St.mk (x : Nm.x.sh.Idx → Elt F Nm.x.el) (xs : Nm.xs.sh.Idx → Elt F Nm.xs.el) (w : Nm.w.sh.Idx → Elt F Nm.w.el) (ws : Nm.ws.sh.Idx → Elt F Nm.ws.el) (tgt : Nm.tgt.sh.Idx → Elt F Nm.tgt.el) (temp : Nm.temp.sh.Idx → Elt F Nm.temp.el) (ent : Nm.ent.sh.Idx → Elt F Nm.ent.el) (var : Nm.var.sh.Idx → Elt F Nm.var.el) (lp : Nm.lp.sh.Idx → Elt F Nm.lp.el) (accA : Nm.accA.sh.Idx → Elt F Nm.accA.el) (accB : Nm.accB.sh.Idx → Elt F Nm.accB.el) (wsb : Nm.wsb.sh.Idx → Elt F Nm.wsb.el) (xss : Nm.xss.sh.Idx → Elt F Nm.xss.el) (tcs : Nm.tcs.sh.Idx → Elt F Nm.tcs.el) (m : Nm.m.sh.Idx → Elt F Nm.m.el) (s0 : Nm.s0.sh.Idx → Elt F Nm.s0.el) (s1 : Nm.s1.sh.Idx → Elt F Nm.s1.el) (s2 : Nm.s2.sh.Idx → Elt F Nm.s2.el) (tg : Nm.tg.sh.Idx → Elt F Nm.tg.el) : St F
  | .x => x
  | .xs => xs
  | .w => w
  | .ws => ws
  | .tgt => tgt
  | .temp => temp
  | .ent => ent
  | .var => var
  | .lp => lp
  | .accA => accA
  | .accB => accB
  | .wsb => wsb
  | .xss => xss
  | .tcs => tcs
  | .m => m
  | .s0 => s0
  | .s1 => s1
  | .s2 => s2
  | .tg => tg

/-- The scratch at some contents is what the region keeps aside for it. -/
theorem scr_in (c : Dev nD) : (Pipeline.scopedRest (Ix := Unit) (Name := ℕ) (U := UR sig nD τ) (Lvl := ℕ) (Val := Elt F) spec0 c : sProp 𝕄)
    ⊢ iprop(∃ σ : St F, Scr c σ) := by
  rw [scopedRest0_eq]
  unfold Scr
  simp only [owns_whole]
  iintro ⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩
  iexists St.mk (fun _ => Classical.choice (Elt.nonempty F _)) (fun _ => Classical.choice (Elt.nonempty F _)) (fun _ => Classical.choice (Elt.nonempty F _)) (fun _ => Classical.choice (Elt.nonempty F _)) (fun _ => Classical.choice (Elt.nonempty F _)) (fun _ => Classical.choice (Elt.nonempty F _)) (fun _ => Classical.choice (Elt.nonempty F _)) (fun _ => Classical.choice (Elt.nonempty F _)) (fun _ => Classical.choice (Elt.nonempty F _)) f0 f1 f2 f3 f4 f5 f6 f7 f8 f9
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact S9

/-- And back. -/
theorem scr_out (c : Dev nD) : iprop(∃ σ : St F, Scr c σ)
    ⊢ (Pipeline.scopedRest (Ix := Unit) (Name := ℕ) (U := UR sig nD τ) (Lvl := ℕ) (Val := Elt F) spec0 c : sProp 𝕄) := by
  rw [scopedRest0_eq]
  unfold Scr
  simp only [owns_whole]
  iintro ⟨%σ, S0, S1, S2, S3, S4, S5, S6, S7, S8, S9⟩
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  isplitl [S8]; · iexists _; iexact S8
  iexists _; iexact S9

/-- What a run of the body gives with resources kept aside. -/
theorem W.use {c : Dev nD} {B : Bufs} {α : Type} {p : P F α} {σ : St F} {Q : α → St F → Prop} (h : W c B p σ Q) {K : α → sProp 𝕄} (R : sProp 𝕄)
    (hk : ∀ a σ', Q a σ' → iprop(Own c B σ' ∗ R) ⊢ K a) :
    iprop(Own c B σ ∗ R) ⊢ wp frame (wpE defs₀ Variants.none (c : Thread nD τ) none) Set.univ p K := by
  refine BIBase.Entails.trans (Q := iprop(wp frame (wpE defs₀ Variants.none (c : Thread nD τ) none) Set.univ p
    (fun a => iprop(∃ σ', ⌜Q a σ'⌝ ∗ Own c B σ')) ∗ R)) ?_ ((wp_frame_r _ _ _).trans (wp_mono _ _ _ fun a => ?_))
  rotate_left 1
  · iintro ⟨⟨%σ', %hq, H⟩, HR⟩
    ihave HH := (hk a σ' hq) $$ [H HR]
    · isplitl [H]
      · iexact H
      · iexact HR
    iexact HH
  · iintro ⟨H, HR⟩
    ihave HW := (show Own c B σ ⊢ _ from h) $$ H
    isplitl [HW]
    · iexact HW
    · iexact HR

/-! ## The pipeline's proof data: the inputs' blocks, nothing of the results -/

section frame

variable (m : (ℓ : Loc nD τ sig) → Buf (Elt F) ℓ) (ρ : Dev nD → PrngReg)

/-- The windows whose contents the frame does not name: the three results. -/
def fgt0 : Fin cfg0.W → Bool
  | ⟨6, _⟩ => true | ⟨7, _⟩ => true | ⟨8, _⟩ => true | _ => false

/-- The proof data: the arrays as the region finds them, each input's buffer left at its block. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Dat.unnamed (cfg := cfg0) 6 t
    | ⟨7, _⟩ => Dat.unnamed (cfg := cfg0) 7 t
    | ⟨8, _⟩ => Dat.unnamed (cfg := cfg0) 8 t
  Φ _ := Pipeline.ΦA spec0 c
  q _ := fullShare
  owed _ := 0

theorem A_eqF (c : Dev nD) (w : Fin cfg0.W) : (datsF m 0 c).A w = V m c (Pipeline.arrRef spec0 w) := by
  dsimp only [datsF]

theorem afterF_0 (c : Dev nD) (t : Fin cfg0.N) : (datsF m 0 c).after 0 t = iblk m c 0 t := by dsimp only [datsF]
theorem afterF_1 (c : Dev nD) (t : Fin cfg0.N) : (datsF m 0 c).after 1 t = iblk m c 1 t := by dsimp only [datsF]
theorem afterF_2 (c : Dev nD) (t : Fin cfg0.N) : (datsF m 0 c).after 2 t = iblk m c 2 t := by dsimp only [datsF]
theorem afterF_3 (c : Dev nD) (t : Fin cfg0.N) : (datsF m 0 c).after 3 t = iblk m c 3 t := by dsimp only [datsF]
theorem afterF_4 (c : Dev nD) (t : Fin cfg0.N) : (datsF m 0 c).after 4 t = iblk m c 4 t := by dsimp only [datsF]
theorem afterF_5 (c : Dev nD) (t : Fin cfg0.N) : (datsF m 0 c).after 5 t = iblk m c 5 t := by dsimp only [datsF]

theorem beforeF_0 (c : Dev nD) (t : Fin cfg0.N) (d) : (datsF m 0 c).before 0 t d = iblk m c 0 t :=
  before0_0_of m (datsF m 0 c) (A_eqF m c 0) (afterF_0 m c) t d
theorem beforeF_1 (c : Dev nD) (t : Fin cfg0.N) (d) : (datsF m 0 c).before 1 t d = iblk m c 1 t :=
  before0_1_of m (datsF m 0 c) (A_eqF m c 1) (afterF_1 m c) t d
theorem beforeF_2 (c : Dev nD) (t : Fin cfg0.N) (d) : (datsF m 0 c).before 2 t d = iblk m c 2 t :=
  before0_2_of m (datsF m 0 c) (A_eqF m c 2) (afterF_2 m c) t d
theorem beforeF_3 (c : Dev nD) (t : Fin cfg0.N) (d) : (datsF m 0 c).before 3 t d = iblk m c 3 t :=
  before0_3_of m (datsF m 0 c) (A_eqF m c 3) (afterF_3 m c) t d
theorem beforeF_4 (c : Dev nD) (t : Fin cfg0.N) (d) : (datsF m 0 c).before 4 t d = iblk m c 4 t :=
  before0_4_of m (datsF m 0 c) (A_eqF m c 4) (afterF_4 m c) t d
theorem beforeF_5 (c : Dev nD) (t : Fin cfg0.N) (d) : (datsF m 0 c).before 5 t d = iblk m c 5 t :=
  before0_5_of m (datsF m 0 c) (A_eqF m c 5) (afterF_5 m c) t d

/-- What the body is called with at point `t`, the windows one by one, -/
def preF (c : Dev nD) (t : Fin cfg0.N) : sProp 𝕄 :=
  iprop((datsF m 0 c).Φ t.castSucc ∗ (datsF m 0 c).owesAt () t.castSucc
    ∗ (∃ d, owns (c : Thread nD τ) (st0_0 t) fullShare ((datsF m 0 c).before 0 t d))
    ∗ (∃ d, owns (c : Thread nD τ) (st0_1 t) fullShare ((datsF m 0 c).before 1 t d))
    ∗ (∃ d, owns (c : Thread nD τ) (st0_2 t) fullShare ((datsF m 0 c).before 2 t d))
    ∗ (∃ d, owns (c : Thread nD τ) (st0_3 t) fullShare ((datsF m 0 c).before 3 t d))
    ∗ (∃ d, owns (c : Thread nD τ) (st0_4 t) fullShare ((datsF m 0 c).before 4 t d))
    ∗ (∃ d, owns (c : Thread nD τ) (st0_5 t) fullShare ((datsF m 0 c).before 5 t d))
    ∗ (∃ X, owns (c : Thread nD τ) (st0_6 t) fullShare X)
    ∗ (∃ X, owns (c : Thread nD τ) (st0_7 t) fullShare X)
    ∗ (∃ X, owns (c : Thread nD τ) (st0_8 t) fullShare X))

/-- and what it returns. -/
def postF (c : Dev nD) (t : Fin cfg0.N) : sProp 𝕄 :=
  iprop((datsF m 0 c).Φ t.succ ∗ (datsF m 0 c).owesAt () t.succ
    ∗ owns (c : Thread nD τ) (st0_0 t) fullShare ((datsF m 0 c).after 0 t)
    ∗ owns (c : Thread nD τ) (st0_1 t) fullShare ((datsF m 0 c).after 1 t)
    ∗ owns (c : Thread nD τ) (st0_2 t) fullShare ((datsF m 0 c).after 2 t)
    ∗ owns (c : Thread nD τ) (st0_3 t) fullShare ((datsF m 0 c).after 3 t)
    ∗ owns (c : Thread nD τ) (st0_4 t) fullShare ((datsF m 0 c).after 4 t)
    ∗ owns (c : Thread nD τ) (st0_5 t) fullShare ((datsF m 0 c).after 5 t)
    ∗ (∃ X, owns (c : Thread nD τ) (st0_6 t) fullShare X)
    ∗ (∃ X, owns (c : Thread nD τ) (st0_7 t) fullShare X)
    ∗ (∃ X, owns (c : Thread nD τ) (st0_8 t) fullShare X))

/-- The body at any point: the inputs' buffers hold their blocks, and the body leaves them there. -/
theorem sound_bodyF (c : Dev nD) (t : Fin cfg0.N) :
    preF m c t ⊢ wp frame (wpE (defs₀ (F := F)) Variants.none c none) Set.univ (body (grid0.coords t) (Bt t)) (fun _ => postF m c t) := by
  unfold preF postF
  simp only [beforeF_0, beforeF_1, beforeF_2, beforeF_3, beforeF_4, beforeF_5]
  rw [show (datsF m 0 c).Φ t.succ = Pipeline.ΦA spec0 c from rfl, show (datsF m 0 c).Φ t.castSucc = Pipeline.ΦA spec0 c from rfl,
    show (datsF m 0 c).owesAt () t.succ = (datsF m 0 c).owesAt () t.castSucc from rfl,
    afterF_0, afterF_1, afterF_2, afterF_3, afterF_4, afterF_5]
  unfold Pipeline.ΦA
  iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HS := (scr_in c) $$ HS
  icases HS with ⟨%σ, HS⟩
  iapply (W.use (fr_body (grid0.coords t) (St.mk (iblk m c 0 t) (iblk m c 1 t) (iblk m c 2 t) (iblk m c 3 t) (iblk m c 4 t) (iblk m c 5 t) d6 d7 d8 (σ .accA) (σ .accB) (σ .wsb) (σ .xss) (σ .tcs) (σ .m) (σ .s0) (σ .s1) (σ .s2) (σ .tg)))
    iprop((∃ r, prngReg c r) ∗ (datsF m 0 c).owesAt () t.castSucc) fun _ σ' hσ' => ?_)
  rotate_left 1
  · isplitl [HS H0 H1 H2 H3 H4 H5 H6 H7 H8]
    · iapply (Own_in c t _)
      isplitl [H0 H1 H2 H3 H4 H5 H6 H7 H8]
      · unfold Win
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · iexact HS
    · isplitl [Hr]
      · iexact Hr
      · iexact Ho
  · iintro ⟨H, Hr, Ho⟩
    ihave H := (Own_out c t σ') $$ H
    unfold Win
    icases H with ⟨⟨H0, H1, H2, H3, H4, H5, H6, H7, H8⟩, HS⟩
    isplitl [HS Hr]
    · isplitl [HS]
      · iapply (scr_out c)
        iexists σ'
        iexact HS
      · iexact Hr
    isplitl [Ho]; · iexact Ho
    isplitl [H0]; · rw [← show σ' .x = iblk m c 0 t from hσ' .x rfl]; iexact H0
    isplitl [H1]; · rw [← show σ' .xs = iblk m c 1 t from hσ' .xs rfl]; iexact H1
    isplitl [H2]; · rw [← show σ' .w = iblk m c 2 t from hσ' .w rfl]; iexact H2
    isplitl [H3]; · rw [← show σ' .ws = iblk m c 3 t from hσ' .ws rfl]; iexact H3
    isplitl [H4]; · rw [← show σ' .tgt = iblk m c 4 t from hσ' .tgt rfl]; iexact H4
    isplitl [H5]; · rw [← show σ' .temp = iblk m c 5 t from hσ' .temp rfl]; iexact H5
    isplitl [H6]; · iexists _; iexact H6
    isplitl [H7]; · iexists _; iexact H7
    iexists _; iexact H8

/-- The body table's row at point `t`'s slots is the body. -/
theorem row0 (t : Fin cfg0.N) :
    defs₀ (F := F) .tc cfg0.body (cfg0.bodyArgs t (cfg0.slots t)) = body (grid0.coords t) (Bt t) := by
  have h : defs₀ (F := F) .tc cfg0.body (cfg0.bodyArgs t (cfg0.slots t)) = bodyAt0 t := by unfold defs₀; rw [Defs.onTc_tc]
  rw [h]
  unfold bodyAt0
  rw [printed]

/-- The library's body obligation, at every point. -/
theorem body_obligationF (c : Dev nD) : BodyObligationLoose (datsF (F := F) m 0 c) (defs₀ (F := F)) Variants.none () Set.univ fgt0 := fun t => by
  rw [bigSep_W0, bigSep_W0, row0]
  exact triple_restated (sound_bodyF m c t) rfl .rfl fun _ => .rfl

/-- The buffers the lines after the region write. -/
def T0 : Finset (Ref sig .tc) := {main_v3, main_v4}

/-- They write no other. -/
theorem hT0 : ∀ ops ∈ ([hostOps1] : List (List (HloOp τ sig (Elt F)))), ∀ op ∈ ops, ∀ b : Ref sig .tc,
    Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  unfold T0
  rcases hop with rfl | rfl <;> simp only [StableHlo.unary_writes, Finset.mem_singleton] at hb <;>
    simp only [Finset.mem_insert, Finset.mem_singleton]
  · exact .inl (by_contra fun h => StableHlo.devRef_ne_of_ne h hb)
  · exact .inr (by_contra fun h => StableHlo.devRef_ne_of_ne h hb)

set_option backward.isDefEq.respectTransparency.types false in
set_option maxHeartbeats 800000 in
/-- The launch: every input ends as it began, and every semaphore counter at zero. -/
theorem run_mainF : θ_run defs (onTc (τ := τ) (main (F := F))) (s₀ m ρ)
    (fun r => Pipeline.RDat.FramePostR (cfgs 0) (fun c => (datsF m 0 c).toRForget fgt0) T0 (V m) r ∧ r.2.sem = fun _ => 0) :=
  Pipeline.θ_run_frame_around_T_forget (Q' := _) cfgs (datsF m) (0 : Fin 1) launch0 defs₀ Variants.none fgt0 T0 m ρ main
    (hbody := body_obligationF m) (hshare := fun c => (datsF m 0 c).share_full fun _ => rfl)
    (howed := fun _ _ => rfl) (V₀ := V0 m) (opss := [hostOps1]) (hsub := sfx_sub) (hfresh := sfx_fresh) (hkeep := sfx_keeps)
    (hT := hT0) (hmain := hmain m Variants.none) (hA := A_eqF m) (hΦ := fun _ _ => rfl)

/-- The kernel's frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c =>
    ⟨(Pipeline.RDat.FramePostR.arr_in h.1 c 0 rfl).trans ((A_eqF m c 0).trans (V_main_arg0 m c)), (Pipeline.RDat.FramePostR.arr_in h.1 c 1 rfl).trans ((A_eqF m c 1).trans (V_main_arg1 m c)), (Pipeline.RDat.FramePostR.arr_in h.1 c 2 rfl).trans ((A_eqF m c 2).trans (V_main_arg2 m c)), (Pipeline.RDat.FramePostR.arr_in h.1 c 3 rfl).trans ((A_eqF m c 3).trans (V_main_arg3 m c)),
      ((h.1 c).2 main_arg4 (Finset.mem_sdiff.mpr ⟨Pipeline.mem_restRefs_of main_arg4 (by decide) (by decide), by decide⟩)).trans (V_main_arg4 m c),
      (Pipeline.RDat.FramePostR.arr_in h.1 c 5 rfl).trans ((A_eqF m c 5).trans (V_main_arg5 m c))⟩, h.2⟩) (run_mainF m ρ)

end frame

end Cert.Kernel.Body

end
-- ==== Proof.lean ====
/-
  The proof of `Cert.Claim` (Defs.lean).

  The kernel's frame is proved once for the program as printed (Proof/Twin) and once for its idealization (Proof), by
  the same modules: `Body` writes the body as recursions, `Printed` states that the printed text is that body, `State`
  gives rules for running it on the contents of its buffers, `Inputs` shows that it leaves its inputs alone, `Frame`
  launches it. The reference's frame is generated. Each named constant of the idealization rounds to the printed word.

  The algebraic claim, kernel side: `Lane`, `Words`, `Fold` say what one lane's statistics are over the extended reals,
  `Strip`, `Epilogue`, `Prep`, `Start`, `Point` follow the body through one grid point, `Softmax` is the mathematics of
  the statistics, `Finish`, `Whole` read the results off at the last point, and `Run`, `Arrays`, `Results` give the
  values the launched kernel ends with. Reference side: `Product` is its matrix product, `Scores` its log-softmax,
  `Moments` its entropy and varentropy, `Take` its lookup of the targets. `Algebraic` puts the two side by side.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Frame
public import proofs.«01_k».proof.Proof.Algebraic
public import proofs.«01_k».proof.Proof.Twin.Frame
public import Idealize.ShloMosaic.Adequacy
public import Idealize.ShloMosaic.Init

@[expose] public section

noncomputable section

namespace Cert.Proof

open Idealize.ShloMosaic Idealize.ShloMosaic.TcCoe Idealize.SL.Sem

/-- Each constant the idealization names stands for the real number its entry gives. -/
theorem preserves : preserves_Kernel_KernelIdeal :=
  ⟨IdealRules.named_const.statement Cert.KernelIdeal.κ "softcap_log2e" .f32 0x422D1F97#32 _ rfl,
    IdealRules.named_const.statement Cert.KernelIdeal.κ "ln2" .f32 0x3F317218#32 _ rfl,
    IdealRules.named_const.statement Cert.KernelIdeal.κ "ln2_sq" .f32 0x3EF5FDF0#32 _ rfl⟩

/-- The side conditions the precondition states. -/
theorem preFacts : Cert.Pre_valid.Facts where
  bcast_S_S8x512x7 := by decide
  bcast_S_S8x512 := by decide
  bcast_S8x512_S8x512x1_0_1 := by decide
  bcast_S8x512x1_S8x512x7_0_1_2 := by decide

/-- The claims of Defs.lean. -/
theorem claim : Cert.Claim :=
  ⟨Cert.Kernel.Gen.facts, Cert.KernelIdeal.Gen.facts, Cert.ReferenceIdeal.Gen.facts, preFacts,
    fun m ρ _ => Cert.Kernel.Body.frame m ρ,
    fun m ρ _ => Cert.KernelIdeal.Body.frame m ρ,
    fun m ρ _ => Cert.KernelIdeal.Body.frame m ρ,
    fun m ρ _ => Cert.ReferenceIdeal.Gen.frame m ρ,
    fun m ρ _ => Cert.ReferenceIdeal.Gen.frame m ρ,
    preserves, algebraic (hPre := preFacts)⟩

end Cert.Proof

end
